-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v125_0)) (v1 : (c : Dev Cert.KernelIdeal.nD) → Buf (Elt Ideal) ((c.tc : Thread Cert.KernelIdeal.nD Cert.KernelIdeal.τ).loc Cert.KernelIdeal.main_v125_1)) (v2 : (c : Dev Cert.KernelIdeal.nD) → Buf (Elt Ideal) ((c.tc : Thread Cert.KernelIdeal.nD Cert.KernelIdeal.τ).loc Cert.KernelIdeal.main_v125_2)) (v3 : (c : Dev Cert.KernelIdeal.nD) → Buf (Elt Ideal) ((c.tc : Thread Cert.KernelIdeal.nD Cert.KernelIdeal.τ).loc Cert.KernelIdeal.main_v125_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125_0) = v0 c
          ∧ r.2.mem ((c.tc : Thread Cert.KernelIdeal.nD Cert.KernelIdeal.τ).loc Cert.KernelIdeal.main_v125_1) = v1 c
          ∧ r.2.mem ((c.tc : Thread Cert.KernelIdeal.nD Cert.KernelIdeal.τ).loc Cert.KernelIdeal.main_v125_2) = v2 c
          ∧ r.2.mem ((c.tc : Thread Cert.KernelIdeal.nD Cert.KernelIdeal.τ).loc Cert.KernelIdeal.main_v125_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)) (v4 : (c : Dev Cert.Kernel3Ideal.nD) → Buf (Elt Ideal) ((c.tc : Thread Cert.Kernel3Ideal.nD Cert.Kernel3Ideal.τ).loc Cert.Kernel3Ideal.main_v17_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_v17_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v100) = v0 c
          ∧ r.2.mem ((c.tc : Thread Cert.Reference3Ideal.nD Cert.Reference3Ideal.τ).loc Cert.Reference3Ideal.main_v87) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_v95) = v3 c
          ∧ r.2.mem ((c.tc : Thread Cert.Reference3Ideal.nD Cert.Reference3Ideal.τ).loc Cert.Reference3Ideal.main_v99) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4096x192 : Shape := ⟨2, ![4096, 192]⟩
abbrev S1x12288 : Shape := ⟨2, ![1, 12288]⟩
abbrev S1x768 : Shape := ⟨2, ![1, 768]⟩
abbrev S4x38x192 : Shape := ⟨3, ![4, 38, 192]⟩
abbrev S4x192x6 : Shape := ⟨3, ![4, 192, 6]⟩
abbrev S4x192 : Shape := ⟨2, ![4, 192]⟩
abbrev S64x64x1x192 : Shape := ⟨4, ![64, 64, 1, 192]⟩
abbrev S4x192x16 : Shape := ⟨3, ![4, 192, 16]⟩
abbrev S4x16x192 : Shape := ⟨3, ![4, 16, 192]⟩
abbrev S1x16x192 : Shape := ⟨3, ![1, 16, 192]⟩
abbrev S16x192 : Shape := ⟨2, ![16, 192]⟩
abbrev S2x16x192 : Shape := ⟨3, ![2, 16, 192]⟩
abbrev S1x2x16x192 : Shape := ⟨4, ![1, 2, 16, 192]⟩
abbrev S2x2x16x192 : Shape := ⟨4, ![2, 2, 16, 192]⟩
abbrev S1x192 : Shape := ⟨2, ![1, 192]⟩
abbrev S192 : Shape := ⟨1, ![192]⟩
abbrev S2x192 : Shape := ⟨2, ![2, 192]⟩
abbrev S1x2x192 : Shape := ⟨3, ![1, 2, 192]⟩
abbrev S2x2x192 : Shape := ⟨3, ![2, 2, 192]⟩
abbrev S1x38x192 : Shape := ⟨3, ![1, 38, 192]⟩
abbrev S38x192 : Shape := ⟨2, ![38, 192]⟩
abbrev S76x192 : Shape := ⟨2, ![76, 192]⟩
abbrev S1x76x192 : Shape := ⟨3, ![1, 76, 192]⟩
abbrev S2x76x192 : Shape := ⟨3, ![2, 76, 192]⟩
abbrev S_ : Shape := ⟨0, ![]⟩
abbrev S6x192 : Shape := ⟨2, ![6, 192]⟩
abbrev S1x192x6 : Shape := ⟨3, ![1, 192, 6]⟩
abbrev S192x6 : Shape := ⟨2, ![192, 6]⟩
abbrev S6x384 : Shape := ⟨2, ![6, 384]⟩
abbrev S12x384 : Shape := ⟨2, ![12, 384]⟩
abbrev S1x12x384 : Shape := ⟨3, ![1, 12, 384]⟩
abbrev S2x12x384 : Shape := ⟨3, ![2, 12, 384]⟩
abbrev S384 : Shape := ⟨1, ![384]⟩
abbrev S1x384 : Shape := ⟨2, ![1, 384]⟩
abbrev S1x1x384 : Shape := ⟨3, ![1, 1, 384]⟩
abbrev S2x1x384 : Shape := ⟨3, ![2, 1, 384]⟩
abbrev S2048 : Shape := ⟨1, ![2048]⟩
abbrev S2048x1 : Shape := ⟨2, ![2048, 1]⟩
abbrev S32 : Shape := ⟨1, ![32]⟩
abbrev S1x32 : Shape := ⟨2, ![1, 32]⟩
abbrev S2048x32 : Shape := ⟨2, ![2048, 32]⟩
abbrev S32x1 : Shape := ⟨2, ![32, 1]⟩
abbrev S32x384 : Shape := ⟨2, ![32, 384]⟩
abbrev S128x128 : Shape := ⟨2, ![128, 128]⟩
abbrev S128x128x16 : Shape := ⟨3, ![128, 128, 16]⟩
abbrev S128x2048 : Shape := ⟨2, ![128, 2048]⟩
abbrev S128x192 : Shape := ⟨2, ![128, 192]⟩
abbrev S64x2x1x192 : Shape := ⟨4, ![64, 2, 1, 192]⟩
abbrev S4x128x16x192 : Shape := ⟨4, ![4, 128, 16, 192]⟩
abbrev S64x1x1x192 : Shape := ⟨4, ![64, 1, 1, 192]⟩
abbrev S64x192 : Shape := ⟨2, ![64, 192]⟩
abbrev S128x76 : Shape := ⟨2, ![128, 76]⟩
abbrev S128x6 : Shape := ⟨2, ![128, 6]⟩
abbrev S128x12 : Shape := ⟨2, ![128, 12]⟩
abbrev S128x384 : Shape := ⟨2, ![128, 384]⟩
abbrev S128x1x192 : Shape := ⟨3, ![128, 1, 192]⟩
abbrev S1x1x16x192 : Shape := ⟨4, ![1, 1, 16, 192]⟩
abbrev S128x16x192 : Shape := ⟨3, ![128, 16, 192]⟩
abbrev S1x128x16x192 : Shape := ⟨4, ![1, 128, 16, 192]⟩
abbrev S128x32 : Shape := ⟨2, ![128, 32]⟩
abbrev S128x1x32 : Shape := ⟨3, ![128, 1, 32]⟩
abbrev S128x16x32 : Shape := ⟨3, ![128, 16, 32]⟩
abbrev S2048x384 : Shape := ⟨2, ![2048, 384]⟩
abbrev S2048x192 : Shape := ⟨2, ![2048, 192]⟩
abbrev S1x1x192 : Shape := ⟨3, ![1, 1, 192]⟩

abbrev nBuf : Space → Nat
  | .hbm => 186
  | .vmem => 29
  | .smem => 0
  | _ => 0

abbrev hbmTy0_0 (i : Nat) : BufTy := match i % 128 with
  | 0 => ⟨S4096x192, .f32⟩
  | 1 => ⟨S1x12288, .f32⟩
  | 2 => ⟨S1x768, .f32⟩
  | 3 => ⟨S4x38x192, .f32⟩
  | 4 => ⟨S4x192x6, .f32⟩
  | 5 => ⟨S4x192, .f32⟩
  | 6 => ⟨S64x64x1x192, .f32⟩
  | 7 => ⟨S4x192x16, .f32⟩
  | 8 => ⟨S4x16x192, .f32⟩
  | 9 => ⟨S1x16x192, .f32⟩
  | 10 => ⟨S16x192, .f32⟩
  | 11 => ⟨S1x16x192, .f32⟩
  | 12 => ⟨S16x192, .f32⟩
  | 13 => ⟨S1x16x192, .f32⟩
  | 14 => ⟨S1x16x192, .f32⟩
  | 15 => ⟨S2x16x192, .f32⟩
  | 16 => ⟨S1x16x192, .f32⟩
  | 17 => ⟨S16x192, .f32⟩
  | 18 => ⟨S1x16x192, .f32⟩
  | 19 => ⟨S16x192, .f32⟩
  | 20 => ⟨S1x16x192, .f32⟩
  | 21 => ⟨S1x16x192, .f32⟩
  | 22 => ⟨S2x16x192, .f32⟩
  | 23 => ⟨S1x2x16x192, .f32⟩
  | 24 => ⟨S1x2x16x192, .f32⟩
  | 25 => ⟨S2x2x16x192, .f32⟩
  | 26 => ⟨S4x192, .f32⟩
  | 27 => ⟨S1x192, .f32⟩
  | 28 => ⟨S192, .f32⟩
  | 29 => ⟨S1x192, .f32⟩
  | 30 => ⟨S192, .f32⟩
  | 31 => ⟨S1x192, .f32⟩
  | 32 => ⟨S1x192, .f32⟩
  | 33 => ⟨S2x192, .f32⟩
  | 34 => ⟨S1x192, .f32⟩
  | 35 => ⟨S192, .f32⟩
  | 36 => ⟨S1x192, .f32⟩
  | 37 => ⟨S192, .f32⟩
  | 38 => ⟨S1x192, .f32⟩
  | 39 => ⟨S1x192, .f32⟩
  | 40 => ⟨S2x192, .f32⟩
  | 41 => ⟨S1x2x192, .f32⟩
  | 42 => ⟨S1x2x192, .f32⟩
  | 43 => ⟨S2x2x192, .f32⟩
  | 44 => ⟨S1x38x192, .f32⟩
  | 45 => ⟨S38x192, .f32⟩
  | 46 => ⟨S1x38x192, .f32⟩
  | 47 => ⟨S38x192, .f32⟩
  | 48 => ⟨S76x192, .f32⟩
  | 49 => ⟨S1x38x192, .f32⟩
  | 50 => ⟨S38x192, .f32⟩
  | 51 => ⟨S1x38x192, .f32⟩
  | 52 => ⟨S38x192, .f32⟩
  | 53 => ⟨S76x192, .f32⟩
  | 54 => ⟨S1x76x192, .f32⟩
  | 55 => ⟨S1x76x192, .f32⟩
  | 56 => ⟨S2x76x192, .f32⟩
  | 57 => ⟨S_, .f32⟩
  | 58 => ⟨S6x192, .f32⟩
  | 59 => ⟨S1x192x6, .f32⟩
  | 60 => ⟨S192x6, .f32⟩
  | 61 => ⟨S6x192, .f32⟩
  | 62 => ⟨S6x384, .f32⟩
  | 63 => ⟨S1x192x6, .f32⟩
  | 64 => ⟨S192x6, .f32⟩
  | 65 => ⟨S6x192, .f32⟩
  | 66 => ⟨S6x384, .f32⟩
  | 67 => ⟨S12x384, .f32⟩
  | 68 => ⟨S1x192x6, .f32⟩
  | 69 => ⟨S192x6, .f32⟩
  | 70 => ⟨S6x192, .f32⟩
  | 71 => ⟨S6x384, .f32⟩
  | 72 => ⟨S1x192x6, .f32⟩
  | 73 => ⟨S192x6, .f32⟩
  | 74 => ⟨S6x192, .f32⟩
  | 75 => ⟨S6x384, .f32⟩
  | 76 => ⟨S12x384, .f32⟩
  | 77 => ⟨S1x12x384, .f32⟩
  | 78 => ⟨S1x12x384, .f32⟩
  | 79 => ⟨S2x12x384, .f32⟩
  | 80 => ⟨S1x192, .f32⟩
  | 81 => ⟨S192, .f32⟩
  | 82 => ⟨S1x192, .f32⟩
  | 83 => ⟨S192, .f32⟩
  | 84 => ⟨S384, .f32⟩
  | 85 => ⟨S1x384, .f32⟩
  | 86 => ⟨S1x192, .f32⟩
  | 87 => ⟨S192, .f32⟩
  | 88 => ⟨S1x192, .f32⟩
  | 89 => ⟨S192, .f32⟩
  | 90 => ⟨S384, .f32⟩
  | 91 => ⟨S1x384, .f32⟩
  | 92 => ⟨S1x1x384, .f32⟩
  | 93 => ⟨S1x1x384, .f32⟩
  | 94 => ⟨S2x1x384, .f32⟩
  | 95 => ⟨S2048, .i32⟩
  | 96 => ⟨S2048x1, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2048x1, .i32⟩
  | 104 => ⟨S2048x1, .i32⟩
  | 105 => ⟨S_, .i32⟩
  | 106 => ⟨S2048x1, .i32⟩
  | 107 => ⟨S2048x1, .i1⟩
  | 108 => ⟨S_, .i32⟩
  | 109 => ⟨S2048x1, .i32⟩
  | 110 => ⟨S2048x1, .i1⟩
  | 111 => ⟨S_, .i32⟩
  | 112 => ⟨S_, .i1⟩
  | 113 => ⟨S2048x1, .i1⟩
  | 114 => ⟨S2048x1, .i1⟩
  | 115 => ⟨S2048x1, .i1⟩
  | 116 => ⟨S2048x1, .i32⟩
  | 117 => ⟨S2048x1, .i32⟩
  | 118 => ⟨S2048x1, .i32⟩
  | 119 => ⟨S32, .i32⟩
  | 120 => ⟨S1x32, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S1x32, .i32⟩
  | _ => ⟨S4096x192, .f32⟩

abbrev hbmTy0_1 (i : Nat) : BufTy := match i % 128 with
  | 0 => ⟨S1x32, .i32⟩
  | 1 => ⟨S_, .i32⟩
  | 2 => ⟨S1x32, .i32⟩
  | 3 => ⟨S1x32, .i1⟩
  | 4 => ⟨S_, .i32⟩
  | 5 => ⟨S1x32, .i32⟩
  | 6 => ⟨S1x32, .i1⟩
  | 7 => ⟨S_, .i32⟩
  | 8 => ⟨S_, .i1⟩
  | 9 => ⟨S1x32, .i1⟩
  | 10 => ⟨S1x32, .i1⟩
  | 11 => ⟨S1x32, .i1⟩
  | 12 => ⟨S1x32, .i32⟩
  | 13 => ⟨S1x32, .i32⟩
  | 14 => ⟨S1x32, .i32⟩
  | 15 => ⟨S2048x32, .i32⟩
  | 16 => ⟨S2048x32, .i32⟩
  | 17 => ⟨S2048x32, .i1⟩
  | 18 => ⟨S2048x32, .f32⟩
  | 19 => ⟨S32, .i32⟩
  | 20 => ⟨S32x1, .i32⟩
  | 21 => ⟨S_, .i32⟩
  | 22 => ⟨S32x1, .i32⟩
  | 23 => ⟨S32x1, .i1⟩
  | 24 => ⟨S384, .i32⟩
  | 25 => ⟨S1x384, .i32⟩
  | 26 => ⟨S_, .i32⟩
  | 27 => ⟨S1x384, .i32⟩
  | 28 => ⟨S1x384, .i1⟩
  | 29 => ⟨S32x384, .i1⟩
  | 30 => ⟨S32x384, .i1⟩
  | 31 => ⟨S32x384, .i1⟩
  | 32 => ⟨S_, .f32⟩
  | 33 => ⟨S_, .f32⟩
  | 34 => ⟨S_, .f32⟩
  | 35 => ⟨S32x384, .f32⟩
  | 36 => ⟨S32x384, .f32⟩
  | 37 => ⟨S32x384, .f32⟩
  | 38 => ⟨S32x1, .i1⟩
  | 39 => ⟨S1x384, .i1⟩
  | 40 => ⟨S32x384, .i1⟩
  | 41 => ⟨S32x384, .i1⟩
  | 42 => ⟨S32x384, .i1⟩
  | 43 => ⟨S32x384, .f32⟩
  | 44 => ⟨S32x384, .f32⟩
  | 45 => ⟨S128x128, .i32⟩
  | 46 => ⟨S128x128, .i32⟩
  | 47 => ⟨S_, .i32⟩
  | 48 => ⟨S128x128, .i32⟩
  | 49 => ⟨S128x128, .i32⟩
  | 50 => ⟨S128x128, .i1⟩
  | 51 => ⟨S128x128, .f32⟩
  | 52 => ⟨S128x128x16, .f32⟩
  | 53 => ⟨S128x2048, .f32⟩
  | 54 => ⟨S4096x192, .f32⟩
  | 55 => ⟨S4096x192, .f32⟩
  | 56 => ⟨S64x64x1x192, .f32⟩
  | 57 => ⟨S64x64x1x192, .f32⟩
  | _ => ⟨S4096x192, .f32⟩

abbrev hbmTy (i : Nat) : BufTy := match i / 128 with
  | 0 => hbmTy0_0 i
  | 1 => hbmTy0_1 i
  | _ => ⟨S4096x192, .f32⟩

abbrev bufTy : (tb : Table) → Fin (tcTables nBuf tb) → BufTy
  | .hbm, ⟨i, _⟩ => hbmTy i
  | .local _ .vmem, ⟨0, _⟩ => ⟨S128x192, .f32⟩
  | .local _ .vmem, ⟨1, _⟩ => ⟨S128x192, .f32⟩
  | .local _ .vmem, ⟨2, _⟩ => ⟨S128x192, .f32⟩
  | .local _ .vmem, ⟨3, _⟩ => ⟨S128x192, .f32⟩
  | .local _ .vmem, ⟨4, _⟩ => ⟨S64x2x1x192, .f32⟩
  | .local _ .vmem, ⟨5, _⟩ => ⟨S64x2x1x192, .f32⟩
  | .local _ .vmem, ⟨6, _⟩ => ⟨S64x2x1x192, .f32⟩
  | .local _ .vmem, ⟨7, _⟩ => ⟨S64x2x1x192, .f32⟩
  | .local _ .vmem, ⟨8, _⟩ => ⟨S2x76x192, .f32⟩
  | .local _ .vmem, ⟨9, _⟩ => ⟨S2x12x384, .f32⟩
  | .local _ .vmem, ⟨10, _⟩ => ⟨S2x1x384, .f32⟩
  | .local _ .vmem, ⟨11, _⟩ => ⟨S2x2x16x192, .f32⟩
  | .local _ .vmem, ⟨12, _⟩ => ⟨S2x2x192, .f32⟩
  | .local _ .vmem, ⟨13, _⟩ => ⟨S128x2048, .f32⟩
  | .local _ .vmem, ⟨14, _⟩ => ⟨S2048x32, .f32⟩
  | .local _ .vmem, ⟨15, _⟩ => ⟨S32x384, .f32⟩
  | .local _ .vmem, ⟨16, _⟩ => ⟨S128x192, .f32⟩
  | .local _ .vmem, ⟨17, _⟩ => ⟨S128x192, .f32⟩
  | .local _ .vmem, ⟨18, _⟩ => ⟨S128x192, .f32⟩
  | .local _ .vmem, ⟨19, _⟩ => ⟨S128x192, .f32⟩
  | .local _ .vmem, ⟨20, _⟩ => ⟨S64x2x1x192, .f32⟩
  | .local _ .vmem, ⟨21, _⟩ => ⟨S64x2x1x192, .f32⟩
  | .local _ .vmem, ⟨22, _⟩ => ⟨S64x2x1x192, .f32⟩
  | .local _ .vmem, ⟨23, _⟩ => ⟨S64x2x1x192, .f32⟩
  | .local _ .vmem, ⟨24, _⟩ => ⟨S4x128x16x192, .f32⟩
  | .local _ .vmem, ⟨25, _⟩ => ⟨S4x128x16x192, .f32⟩
  | .local _ .vmem, ⟨26, _⟩ => ⟨S4x128x16x192, .f32⟩
  | .local _ .vmem, ⟨27, _⟩ => ⟨S4x128x16x192, .f32⟩
  | .local _ .vmem, ⟨28, _⟩ => ⟨S4x16x192, .f32⟩
  | _, _ => ⟨S4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_c : Ref sig .tc := ⟨.hbm, 97, rfl⟩
abbrev main_call0_v0 : Ref sig .tc := ⟨.hbm, 98, rfl⟩
abbrev main_call0_c : Ref sig .tc := ⟨.hbm, 99, rfl⟩
abbrev main_call0_v1 : Ref sig .tc := ⟨.hbm, 100, rfl⟩
abbrev main_call0_c_0 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_1 : Ref sig .tc := ⟨.hbm, 105, rfl⟩
abbrev main_call0_v5 : Ref sig .tc := ⟨.hbm, 106, rfl⟩
abbrev main_call0_v6 : Ref sig .tc := ⟨.hbm, 107, rfl⟩
abbrev main_call0_c_2 : Ref sig .tc := ⟨.hbm, 108, rfl⟩
abbrev main_call0_v7 : Ref sig .tc := ⟨.hbm, 109, rfl⟩
abbrev main_call0_v8 : Ref sig .tc := ⟨.hbm, 110, rfl⟩
abbrev main_call0_c_3 : Ref sig .tc := ⟨.hbm, 111, rfl⟩
abbrev main_call0_v9 : Ref sig .tc := ⟨.hbm, 112, rfl⟩
abbrev main_call0_v10 : Ref sig .tc := ⟨.hbm, 113, rfl⟩
abbrev main_call0_v11 : Ref sig .tc := ⟨.hbm, 114, rfl⟩
abbrev main_call0_v12 : Ref sig .tc := ⟨.hbm, 115, rfl⟩
abbrev main_call0_v13 : Ref sig .tc := ⟨.hbm, 116, rfl⟩
abbrev main_call0_v14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_0 : Ref sig .tc := ⟨.hbm, 121, rfl⟩
abbrev main_call1_v0 : Ref sig .tc := ⟨.hbm, 122, rfl⟩
abbrev main_call1_c : Ref sig .tc := ⟨.hbm, 123, rfl⟩
abbrev main_call1_v1 : Ref sig .tc := ⟨.hbm, 124, rfl⟩
abbrev main_call1_c_0 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_c_1 : Ref sig .tc := ⟨.hbm, 129, rfl⟩
abbrev main_call1_v5 : Ref sig .tc := ⟨.hbm, 130, rfl⟩
abbrev main_call1_v6 : Ref sig .tc := ⟨.hbm, 131, rfl⟩
abbrev main_call1_c_2 : Ref sig .tc := ⟨.hbm, 132, rfl⟩
abbrev main_call1_v7 : Ref sig .tc := ⟨.hbm, 133, rfl⟩
abbrev main_call1_v8 : Ref sig .tc := ⟨.hbm, 134, rfl⟩
abbrev main_call1_c_3 : Ref sig .tc := ⟨.hbm, 135, rfl⟩
abbrev main_call1_v9 : Ref sig .tc := ⟨.hbm, 136, rfl⟩
abbrev main_call1_v10 : Ref sig .tc := ⟨.hbm, 137, rfl⟩
abbrev main_call1_v11 : Ref sig .tc := ⟨.hbm, 138, rfl⟩
abbrev main_call1_v12 : Ref sig .tc := ⟨.hbm, 139, rfl⟩
abbrev main_call1_v13 : Ref sig .tc := ⟨.hbm, 140, rfl⟩
abbrev main_call1_v14 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_c_1 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_c_2 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_3 : Ref sig .tc := ⟨.hbm, 160, rfl⟩
abbrev main_cst_4 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_c_5 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125_0 : Ref sig .tc := ⟨.hbm, 182, rfl⟩
abbrev main_v125_1 : Ref sig .tc := ⟨.hbm, 183, rfl⟩
abbrev main_v125_2 : Ref sig .tc := ⟨.hbm, 184, rfl⟩
abbrev main_v125_3 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2x1x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2x1x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x76x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x12x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2x16x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x2x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x2x1x192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2x1x192 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S4096x192 : Shape := ⟨2, ![4096, 192]⟩
abbrev S1x12288 : Shape := ⟨2, ![1, 12288]⟩
abbrev S1x768 : Shape := ⟨2, ![1, 768]⟩
abbrev S4x38x192 : Shape := ⟨3, ![4, 38, 192]⟩
abbrev S4x192x6 : Shape := ⟨3, ![4, 192, 6]⟩
abbrev S4x192 : Shape := ⟨2, ![4, 192]⟩
abbrev S64x64x192 : Shape := ⟨3, ![64, 64, 192]⟩
abbrev S1x4096x192 : Shape := ⟨3, ![1, 4096, 192]⟩
abbrev S4x4096x192 : Shape := ⟨3, ![4, 4096, 192]⟩
abbrev S4x4096x38 : Shape := ⟨3, ![4, 4096, 38]⟩
abbrev S4x4096x6 : Shape := ⟨3, ![4, 4096, 6]⟩
abbrev S4x4096x16 : Shape := ⟨3, ![4, 4096, 16]⟩
abbrev S4x1x192 : Shape := ⟨3, ![4, 1, 192]⟩
abbrev S_ : Shape := ⟨0, ![]⟩
abbrev S4x192x16 : Shape := ⟨3, ![4, 192, 16]⟩
abbrev S4x4096x192x1 : Shape := ⟨4, ![4, 4096, 192, 1]⟩
abbrev S4x1x192x16 : Shape := ⟨4, ![4, 1, 192, 16]⟩
abbrev S4x4096x192x16 : Shape := ⟨4, ![4, 4096, 192, 16]⟩
abbrev S4x4096x1x16 : Shape := ⟨4, ![4, 4096, 1, 16]⟩
abbrev S4096x4x192x16 : Shape := ⟨4, ![4096, 4, 192, 16]⟩
abbrev S4096x4x16 : Shape := ⟨3, ![4096, 4, 16]⟩
abbrev S4096x4x192 : Shape := ⟨3, ![4096, 4, 192]⟩
abbrev S1x4x192x16 : Shape := ⟨4, ![1, 4, 192, 16]⟩
abbrev S1x4x16 : Shape := ⟨3, ![1, 4, 16]⟩
abbrev S4x16 : Shape := ⟨2, ![4, 16]⟩
abbrev S1x4x192 : Shape := ⟨3, ![1, 4, 192]⟩
abbrev S64x64x1x192 : Shape := ⟨4, ![64, 64, 1, 192]⟩

abbrev nBuf : Space → Nat
  | .hbm => 112
  | .vmem => 0
  | .smem => 0
  | _ => 0

abbrev bufTy : (tb : Table) → Fin (tcTables nBuf tb) → BufTy
  | .hbm, ⟨0, _⟩ => ⟨S4096x192, .f32⟩
  | .hbm, ⟨1, _⟩ => ⟨S1x12288, .f32⟩
  | .hbm, ⟨2, _⟩ => ⟨S1x768, .f32⟩
  | .hbm, ⟨3, _⟩ => ⟨S4x38x192, .f32⟩
  | .hbm, ⟨4, _⟩ => ⟨S4x192x6, .f32⟩
  | .hbm, ⟨5, _⟩ => ⟨S4x192, .f32⟩
  | .hbm, ⟨6, _⟩ => ⟨S64x64x192, .f32⟩
  | .hbm, ⟨7, _⟩ => ⟨S64x64x192, .f32⟩
  | .hbm, ⟨8, _⟩ => ⟨S4096x192, .f32⟩
  | .hbm, ⟨9, _⟩ => ⟨S4096x192, .f32⟩
  | .hbm, ⟨10, _⟩ => ⟨S4096x192, .f32⟩
  | .hbm, ⟨11, _⟩ => ⟨S1x4096x192, .f32⟩
  | .hbm, ⟨12, _⟩ => ⟨S1x4096x192, .f32⟩
  | .hbm, ⟨13, _⟩ => ⟨S1x4096x192, .f32⟩
  | .hbm, ⟨14, _⟩ => ⟨S1x4096x192, .f32⟩
  | .hbm, ⟨15, _⟩ => ⟨S4x4096x192, .f32⟩
  | .hbm, ⟨16, _⟩ => ⟨S4x4096x38, .f32⟩
  | .hbm, ⟨17, _⟩ => ⟨S4x4096x6, .f32⟩
  | .hbm, ⟨18, _⟩ => ⟨S4x4096x16, .f32⟩
  | .hbm, ⟨19, _⟩ => ⟨S4x4096x16, .f32⟩
  | .hbm, ⟨20, _⟩ => ⟨S4x4096x192, .f32⟩
  | .hbm, ⟨21, _⟩ => ⟨S4x1x192, .f32⟩
  | .hbm, ⟨22, _⟩ => ⟨S4x4096x192, .f32⟩
  | .hbm, ⟨23, _⟩ => ⟨S4x4096x192, .f32⟩
  | .hbm, ⟨24, _⟩ => ⟨S_, .f32⟩
  | .hbm, ⟨25, _⟩ => ⟨S4x4096x192, .f32⟩
  | .hbm, ⟨26, _⟩ => ⟨S4x4096x192, .f32⟩
  | .hbm, ⟨27, _⟩ => ⟨S4x4096x192, .f32⟩
  | .hbm, ⟨28, _⟩ => ⟨S4x4096x192, .f32⟩
  | .hbm, ⟨29, _⟩ => ⟨S4x4096x192, .i1⟩
  | .hbm, ⟨30, _⟩ => ⟨S4x4096x192, .f32⟩
  | .hbm, ⟨31, _⟩ => ⟨S4x4096x192, .f32⟩
  | .hbm, ⟨32, _⟩ => ⟨S4x4096x192, .f32⟩
  | .hbm, ⟨33, _⟩ => ⟨S4x4096x192, .f32⟩
  | .hbm, ⟨34, _⟩ => ⟨S4x4096x192, .f32⟩
  | .hbm, ⟨35, _⟩ => ⟨S4x4096x192, .f32⟩
  | .hbm, ⟨36, _⟩ => ⟨S4x4096x192, .f32⟩
  | .hbm, ⟨37, _⟩ => ⟨S4x4096x192, .f32⟩
  | .hbm, ⟨38, _⟩ => ⟨S4x192x16, .f32⟩
  | .hbm, ⟨39, _⟩ => ⟨S4x192, .f32⟩
  | .hbm, ⟨40, _⟩ => ⟨S4x4096x192x1, .f32⟩
  | .hbm, ⟨41, _⟩ => ⟨S4x1x192x16, .f32⟩
  | .hbm, ⟨42, _⟩ => ⟨S4x4096x192x16, .f32⟩
  | .hbm, ⟨43, _⟩ => ⟨S4x4096x192x16, .f32⟩
  | .hbm, ⟨44, _⟩ => ⟨S4x4096x192x16, .f32⟩
  | .hbm, ⟨45, _⟩ => ⟨S4x4096x192x16, .f32⟩
  | .hbm, ⟨46, _⟩ => ⟨S4x4096x192, .f32⟩
  | .hbm, ⟨47, _⟩ => ⟨S4x4096x192x1, .f32⟩
  | .hbm, ⟨48, _⟩ => ⟨S4x4096x1x16, .f32⟩
  | .hbm, ⟨49, _⟩ => ⟨S4x4096x192x16, .f32⟩
  | .hbm, ⟨50, _⟩ => ⟨S4x4096x192x16, .f32⟩
  | .hbm, ⟨51, _⟩ => ⟨S4x4096x192x16, .f32⟩
  | .hbm, ⟨52, _⟩ => ⟨S_, .f32⟩
  | .hbm, ⟨53, _⟩ => ⟨S4x192x16, .f32⟩
  | .hbm, ⟨54, _⟩ => ⟨S4096x4x192x16, .f32⟩
  | .hbm, ⟨55, _⟩ => ⟨S4096x4x192x16, .f32⟩
  | .hbm, ⟨56, _⟩ => ⟨S4096x4x16, .f32⟩
  | .hbm, ⟨57, _⟩ => ⟨S_, .f32⟩
  | .hbm, ⟨58, _⟩ => ⟨S4096x4x192, .f32⟩
  | .hbm, ⟨59, _⟩ => ⟨S_, .i32⟩
  | .hbm, ⟨60, _⟩ => ⟨S4096x4x192x16, .f32⟩
  | .hbm, ⟨61, _⟩ => ⟨S4096x4x192x16, .f32⟩
  | .hbm, ⟨62, _⟩ => ⟨S4096x4x16, .f32⟩
  | .hbm, ⟨63, _⟩ => ⟨S_, .i32⟩
  | .hbm, ⟨64, _⟩ => ⟨S4x192x16, .f32⟩
  | .hbm, ⟨65, _⟩ => ⟨S4096x4x192, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x4x192x16, .f32⟩
  | .hbm, ⟨72, _⟩ => ⟨S4x192x16, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x4x192x16, .f32⟩
  | .hbm, ⟨77, _⟩ => ⟨S4x192x16, .f32⟩
  | .hbm, ⟨78, _⟩ => ⟨S_, .i32⟩
  | .hbm, ⟨79, _⟩ => ⟨S_, .i32⟩
  | .hbm, ⟨80, _⟩ => ⟨S1x4x16, .f32⟩
  | .hbm, ⟨81, _⟩ => ⟨S4x16, .f32⟩
  | .hbm, ⟨82, _⟩ => ⟨S4x192x16, .f32⟩
  | .hbm, ⟨83, _⟩ => ⟨S4x192x16, .f32⟩
  | .hbm, ⟨84, _⟩ => ⟨S4x192, .f32⟩
  | .hbm, ⟨85, _⟩ => ⟨S1x4x192, .f32⟩
  | .hbm, ⟨86, _⟩ => ⟨S_, .i32⟩
  | .hbm, ⟨87, _⟩ => ⟨S_, .i32⟩
  | .hbm, ⟨88, _⟩ => ⟨S4096x4x192, .f32⟩
  | .hbm, ⟨89, _⟩ => ⟨S_, .i32⟩
  | .hbm, ⟨90, _⟩ => ⟨S_, .i32⟩
  | .hbm, ⟨91, _⟩ => ⟨S4x4096x192, .f32⟩
  | .hbm, ⟨92, _⟩ => ⟨S4x1x192, .f32⟩
  | .hbm, ⟨93, _⟩ => ⟨S4x4096x192, .f32⟩
  | .hbm, ⟨94, _⟩ => ⟨S4x4096x192, .f32⟩
  | .hbm, ⟨95, _⟩ => ⟨S4x4096x192, .f32⟩
  | .hbm, ⟨96, _⟩ => ⟨S1x4096x192, .f32⟩
  | .hbm, ⟨97, _⟩ => ⟨S4096x192, .f32⟩
  | .hbm, ⟨98, _⟩ => ⟨S1x4096x192, .f32⟩
  | .hbm, ⟨99, _⟩ => ⟨S4096x192, .f32⟩
  | .hbm, ⟨100, _⟩ => ⟨S4096x192, .f32⟩
  | .hbm, ⟨101, _⟩ => ⟨S1x4096x192, .f32⟩
  | .hbm, ⟨102, _⟩ => ⟨S4096x192, .f32⟩
  | .hbm, ⟨103, _⟩ => ⟨S64x64x192, .f32⟩
  | .hbm, ⟨104, _⟩ => ⟨S64x64x192, .f32⟩
  | .hbm, ⟨105, _⟩ => ⟨S64x64x1x192, .f32⟩
  | .hbm, ⟨106, _⟩ => ⟨S1x4096x192, .f32⟩
  | .hbm, ⟨107, _⟩ => ⟨S4096x192, .f32⟩
  | .hbm, ⟨108, _⟩ => ⟨S4096x192, .f32⟩
  | .hbm, ⟨109, _⟩ => ⟨S64x64x192, .f32⟩
  | .hbm, ⟨110, _⟩ => ⟨S64x64x192, .f32⟩
  | .hbm, ⟨111, _⟩ => ⟨S64x64x1x192, .f32⟩
  | _, _ => ⟨S4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_0 : Ref sig .tc := ⟨.hbm, 57, rfl⟩
abbrev main_v37 : Ref sig .tc := ⟨.hbm, 58, rfl⟩
abbrev main_c : Ref sig .tc := ⟨.hbm, 59, rfl⟩
abbrev main_v38_0 : Ref sig .tc := ⟨.hbm, 60, rfl⟩
abbrev main_v38_1 : Ref sig .tc := ⟨.hbm, 61, rfl⟩
abbrev main_v38_2 : Ref sig .tc := ⟨.hbm, 62, rfl⟩
abbrev main_v38_3 : Ref sig .tc := ⟨.hbm, 63, rfl⟩
abbrev main_v38_4 : Ref sig .tc := ⟨.hbm, 64, rfl⟩
abbrev main_v38_5 : Ref sig .tc := ⟨.hbm, 65, rfl⟩
abbrev main_while0c_c_6 : Ref sig .tc := ⟨.hbm, 66, rfl⟩
abbrev main_while0c_v60 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_v0 : Ref sig .tc := ⟨.hbm, 71, rfl⟩
abbrev main_while0b_v60 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_v0 : Ref sig .tc := ⟨.hbm, 76, rfl⟩
abbrev main_while0b_v61 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_v0 : Ref sig .tc := ⟨.hbm, 80, rfl⟩
abbrev main_while0b_v62 : Ref sig .tc := ⟨.hbm, 81, rfl⟩
abbrev main_while0b_v63 : Ref sig .tc := ⟨.hbm, 82, rfl⟩
abbrev main_while0b_v64 : Ref sig .tc := ⟨.hbm, 83, rfl⟩
abbrev main_while0b_v65 : Ref sig .tc := ⟨.hbm, 84, rfl⟩
abbrev main_while0b_call4_v0 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_v66 : Ref sig .tc := ⟨.hbm, 88, rfl⟩
abbrev main_while0b_c_6 : Ref sig .tc := ⟨.hbm, 89, rfl⟩
abbrev main_while0b_v67 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4096x192 : Shape := ⟨2, ![4096, 192]⟩
abbrev S64x64x1x192 : Shape := ⟨4, ![64, 64, 1, 192]⟩
abbrev S1x192 : Shape := ⟨2, ![1, 192]⟩
abbrev S96x192 : Shape := ⟨2, ![96, 192]⟩
abbrev S192x96 : Shape := ⟨2, ![192, 96]⟩
abbrev S4096x96 : Shape := ⟨2, ![4096, 96]⟩
abbrev S192 : Shape := ⟨1, ![192]⟩

abbrev nBuf : Space → Nat
  | .hbm => 11
  | .vmem => 8
  | .smem => 0
  | _ => 0

abbrev bufTy : (tb : Table) → Fin (tcTables nBuf tb) → BufTy
  | .hbm, ⟨0, _⟩ => ⟨S4096x192, .f32⟩
  | .hbm, ⟨1, _⟩ => ⟨S4096x192, .f32⟩
  | .hbm, ⟨2, _⟩ => ⟨S64x64x1x192, .f32⟩
  | .hbm, ⟨3, _⟩ => ⟨S64x64x1x192, .f32⟩
  | .hbm, ⟨4, _⟩ => ⟨S1x192, .f32⟩
  | .hbm, ⟨5, _⟩ => ⟨S1x192, .f32⟩
  | .hbm, ⟨6, _⟩ => ⟨S96x192, .f32⟩
  | .hbm, ⟨7, _⟩ => ⟨S4096x192, .f32⟩
  | .hbm, ⟨8, _⟩ => ⟨S4096x192, .f32⟩
  | .hbm, ⟨9, _⟩ => ⟨S192x96, .f32⟩
  | .hbm, ⟨10, _⟩ => ⟨S4096x96, .f32⟩
  | .local _ .vmem, ⟨0, _⟩ => ⟨S4096x192, .f32⟩
  | .local _ .vmem, ⟨1, _⟩ => ⟨S4096x192, .f32⟩
  | .local _ .vmem, ⟨2, _⟩ => ⟨S4096x192, .f32⟩
  | .local _ .vmem, ⟨3, _⟩ => ⟨S4096x192, .f32⟩
  | .local _ .vmem, ⟨4, _⟩ => ⟨S1x192, .f32⟩
  | .local _ .vmem, ⟨5, _⟩ => ⟨S1x192, .f32⟩
  | .local _ .vmem, ⟨6, _⟩ => ⟨S192x96, .f32⟩
  | .local _ .vmem, ⟨7, _⟩ => ⟨S4096x96, .f32⟩
  | _, _ => ⟨S4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4096x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference2Ideal.lean ====
abbrev S4096x192 : Shape := ⟨2, ![4096, 192]⟩
abbrev S64x64x1x192 : Shape := ⟨4, ![64, 64, 1, 192]⟩
abbrev S1x192 : Shape := ⟨2, ![1, 192]⟩
abbrev S96x192 : Shape := ⟨2, ![96, 192]⟩
abbrev S_ : Shape := ⟨0, ![]⟩
abbrev S192 : Shape := ⟨1, ![192]⟩
abbrev S4096x96 : Shape := ⟨2, ![4096, 96]⟩

abbrev nBuf : Space → Nat
  | .hbm => 55
  | .vmem => 0
  | .smem => 0
  | _ => 0

abbrev bufTy : (tb : Table) → Fin (tcTables nBuf tb) → BufTy
  | .hbm, ⟨0, _⟩ => ⟨S4096x192, .f32⟩
  | .hbm, ⟨1, _⟩ => ⟨S4096x192, .f32⟩
  | .hbm, ⟨2, _⟩ => ⟨S64x64x1x192, .f32⟩
  | .hbm, ⟨3, _⟩ => ⟨S64x64x1x192, .f32⟩
  | .hbm, ⟨4, _⟩ => ⟨S1x192, .f32⟩
  | .hbm, ⟨5, _⟩ => ⟨S1x192, .f32⟩
  | .hbm, ⟨6, _⟩ => ⟨S96x192, .f32⟩
  | .hbm, ⟨7, _⟩ => ⟨S4096x192, .f32⟩
  | .hbm, ⟨8, _⟩ => ⟨S4096x192, .f32⟩
  | .hbm, ⟨9, _⟩ => ⟨S4096x192, .f32⟩
  | .hbm, ⟨10, _⟩ => ⟨S4096x192, .f32⟩
  | .hbm, ⟨11, _⟩ => ⟨S4096x192, .f32⟩
  | .hbm, ⟨12, _⟩ => ⟨S_, .f32⟩
  | .hbm, ⟨13, _⟩ => ⟨S192, .f32⟩
  | .hbm, ⟨14, _⟩ => ⟨S1x192, .f32⟩
  | .hbm, ⟨15, _⟩ => ⟨S_, .f32⟩
  | .hbm, ⟨16, _⟩ => ⟨S1x192, .f32⟩
  | .hbm, ⟨17, _⟩ => ⟨S1x192, .f32⟩
  | .hbm, ⟨18, _⟩ => ⟨S_, .i32⟩
  | .hbm, ⟨19, _⟩ => ⟨S_, .f32⟩
  | .hbm, ⟨20, _⟩ => ⟨S192, .f32⟩
  | .hbm, ⟨21, _⟩ => ⟨S1x192, .f32⟩
  | .hbm, ⟨22, _⟩ => ⟨S_, .f32⟩
  | .hbm, ⟨23, _⟩ => ⟨S1x192, .f32⟩
  | .hbm, ⟨24, _⟩ => ⟨S1x192, .f32⟩
  | .hbm, ⟨25, _⟩ => ⟨S4096x192, .f32⟩
  | .hbm, ⟨26, _⟩ => ⟨S4096x192, .f32⟩
  | .hbm, ⟨27, _⟩ => ⟨S4096x192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S192, .f32⟩
  | .hbm, ⟨33, _⟩ => ⟨S1x192, .f32⟩
  | .hbm, ⟨34, _⟩ => ⟨S1x192, .f32⟩
  | .hbm, ⟨35, _⟩ => ⟨S1x192, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S1x192, .f32⟩
  | .hbm, ⟨41, _⟩ => ⟨S1x192, .f32⟩
  | .hbm, ⟨42, _⟩ => ⟨S4096x192, .f32⟩
  | .hbm, ⟨43, _⟩ => ⟨S4096x192, .f32⟩
  | .hbm, ⟨44, _⟩ => ⟨S_, .f32⟩
  | .hbm, ⟨45, _⟩ => ⟨S1x192, .f32⟩
  | .hbm, ⟨46, _⟩ => ⟨S1x192, .f32⟩
  | .hbm, ⟨47, _⟩ => ⟨S1x192, .f32⟩
  | .hbm, ⟨48, _⟩ => ⟨S4096x192, .f32⟩
  | .hbm, ⟨49, _⟩ => ⟨S4096x192, .f32⟩
  | .hbm, ⟨50, _⟩ => ⟨S4096x192, .f32⟩
  | .hbm, ⟨51, _⟩ => ⟨S4096x192, .f32⟩
  | .hbm, ⟨52, _⟩ => ⟨S4096x192, .f32⟩
  | .hbm, ⟨53, _⟩ => ⟨S4096x192, .f32⟩
  | .hbm, ⟨54, _⟩ => ⟨S4096x96, .f32⟩
  | _, _ => ⟨S4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩

abbrev nD : Nat := 1
abbrev τ : Topo := Topo.v7x

variable {F : FTy → Type} [FloatOps F]
-- ==== Kernel3.lean ====
abbrev S1x64x64x96 : Shape := ⟨4, ![1, 64, 64, 96]⟩
abbrev S1x64x64x64 : Shape := ⟨4, ![1, 64, 64, 64]⟩
abbrev S192x96 : Shape := ⟨2, ![192, 96]⟩
abbrev S192x1x3x3 : Shape := ⟨4, ![192, 1, 3, 3]⟩
abbrev S192 : Shape := ⟨1, ![192]⟩
abbrev S192x64 : Shape := ⟨2, ![192, 64]⟩
abbrev S12288x64 : Shape := ⟨2, ![12288, 64]⟩
abbrev S12288 : Shape := ⟨1, ![12288]⟩
abbrev S768x64 : Shape := ⟨2, ![768, 64]⟩
abbrev S768 : Shape := ⟨1, ![768]⟩
abbrev S4096x96 : Shape := ⟨2, ![4096, 96]⟩
abbrev S64x4096 : Shape := ⟨2, ![64, 4096]⟩
abbrev S4096x64 : Shape := ⟨2, ![4096, 64]⟩
abbrev S96x192 : Shape := ⟨2, ![96, 192]⟩
abbrev S192x9 : Shape := ⟨2, ![192, 9]⟩
abbrev S9x192 : Shape := ⟨2, ![9, 192]⟩
abbrev S1x192 : Shape := ⟨2, ![1, 192]⟩
abbrev S64x192 : Shape := ⟨2, ![64, 192]⟩
abbrev S64x12288 : Shape := ⟨2, ![64, 12288]⟩
abbrev S1x12288 : Shape := ⟨2, ![1, 12288]⟩
abbrev S64x768 : Shape := ⟨2, ![64, 768]⟩
abbrev S1x768 : Shape := ⟨2, ![1, 768]⟩
abbrev S4096x192 : Shape := ⟨2, ![4096, 192]⟩
abbrev S66x66x192 : Shape := ⟨3, ![66, 66, 192]⟩
abbrev S66x64x192 : Shape := ⟨3, ![66, 64, 192]⟩
abbrev S64 : Shape := ⟨1, ![64]⟩
abbrev S1x64 : Shape := ⟨2, ![1, 64]⟩
abbrev S64x64x192 : Shape := ⟨3, ![64, 64, 192]⟩
abbrev S1x1x192 : Shape := ⟨3, ![1, 1, 192]⟩

abbrev nBuf : Space → Nat
  | .hbm => 37
  | .vmem => 23
  | .smem => 0
  | _ => 0

abbrev bufTy : (tb : Table) → Fin (tcTables nBuf tb) → BufTy
  | .hbm, ⟨0, _⟩ => ⟨S1x64x64x96, .f32⟩
  | .hbm, ⟨1, _⟩ => ⟨S1x64x64x64, .f32⟩
  | .hbm, ⟨2, _⟩ => ⟨S192x96, .f32⟩
  | .hbm, ⟨3, _⟩ => ⟨S192x1x3x3, .f32⟩
  | .hbm, ⟨4, _⟩ => ⟨S192, .f32⟩
  | .hbm, ⟨5, _⟩ => ⟨S192x64, .f32⟩
  | .hbm, ⟨6, _⟩ => ⟨S192, .f32⟩
  | .hbm, ⟨7, _⟩ => ⟨S12288x64, .f32⟩
  | .hbm, ⟨8, _⟩ => ⟨S12288, .f32⟩
  | .hbm, ⟨9, _⟩ => ⟨S768x64, .f32⟩
  | .hbm, ⟨10, _⟩ => ⟨S768, .f32⟩
  | .hbm, ⟨11, _⟩ => ⟨S192x64, .f32⟩
  | .hbm, ⟨12, _⟩ => ⟨S192, .f32⟩
  | .hbm, ⟨13, _⟩ => ⟨S192x64, .f32⟩
  | .hbm, ⟨14, _⟩ => ⟨S192, .f32⟩
  | .hbm, ⟨15, _⟩ => ⟨S4096x96, .f32⟩
  | .hbm, ⟨16, _⟩ => ⟨S64x4096, .f32⟩
  | .hbm, ⟨17, _⟩ => ⟨S4096x64, .f32⟩
  | .hbm, ⟨18, _⟩ => ⟨S96x192, .f32⟩
  | .hbm, ⟨19, _⟩ => ⟨S192x9, .f32⟩
  | .hbm, ⟨20, _⟩ => ⟨S9x192, .f32⟩
  | .hbm, ⟨21, _⟩ => ⟨S1x192, .f32⟩
  | .hbm, ⟨22, _⟩ => ⟨S64x192, .f32⟩
  | .hbm, ⟨23, _⟩ => ⟨S1x192, .f32⟩
  | .hbm, ⟨24, _⟩ => ⟨S64x12288, .f32⟩
  | .hbm, ⟨25, _⟩ => ⟨S1x12288, .f32⟩
  | .hbm, ⟨26, _⟩ => ⟨S64x768, .f32⟩
  | .hbm, ⟨27, _⟩ => ⟨S1x768, .f32⟩
  | .hbm, ⟨28, _⟩ => ⟨S64x192, .f32⟩
  | .hbm, ⟨29, _⟩ => ⟨S1x192, .f32⟩
  | .hbm, ⟨30, _⟩ => ⟨S64x192, .f32⟩
  | .hbm, ⟨31, _⟩ => ⟨S1x192, .f32⟩
  | .hbm, ⟨32, _⟩ => ⟨S4096x192, .f32⟩
  | .hbm, ⟨33, _⟩ => ⟨S1x12288, .f32⟩
  | .hbm, ⟨34, _⟩ => ⟨S1x768, .f32⟩
  | .hbm, ⟨35, _⟩ => ⟨S1x192, .f32⟩
  | .hbm, ⟨36, _⟩ => ⟨S1x192, .f32⟩
  | .local _ .vmem, ⟨0, _⟩ => ⟨S4096x96, .f32⟩
  | .local _ .vmem, ⟨1, _⟩ => ⟨S4096x64, .f32⟩
  | .local _ .vmem, ⟨2, _⟩ => ⟨S96x192, .f32⟩
  | .local _ .vmem, ⟨3, _⟩ => ⟨S9x192, .f32⟩
  | .local _ .vmem, ⟨4, _⟩ => ⟨S1x192, .f32⟩
  | .local _ .vmem, ⟨5, _⟩ => ⟨S64x192, .f32⟩
  | .local _ .vmem, ⟨6, _⟩ => ⟨S1x192, .f32⟩
  | .local _ .vmem, ⟨7, _⟩ => ⟨S64x12288, .f32⟩
  | .local _ .vmem, ⟨8, _⟩ => ⟨S1x12288, .f32⟩
  | .local _ .vmem, ⟨9, _⟩ => ⟨S64x768, .f32⟩
  | .local _ .vmem, ⟨10, _⟩ => ⟨S1x768, .f32⟩
  | .local _ .vmem, ⟨11, _⟩ => ⟨S64x192, .f32⟩
  | .local _ .vmem, ⟨12, _⟩ => ⟨S1x192, .f32⟩
  | .local _ .vmem, ⟨13, _⟩ => ⟨S64x192, .f32⟩
  | .local _ .vmem, ⟨14, _⟩ => ⟨S1x192, .f32⟩
  | .local _ .vmem, ⟨15, _⟩ => ⟨S4096x192, .f32⟩
  | .local _ .vmem, ⟨16, _⟩ => ⟨S1x12288, .f32⟩
  | .local _ .vmem, ⟨17, _⟩ => ⟨S1x768, .f32⟩
  | .local _ .vmem, ⟨18, _⟩ => ⟨S1x192, .f32⟩
  | .local _ .vmem, ⟨19, _⟩ => ⟨S1x192, .f32⟩
  | .local _ .vmem, ⟨20, _⟩ => ⟨S66x66x192, .f32⟩
  | .local _ .vmem, ⟨21, _⟩ => ⟨S66x64x192, .f32⟩
  | .local _ .vmem, ⟨22, _⟩ => ⟨S66x64x192, .f32⟩
  | _, _ => ⟨S1x64x64x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev main_v17_4 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S4096x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x12288 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4096x192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x12288 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x192 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x192 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Reference3Ideal.lean ====
abbrev S1x64x64x96 : Shape := ⟨4, ![1, 64, 64, 96]⟩
abbrev S1x64x64x64 : Shape := ⟨4, ![1, 64, 64, 64]⟩
abbrev S192x96 : Shape := ⟨2, ![192, 96]⟩
abbrev S192x1x3x3 : Shape := ⟨4, ![192, 1, 3, 3]⟩
abbrev S192 : Shape := ⟨1, ![192]⟩
abbrev S192x64 : Shape := ⟨2, ![192, 64]⟩
abbrev S12288x64 : Shape := ⟨2, ![12288, 64]⟩
abbrev S12288 : Shape := ⟨1, ![12288]⟩
abbrev S768x64 : Shape := ⟨2, ![768, 64]⟩
abbrev S768 : Shape := ⟨1, ![768]⟩
abbrev S1x64x64x192 : Shape := ⟨4, ![1, 64, 64, 192]⟩
abbrev S_ : Shape := ⟨0, ![]⟩
abbrev S1x64 : Shape := ⟨2, ![1, 64]⟩
abbrev S64x192 : Shape := ⟨2, ![64, 192]⟩
abbrev S1x192 : Shape := ⟨2, ![1, 192]⟩
abbrev S1x1x1x192 : Shape := ⟨4, ![1, 1, 1, 192]⟩
abbrev S1x66x66x192 : Shape := ⟨4, ![1, 66, 66, 192]⟩
abbrev S192x1x1x1 : Shape := ⟨4, ![192, 1, 1, 1]⟩
abbrev S64x12288 : Shape := ⟨2, ![64, 12288]⟩
abbrev S1x12288 : Shape := ⟨2, ![1, 12288]⟩
abbrev S64x768 : Shape := ⟨2, ![64, 768]⟩
abbrev S1x768 : Shape := ⟨2, ![1, 768]⟩
abbrev S4096x192 : Shape := ⟨2, ![4096, 192]⟩

abbrev nBuf : Space → Nat
  | .hbm => 130
  | .vmem => 0
  | .smem => 0
  | _ => 0

abbrev hbmTy0_0 (i : Nat) : BufTy := match i % 128 with
  | 0 => ⟨S1x64x64x96, .f32⟩
  | 1 => ⟨S1x64x64x64, .f32⟩
  | 2 => ⟨S192x96, .f32⟩
  | 3 => ⟨S192x1x3x3, .f32⟩
  | 4 => ⟨S192, .f32⟩
  | 5 => ⟨S192x64, .f32⟩
  | 6 => ⟨S192, .f32⟩
  | 7 => ⟨S12288x64, .f32⟩
  | 8 => ⟨S12288, .f32⟩
  | 9 => ⟨S768x64, .f32⟩
  | 10 => ⟨S768, .f32⟩
  | 11 => ⟨S192x64, .f32⟩
  | 12 => ⟨S192, .f32⟩
  | 13 => ⟨S192x64, .f32⟩
  | 14 => ⟨S192, .f32⟩
  | 15 => ⟨S1x64x64x192, .f32⟩
  | 16 => ⟨S_, .f32⟩
  | 17 => ⟨S1x64, .f32⟩
  | 18 => ⟨S_, .f32⟩
  | 19 => ⟨S1x64, .f32⟩
  | 20 => ⟨S1x64, .f32⟩
  | 21 => ⟨S64x192, .f32⟩
  | 22 => ⟨S1x192, .f32⟩
  | 23 => ⟨S_, .f32⟩
  | 24 => ⟨S1x192, .f32⟩
  | 25 => ⟨S1x192, .f32⟩
  | 26 => ⟨S1x192, .f32⟩
  | 27 => ⟨S1x192, .f32⟩
  | 28 => ⟨S1x1x1x192, .f32⟩
  | 29 => ⟨S1x64x64x192, .f32⟩
  | 30 => ⟨S1x64x64x192, .f32⟩
  | 31 => ⟨S_, .i32⟩
  | 32 => ⟨S_, .f32⟩
  | 33 => ⟨S1x66x66x192, .f32⟩
  | 34 => ⟨S1x64x64x192, .f32⟩
  | 35 => ⟨S192x1x1x1, .f32⟩
  | 36 => ⟨S192, .f32⟩
  | 37 => ⟨S1x1x1x192, .f32⟩
  | 38 => ⟨S1x64x64x192, .f32⟩
  | 39 => ⟨S1x64x64x192, .f32⟩
  | 40 => ⟨S_, .f32⟩
  | 41 => ⟨S1x64x64x192, .f32⟩
  | 42 => ⟨S1x64x64x192, .f32⟩
  | 43 => ⟨S1x64x64x192, .f32⟩
  | 44 => ⟨S192x1x1x1, .f32⟩
  | 45 => ⟨S192, .f32⟩
  | 46 => ⟨S1x1x1x192, .f32⟩
  | 47 => ⟨S1x64x64x192, .f32⟩
  | 48 => ⟨S1x64x64x192, .f32⟩
  | 49 => ⟨S1x64x64x192, .f32⟩
  | 50 => ⟨S1x64x64x192, .f32⟩
  | 51 => ⟨S192x1x1x1, .f32⟩
  | 52 => ⟨S192, .f32⟩
  | 53 => ⟨S1x1x1x192, .f32⟩
  | 54 => ⟨S1x64x64x192, .f32⟩
  | 55 => ⟨S1x64x64x192, .f32⟩
  | 56 => ⟨S1x64x64x192, .f32⟩
  | 57 => ⟨S1x64x64x192, .f32⟩
  | 58 => ⟨S192x1x1x1, .f32⟩
  | 59 => ⟨S192, .f32⟩
  | 60 => ⟨S1x1x1x192, .f32⟩
  | 61 => ⟨S1x64x64x192, .f32⟩
  | 62 => ⟨S1x64x64x192, .f32⟩
  | 63 => ⟨S1x64x64x192, .f32⟩
  | 64 => ⟨S1x64x64x192, .f32⟩
  | 65 => ⟨S192x1x1x1, .f32⟩
  | 66 => ⟨S192, .f32⟩
  | 67 => ⟨S1x1x1x192, .f32⟩
  | 68 => ⟨S1x64x64x192, .f32⟩
  | 69 => ⟨S1x64x64x192, .f32⟩
  | 70 => ⟨S1x64x64x192, .f32⟩
  | 71 => ⟨S1x64x64x192, .f32⟩
  | 72 => ⟨S192x1x1x1, .f32⟩
  | 73 => ⟨S192, .f32⟩
  | 74 => ⟨S1x1x1x192, .f32⟩
  | 75 => ⟨S1x64x64x192, .f32⟩
  | 76 => ⟨S1x64x64x192, .f32⟩
  | 77 => ⟨S1x64x64x192, .f32⟩
  | 78 => ⟨S1x64x64x192, .f32⟩
  | 79 => ⟨S192x1x1x1, .f32⟩
  | 80 => ⟨S192, .f32⟩
  | 81 => ⟨S1x1x1x192, .f32⟩
  | 82 => ⟨S1x64x64x192, .f32⟩
  | 83 => ⟨S1x64x64x192, .f32⟩
  | 84 => ⟨S1x64x64x192, .f32⟩
  | 85 => ⟨S1x64x64x192, .f32⟩
  | 86 => ⟨S192x1x1x1, .f32⟩
  | 87 => ⟨S192, .f32⟩
  | 88 => ⟨S1x1x1x192, .f32⟩
  | 89 => ⟨S1x64x64x192, .f32⟩
  | 90 => ⟨S1x64x64x192, .f32⟩
  | 91 => ⟨S1x64x64x192, .f32⟩
  | 92 => ⟨S1x64x64x192, .f32⟩
  | 93 => ⟨S192x1x1x1, .f32⟩
  | 94 => ⟨S192, .f32⟩
  | 95 => ⟨S1x1x1x192, .f32⟩
  | 96 => ⟨S1x64x64x192, .f32⟩
  | 97 => ⟨S1x64x64x192, .f32⟩
  | 98 => ⟨S1x64x64x192, .f32⟩
  | 99 => ⟨S1x1x1x192, .f32⟩
  | 100 => ⟨S1x64x64x192, .f32⟩
  | 101 => ⟨S1x64x64x192, .f32⟩
  | 102 => ⟨S1x64x64x192, .f32⟩
  | 103 => ⟨S1x64x64x192, .f32⟩
  | 104 => ⟨S_, .f32⟩
  | 105 => ⟨S1x64x64x192, .f32⟩
  | 106 => ⟨S1x64x64x192, .f32⟩
  | 107 => ⟨S_, .f32⟩
  | 108 => ⟨S1x64x64x192, .f32⟩
  | 109 => ⟨S1x64x64x192, .f32⟩
  | 110 => ⟨S1x64x64x192, .f32⟩
  | 111 => ⟨S64x12288, .f32⟩
  | 112 => ⟨S1x12288, .f32⟩
  | 113 => ⟨S1x12288, .f32⟩
  | 114 => ⟨S1x12288, .f32⟩
  | 115 => ⟨S1x12288, .f32⟩
  | 116 => ⟨S1x12288, .f32⟩
  | 117 => ⟨S64x768, .f32⟩
  | 118 => ⟨S1x768, .f32⟩
  | 119 => ⟨S1x768, .f32⟩
  | 120 => ⟨S1x768, .f32⟩
  | 121 => ⟨S64x192, .f32⟩
  | 122 => ⟨S1x192, .f32⟩
  | 123 => ⟨S1x192, .f32⟩
  | 124 => ⟨S1x192, .f32⟩
  | 125 => ⟨S64x192, .f32⟩
  | 126 => ⟨S1x192, .f32⟩
  | 127 => ⟨S1x192, .f32⟩
  | _ => ⟨S1x64x64x96, .f32⟩

abbrev hbmTy0_1 (i : Nat) : BufTy := match i % 128 with
  | 0 => ⟨S1x192, .f32⟩
  | 1 => ⟨S4096x192, .f32⟩
  | _ => ⟨S1x64x64x96, .f32⟩

abbrev hbmTy (i : Nat) : BufTy := match i / 128 with
  | 0 => hbmTy0_0 i
  | 1 => hbmTy0_1 i
  | _ => ⟨S1x64x64x96, .f32⟩

abbrev bufTy : (tb : Table) → Fin (tcTables nBuf tb) → BufTy
  | .hbm, ⟨i, _⟩ => hbmTy i
  | _, _ => ⟨S1x64x64x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_call0_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]
-- ==== Proof.Rules.lean ====
/-
  Loads and stores on a buffer whose CONTENTS are named. A buffer is owned at the tensor read through its memref
  (`owns c m q x`); a load of a unit-stride box answers the window of that tensor, and a store of a box leaves the
  tensor with the payload put over the window. Nothing here is about a particular kernel.
-/
module

public import Idealize.ShloMosaic.Lib.Pipeline.FrameBody
public import Idealize.ShloMosaic.Lib.VecWindow
public import Idealize.ShloMosaic.Lib.Tactic

@[expose] public section

noncomputable section

namespace Cert.Scan

open Idealize.ShloMosaic Idealize.ShloMosaic.Tactic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {cs : CoreSpace} {s : Shape} {e : EltTy} {α : Type} {Q : α → sProp (MT nD τ sig Ix Val Name U Lvl)}

local notation "𝕄" => MT nD τ sig Ix Val Name U Lvl

/-- A load of a unit-stride box of a buffer owned at `x` continues with the window of `x`, the ownership kept. -/
theorem load_window {P R : sProp 𝕄} {m : Memref sig c.2.kind cs s e} {q : PosShare TreeShare} {x : s.Idx → Val e}
    {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α}
    (hP : P ⊣⊢ iprop(R ∗ owns c m q x))
    (h : P ⊢ wp frame (wpE defs 𝒱 c bd) E (k (VecWindow.window x off size inb)) Q) :
    P ⊢ wp frame (wpE defs 𝒱 c bd) E (.op (.load m (Rect.unit off size inb).toLoadRect hl) k) Q := by
  refine exec_frame_id hP ?_ h
  unfold owns
  iintro ⟨%f, %hf, H⟩
  subst hf
  iintro Hk
  have hS : m.view.setOn (Rect.unit off size inb).toLoadRect.set ⊆ m.view.set :=
    m.view.setOn_subset_set _
  iapply (wp_load 𝒱 c bd E (hl := hl) (k := k) (Q := Q) hS) $$ H
  iintro H
  iapply Hk
  iexists f
  isplitr
  · ipureintro; rfl
  iexact H

/-- A store of a unit-stride box to a buffer owned at `x` continues with the buffer owned at `x` with the payload put
    over the box. -/
theorem store_put {P R P' : sProp 𝕄} {m : Memref sig c.2.kind cs s e} {x : s.Idx → Val e}
    {off size : Fin s.rank → ℕ} {inb : ∀ a, off a + size a ≤ s.size a}
    {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α}
    (hP : P ⊣⊢ iprop(R ∗ owns c m fullShare x))
    (hP' : P' ⊣⊢ iprop(R ∗ owns c m fullShare (VecWindow.put x off size w)))
    (h : P' ⊢ wp frame (wpE defs 𝒱 c bd) E (k ⟨⟩) Q) :
    P ⊢ wp frame (wpE defs 𝒱 c bd) E (.op (.store m (Rect.unit off size inb) w Finset.univ hx hm) k) Q := by
  refine exec_frame hP hP' ?_ h
  unfold owns
  iintro ⟨%f, %hf, H⟩
  subst hf
  iintro Hk
  iapply (wp_store_writes 𝒱 c bd E (hx := hx) (hm := hm) (k := k) (Q := Q) (L := []) (m.view.set_slice_subset _)) $$ [H]
  · rw [View.writes_nil]; iexact H
  iintro H
  iapply Hk
  iexists _
  isplitr
  rotate_left
  · iexact H
  ipureintro
  rw [View.read_writes_cons_put _ _ inb w [] rfl, View.writes_nil]

/-- The first of several things owned together, last in the reading the rules above take. -/
theorem split_here {PROP : Type*} [BI.BIClass PROP] {A B : PROP} : iprop(A ∗ B) ⊣⊢ iprop(B ∗ A) := sep_comm

/-- The last of them is last already. -/
theorem split_last {PROP : Type*} [BI.BIClass PROP] {A B : PROP} : iprop(A ∗ B) ⊣⊢ iprop(A ∗ B) :=
  ⟨Entails.rfl, Entails.rfl⟩

/-- One of the things after the first. -/
theorem split_next {PROP : Type*} [BI.BIClass PROP] {A B R H : PROP} (h : B ⊣⊢ iprop(R ∗ H)) :
    iprop(A ∗ B) ⊣⊢ iprop((A ∗ R) ∗ H) :=
  ⟨(sep_mono_right h.1).trans sep_assoc.2, sep_assoc.1.trans (sep_mono_right h.2)⟩

end Cert.Scan

end
-- ==== Proof.ScanDefs.lean ====
/-
  The tensors one grid point of the scan call computes, as functions of what it reads: the step sizes, the decays, the
  inputs and the read-out weights of the four directions over a chunk of 128 positions, the states of the recurrence
  along the chunk, and the chunk of the four outputs. They are the body's own operations under names, at any number
  format; `ScanBody` proves that the body computes them.
-/
module

public import proofs.«01_k».proof.KernelIdeal
public import proofs.«01_k».proof.Proof.Gen.KernelIdeal
public import proofs.«01_k».proof.Proof.Rules
public import Idealize.ShloMosaic.Lib.Pipeline.Value
public import Idealize.ShloMosaic.Lib.Pointwise.Index

@[expose] public section

noncomputable section

namespace Cert.KernelIdeal.Scan

open Cert.KernelIdeal Cert.KernelIdeal.Gen Idealize.ShloMosaic Idealize.ShloMosaic.TcCoe
open Idealize.ShloMosaic.VecWindow (window put)

variable {F : FTy → Type} [FloatOps F] [Named F]

/-- A row block as the body loads it: the whole window. -/
def xRow (x : Vec F S128x192 .f32) : Vec F S128x192 .f32 :=
  window x ![0, 0] S128x192.size inb_S128x192_S128x192_0_0

/-- Two columns of the image laid one after the other. -/
def xCol (x : Vec F S64x2x1x192 .f32) : FVec F S128x192 .f32 :=
  concatenate S128x192 0
    [⟨S64x192, shapeCast S64x192 (window x ![0, 0, 0, 0] S64x1x1x192.size inb_S64x2x1x192_S64x1x1x192_0_0_0_0) shapeCasts_S64x1x1x192_S64x192⟩,
     ⟨S64x192, shapeCast S64x192 (window x ![0, 1, 0, 0] S64x1x1x192.size inb_S64x2x1x192_S64x1x1x192_0_1_0_0) shapeCasts_S64x1x1x192_S64x192⟩]
    concatenates_S64x192_S64x192_S128x192_d0

/-- The projection of a chunk: its 76 columns hold step-size rank, input and read-out weights of both directions of a pair. -/
def proj (x : FVec F S128x192 .f32) (w : Vec F S1x76x192 .f32) : FVec F S128x76 .f32 :=
  matmul dot_S128x192_S76x192_S128x76_1_1_0_0_n_n none x (shapeCast S76x192 w shapeCasts_S1x76x192_S76x192)
    (constant S128x76 .f32 0x00000000#32)

/-- The raw step sizes of both directions of a pair in units of log 2, before the softplus. -/
def draw (pf pb : FVec F S128x76 .f32) (w : Vec F S1x12x384 .f32) (b : Vec F S1x1x384 .f32) : FVec F S128x384 .f32 :=
  addf
    (matmul dot_S128x12_S12x384_S128x384_1_0_0_1_n_n none
      (concatenate S128x12 1
        [⟨S128x6, extractStridedSlice S128x6 ![0, 0] pf slices_S128x76_o0_0_S128x6⟩,
         ⟨S128x6, extractStridedSlice S128x6 ![0, 38] pb slices_S128x76_o0_38_S128x6⟩]
        concatenates_S128x6_S128x6_S128x12_d1)
      (mulf (shapeCast S12x384 w shapeCasts_S1x12x384_S12x384) (broadcast S12x384 (Named.named κ "log2e" 0x3FB8AA3B#32)))
      (constant S128x384 .f32 0x00000000#32))
    (broadcastTo S128x384
      (mulf (shapeCast S1x384 b shapeCasts_S1x1x384_S1x384) (broadcast S1x384 (Named.named κ "log2e" 0x3FB8AA3B#32)))
      broadcasts_S1x384_S128x384)

/-- The base-two softplus of the raw step sizes. -/
def softplus2 (z : FVec F S128x384 .f32) : FVec F S128x384 .f32 :=
  addf (maximumf z (broadcast S128x384 (Scalar.ofBits .f32 0x00000000#32)))
    (mulf
      (log (addf (broadcast S128x384 (Scalar.ofBits .f32 0x3F800000#32))
        (exp2 (subf (broadcast S128x384 (Scalar.ofBits .f32 0x00000000#32)) (absf z)))))
      (broadcast S128x384 (Named.named κ "log2e" 0x3FB8AA3B#32)))

/-- The forward direction's half of a pair's step sizes, -/
def qF (q : FVec F S128x384 .f32) : FVec F S128x192 .f32 :=
  extractStridedSlice S128x192 ![0, 0] q slices_S128x384_o0_0_S128x192
/-- and the backward direction's. -/
def qB (q : FVec F S128x384 .f32) : FVec F S128x192 .f32 :=
  extractStridedSlice S128x192 ![0, 192] q slices_S128x384_o0_192_S128x192

/-- The decays of a chunk in one direction. -/
def decay (q : FVec F S128x192 .f32) (a : Vec F S1x1x16x192 .f32) : FVec F S1x128x16x192 .f32 :=
  shapeCast S1x128x16x192
    (exp2 (mulf
      (broadcastTo S128x16x192 (shapeCast S128x1x192 q shapeCasts_S128x192_S128x1x192) broadcasts_S128x1x192_S128x16x192)
      (broadcastTo S128x16x192
        (shapeCast S1x16x192 (shapeCast S16x192 a shapeCasts_S1x1x16x192_S16x192) shapeCasts_S16x192_S1x16x192)
        broadcasts_S1x16x192_S128x16x192)))
    shapeCasts_S128x16x192_S1x128x16x192

/-- A forward projection's input and read-out columns, -/
def bcF (p : FVec F S128x76 .f32) : FVec F S128x32 .f32 :=
  extractStridedSlice S128x32 ![0, 6] p slices_S128x76_o0_6_S128x32
/-- and a backward one's. -/
def bcB (p : FVec F S128x76 .f32) : FVec F S128x32 .f32 :=
  extractStridedSlice S128x32 ![0, 44] p slices_S128x76_o0_44_S128x32

/-- Input and read-out weights spread over the channels by a product with 0/1 tables. -/
def spread (bc : FVec F S128x32 .f32) (sel : Vec F S2048x32 .f32) (bones : Vec F S32x384 .f32) : FVec F S2048x384 .f32 :=
  matmul dot_S2048x32_S32x384_S2048x384_1_0_0_1_n_n none
    (mulf
      (shapeCast S2048x32
        (broadcastTo S128x16x32
          (shapeCast S128x1x32 (shapeCast S128x1x32 bc shapeCasts_S128x32_S128x1x32) shapeCasts_S128x1x32_S128x1x32)
          broadcasts_S128x1x32_S128x16x32)
        shapeCasts_S128x16x32_S2048x32)
      (shapeCast S2048x32 (window sel ![0, 0] S2048x32.size inb_S2048x32_S2048x32_0_0) shapeCasts_S2048x32_S2048x32))
    (shapeCast S32x384 (window bones ![0, 0] S32x384.size inb_S32x384_S32x384_0_0) shapeCasts_S32x384_S32x384)
    (constant S2048x384 .f32 0x00000000#32)

/-- What a chunk adds to the states in one direction. -/
def drive (g : FVec F S2048x384 .f32) (q x : FVec F S128x192 .f32) : FVec F S1x128x16x192 .f32 :=
  shapeCast S1x128x16x192
    (mulf
      (shapeCast S128x16x192
        (mulf (extractStridedSlice S2048x192 ![0, 0] g slices_S2048x384_o0_0_S2048x192)
          (broadcast S2048x192 (Named.named κ "ln2" 0x3F317218#32)))
        shapeCasts_S2048x192_S128x16x192)
      (broadcastTo S128x16x192 (shapeCast S128x1x192 (mulf q x) shapeCasts_S128x192_S128x1x192) broadcasts_S128x1x192_S128x16x192))
    shapeCasts_S128x16x192_S1x128x16x192

/-- What a chunk reads the states with in one direction. -/
def readout (g : FVec F S2048x384 .f32) : FVec F S1x128x16x192 .f32 :=
  shapeCast S1x128x16x192
    (shapeCast S128x16x192 (extractStridedSlice S2048x192 ![0, 192] g slices_S2048x384_o0_192_S2048x192) shapeCasts_S2048x192_S128x16x192)
    shapeCasts_S128x16x192_S1x128x16x192

/-- Four slabs, one a direction, as one tensor. -/
def slabs (u0 u1 u2 u3 : FVec F S1x128x16x192 .f32) : Vec F S4x128x16x192 .f32 := fun y =>
  (if (y 0).val = 3 then u3 else if (y 0).val = 2 then u2 else if (y 0).val = 1 then u1 else u0) (ix4 (0 : Fin 1) (y 1) (y 2) (y 3))

/-- Row `t` of slab `d`. -/
def rowT (A : Vec F S4x128x16x192 .f32) (d t : ℕ) : Vec F S1x1x16x192 .f32 := fun y =>
  A fun a => ⟨((![d, t, 0, 0] : Fin 4 → ℕ) a + (y a).val) % S4x128x16x192.size a,
    Nat.mod_lt _ ((by decide : ∀ a : Fin 4, 0 < S4x128x16x192.size a) a)⟩

/-- Slab `d` of the carried states. -/
def rowH (H : Vec F S4x16x192 .f32) (d : ℕ) : Vec F S1x16x192 .f32 := fun y =>
  H fun a => ⟨((![d, 0, 0] : Fin 3 → ℕ) a + (y a).val) % S4x16x192.size a,
    Nat.mod_lt _ ((by decide : ∀ a : Fin 3, 0 < S4x16x192.size a) a)⟩

/-- One step of the recurrence at row `t` of slab `d`. -/
def stepAt (A B : Vec F S4x128x16x192 .f32) (d t : ℕ) (h : FVec F S16x192 .f32) : FVec F S16x192 .f32 :=
  addf (mulf (shapeCast S16x192 (rowT A d t) shapeCasts_S1x1x16x192_S16x192) h)
    (shapeCast S16x192 (rowT B d t) shapeCasts_S1x1x16x192_S16x192)

/-- The state a direction enters the chunk with. -/
def enterH (H : Vec F S4x16x192 .f32) (d : ℕ) : FVec F S16x192 .f32 :=
  shapeCast S16x192 (rowH H d) shapeCasts_S1x16x192_S16x192

/-- The state after row `t`, the rows taken upwards. -/
def stF (A B : Vec F S4x128x16x192 .f32) (H : Vec F S4x16x192 .f32) (d : ℕ) : ℕ → FVec F S16x192 .f32
  | 0 => stepAt A B d 0 (enterH H d)
  | t + 1 => stepAt A B d (t + 1) (stF A B H d t)

/-- The state after `n + 1` rows taken downwards from row 127, -/
def stD (A B : Vec F S4x128x16x192 .f32) (H : Vec F S4x16x192 .f32) (d : ℕ) : ℕ → FVec F S16x192 .f32
  | 0 => stepAt A B d 127 (enterH H d)
  | n + 1 => stepAt A B d (126 - n) (stD A B H d n)

/-- which is the state after row `t` for `n = 127 - t`. -/
def stB (A B : Vec F S4x128x16x192 .f32) (H : Vec F S4x16x192 .f32) (d t : ℕ) : FVec F S16x192 .f32 :=
  stD A B H d (127 - t)

/-- The state after row `t` in direction `d`: the even directions run upwards, the odd ones downwards. -/
def st (A B : Vec F S4x128x16x192 .f32) (H : Vec F S4x16x192 .f32) (d t : ℕ) : FVec F S16x192 .f32 :=
  if d % 2 = 0 then stF A B H d t else stB A B H d t

/-- All the states of direction `d` over the chunk. -/
def states (A B : Vec F S4x128x16x192 .f32) (H : Vec F S4x16x192 .f32) (d : ℕ) : Vec F S1x128x16x192 .f32 := fun y =>
  st A B H d (y 1).val fun a => match a with | 0 => y 2 | 1 => y 3

/-- The output of a chunk in one direction: the states read out and summed over the state index by a product with a
    0/1 table, plus the skip. -/
def outY (s cb : Vec F S1x128x16x192 .f32) (pt : Vec F S128x2048 .f32) (dsk : Vec F S1x1x192 .f32) (x : FVec F S128x192 .f32) :
    FVec F S128x192 .f32 :=
  addf
    (matmul dot_S128x2048_S2048x192_S128x192_1_0_0_1_n_n none
      (shapeCast S128x2048 (window pt ![0, 0] S128x2048.size inb_S128x2048_S128x2048_0_0) shapeCasts_S128x2048_S128x2048)
      (shapeCast S2048x192
        (mulf (shapeCast S128x16x192 s shapeCasts_S1x128x16x192_S128x16x192) (shapeCast S128x16x192 cb shapeCasts_S1x128x16x192_S128x16x192))
        shapeCasts_S128x16x192_S2048x192)
      (constant S128x192 .f32 0x00000000#32))
    (mulf (broadcastTo S128x192 (shapeCast S1x192 dsk shapeCasts_S1x1x192_S1x192) broadcasts_S1x192_S128x192) x)

/-- A column output: the two halves of the chunk are the two columns of the block. -/
def colBlock (y : FVec F S128x192 .f32) : Vec F S64x2x1x192 .f32 := fun i =>
  if (i 1).val = 1 then
    shapeCast S64x1x1x192 (extractStridedSlice S64x192 ![64, 0] y slices_S128x192_o64_0_S64x192) shapeCasts_S64x192_S64x1x1x192
      (ix4 (i 0) (0 : Fin 1) (0 : Fin 1) (i 3))
  else
    shapeCast S64x1x1x192 (extractStridedSlice S64x192 ![0, 0] y slices_S128x192_o0_0_S64x192) shapeCasts_S64x192_S64x1x1x192
      (ix4 (i 0) (0 : Fin 1) (0 : Fin 1) (i 3))

/-- The states the next chunk enters with. -/
def leaveH (h0 h1 h2 h3 : FVec F S16x192 .f32) : Vec F S4x16x192 .f32 := fun y =>
  (if (y 0).val = 3 then shapeCast S1x16x192 h3 shapeCasts_S16x192_S1x16x192
    else if (y 0).val = 2 then shapeCast S1x16x192 h2 shapeCasts_S16x192_S1x16x192
    else if (y 0).val = 1 then shapeCast S1x16x192 h1 shapeCasts_S16x192_S1x16x192
    else shapeCast S1x16x192 h0 shapeCasts_S16x192_S1x16x192) (ix3 (0 : Fin 1) (y 1) (y 2))

/-- The condition the body tests: this is the first grid point. -/
def isFirst (i : grid0.Coords) : Prop :=
  Scalar.cmpi .ne (Scalar.extui (Scalar.cmpi .eq (BitVec.ofNat 32 (i 0).val) 0#32)) (0#32 : BitVec 32) = 1#1

instance (i : grid0.Coords) : Decidable (isFirst i) := inferInstanceAs (Decidable (_ = _))

/-- The carried states at the first grid point: zero. -/
def zeroH : Vec F S4x16x192 .f32 := fun _ => Scalar.ofBits .f32 0x00000000#32

variable (F) in
/-- The twelve input blocks of one grid point: the four readings of the image, the weights, and the 0/1 tables. -/
structure Blocks where
  x0 : Vec F S128x192 .f32
  x1 : Vec F S128x192 .f32
  x2 : Vec F S64x2x1x192 .f32
  x3 : Vec F S64x2x1x192 .f32
  x4 : Vec F S2x76x192 .f32
  x5 : Vec F S2x12x384 .f32
  x6 : Vec F S2x1x384 .f32
  x7 : Vec F S2x2x16x192 .f32
  x8 : Vec F S2x2x192 .f32
  x9 : Vec F S128x2048 .f32
  x10 : Vec F S2048x32 .f32
  x11 : Vec F S32x384 .f32

namespace Blocks

variable (b : Blocks F)

/-- The projections of the four readings, -/
def pr0 : FVec F S128x76 .f32 := proj (xRow b.x0) (window b.x4 ![0, 0, 0] S1x76x192.size inb_S2x76x192_S1x76x192_0_0_0)
def pr1 : FVec F S128x76 .f32 := proj (xRow b.x1) (window b.x4 ![0, 0, 0] S1x76x192.size inb_S2x76x192_S1x76x192_0_0_0)
def pr2 : FVec F S128x76 .f32 := proj (xCol b.x2) (window b.x4 ![1, 0, 0] S1x76x192.size inb_S2x76x192_S1x76x192_1_0_0)
def pr3 : FVec F S128x76 .f32 := proj (xCol b.x3) (window b.x4 ![1, 0, 0] S1x76x192.size inb_S2x76x192_S1x76x192_1_0_0)

/-- the step sizes of the two pairs, -/
def q01 : FVec F S128x384 .f32 :=
  softplus2 (draw b.pr0 b.pr1 (window b.x5 ![0, 0, 0] S1x12x384.size inb_S2x12x384_S1x12x384_0_0_0)
    (window b.x6 ![0, 0, 0] S1x1x384.size inb_S2x1x384_S1x1x384_0_0_0))
def q23 : FVec F S128x384 .f32 :=
  softplus2 (draw b.pr2 b.pr3 (window b.x5 ![1, 0, 0] S1x12x384.size inb_S2x12x384_S1x12x384_1_0_0)
    (window b.x6 ![1, 0, 0] S1x1x384.size inb_S2x1x384_S1x1x384_1_0_0))

/-- the weights spread over the channels, -/
def g0 : FVec F S2048x384 .f32 := spread (bcF b.pr0) b.x10 b.x11
def g1 : FVec F S2048x384 .f32 := spread (bcB b.pr1) b.x10 b.x11
def g2 : FVec F S2048x384 .f32 := spread (bcF b.pr2) b.x10 b.x11
def g3 : FVec F S2048x384 .f32 := spread (bcB b.pr3) b.x10 b.x11

/-- the decays, -/
def A : Vec F S4x128x16x192 .f32 :=
  slabs (decay (qF b.q01) (window b.x7 ![0, 0, 0, 0] S1x1x16x192.size inb_S2x2x16x192_S1x1x16x192_0_0_0_0))
    (decay (qB b.q01) (window b.x7 ![0, 1, 0, 0] S1x1x16x192.size inb_S2x2x16x192_S1x1x16x192_0_1_0_0))
    (decay (qF b.q23) (window b.x7 ![1, 0, 0, 0] S1x1x16x192.size inb_S2x2x16x192_S1x1x16x192_1_0_0_0))
    (decay (qB b.q23) (window b.x7 ![1, 1, 0, 0] S1x1x16x192.size inb_S2x2x16x192_S1x1x16x192_1_1_0_0))

/-- what the chunk adds to the states, -/
def B : Vec F S4x128x16x192 .f32 :=
  slabs (drive b.g0 (qF b.q01) (xRow b.x0)) (drive b.g1 (qB b.q01) (xRow b.x1))
    (drive b.g2 (qF b.q23) (xCol b.x2)) (drive b.g3 (qB b.q23) (xCol b.x3))

/-- what it reads them with, -/
def C : Vec F S4x128x16x192 .f32 := slabs (readout b.g0) (readout b.g1) (readout b.g2) (readout b.g3)

variable (H : Vec F S4x16x192 .f32)

/-- the states it leaves, having entered with `H`, -/
def next : Vec F S4x16x192 .f32 :=
  leaveH (stF b.A b.B H 0 127) (stB b.A b.B H 1 0) (stF b.A b.B H 2 127) (stB b.A b.B H 3 0)

/-- and the four outputs. -/
def y0 : FVec F S128x192 .f32 :=
  outY (states b.A b.B H 0) (window b.C ![0, 0, 0, 0] S1x128x16x192.size inb_S4x128x16x192_S1x128x16x192_0_0_0_0) b.x9
    (window b.x8 ![0, 0, 0] S1x1x192.size inb_S2x2x192_S1x1x192_0_0_0) (xRow b.x0)
def y1 : FVec F S128x192 .f32 :=
  outY (states b.A b.B H 1) (window b.C ![1, 0, 0, 0] S1x128x16x192.size inb_S4x128x16x192_S1x128x16x192_1_0_0_0) b.x9
    (window b.x8 ![0, 1, 0] S1x1x192.size inb_S2x2x192_S1x1x192_0_1_0) (xRow b.x1)
def y2 : FVec F S128x192 .f32 :=
  outY (states b.A b.B H 2) (window b.C ![2, 0, 0, 0] S1x128x16x192.size inb_S4x128x16x192_S1x128x16x192_2_0_0_0) b.x9
    (window b.x8 ![1, 0, 0] S1x1x192.size inb_S2x2x192_S1x1x192_1_0_0) (xCol b.x2)
def y3 : FVec F S128x192 .f32 :=
  outY (states b.A b.B H 3) (window b.C ![3, 0, 0, 0] S1x128x16x192.size inb_S4x128x16x192_S1x128x16x192_3_0_0_0) b.x9
    (window b.x8 ![1, 1, 0] S1x1x192.size inb_S2x2x192_S1x1x192_1_1_0) (xCol b.x3)

end Blocks

end Cert.KernelIdeal.Scan

end
-- ==== Proof.ScanSlabs.lean ====
/-
  The tensors of one grid point over the extended reals, read at an index.
-/
module

public import proofs.«01_k».proof.Proof.ScanDefs
public import Idealize.ShloMosaic.Lib.Pointwise

@[expose] public section

set_option maxRecDepth 16384

noncomputable section

namespace Cert.KernelIdeal.Scan

open Cert.KernelIdeal Cert.KernelIdeal.Gen Idealize.ShloMosaic Idealize.ShloMosaic.TcCoe
open Idealize.ShloMosaic.VecWindow (window put)

/-- 1 / log 2 and log 2, the two constants of the body's base-two step sizes. -/
def invLog : EReal := (((Real.log 2)⁻¹ : ℝ) : EReal)
def logTwo : EReal := ((Real.log 2 : ℝ) : EReal)

theorem named_log2e : (Named.named κ "log2e" 0x3FB8AA3B#32 : Ideal .f32) = invLog :=
  IdealRules.named_const.ideal_named_scalar _ _ _ _ rfl

theorem named_ln2 : (Named.named κ "ln2" 0x3F317218#32 : Ideal .f32) = logTwo :=
  IdealRules.named_const.ideal_named_scalar _ _ _ _ rfl

theorem proj_apply (x : FVec Ideal S128x192 .f32) (w : Vec Ideal S1x76x192 .f32) (s : Fin 128) (k : Fin 76) :
    proj x w (ix2 s k) = ∑ e : Fin 192, x (ix2 s e) * w (ix3 (0 : Fin 1) k e) := by
  pointwise [proj]

theorem draw_apply (pf pb : FVec Ideal S128x76 .f32) (w : Vec Ideal S1x12x384 .f32) (b : Vec Ideal S1x1x384 .f32) (s : Fin 128)
    (j : Fin 384) :
    draw pf pb w b (ix2 s j) =
      (∑ r : Fin 6, pf (ix2 s ⟨r.val, by omega⟩) * (w (ix3 (0 : Fin 1) ⟨r.val, by omega⟩ j) * invLog))
        + (∑ r : Fin 6, pb (ix2 s ⟨38 + r.val, by omega⟩) * (w (ix3 (0 : Fin 1) ⟨6 + r.val, by omega⟩ j) * invLog))
        + b (ix3 (0 : Fin 1) (0 : Fin 1) j) * invLog := by
  pointwise [draw, named_log2e]

theorem softplus2_apply (z : FVec Ideal S128x384 .f32) (j : S128x384.Idx) :
    softplus2 z j = max (z j) 0 + Ideal.log (1 + Ideal.exp2 (0 - max (z j) (-z j))) * invLog := by
  pointwise [softplus2, named_log2e]
  rfl

theorem decay_apply (q : FVec Ideal S128x192 .f32) (a : Vec Ideal S1x1x16x192 .f32) (s : Fin 128) (n : Fin 16) (d : Fin 192) :
    decay q a (ix4 (0 : Fin 1) s n d) = Ideal.exp2 (q (ix2 s d) * a (ix4 (0 : Fin 1) (0 : Fin 1) n d)) := by
  pointwise [decay]
  rfl

theorem bcF_apply (p : FVec Ideal S128x76 .f32) (s : Fin 128) (k : Fin 32) : bcF p (ix2 s k) = p (ix2 s ⟨6 + k.val, by omega⟩) := by
  pointwise [bcF]

theorem bcB_apply (p : FVec Ideal S128x76 .f32) (s : Fin 128) (k : Fin 32) : bcB p (ix2 s k) = p (ix2 s ⟨44 + k.val, by omega⟩) := by
  pointwise [bcB]

theorem qF_apply (q : FVec Ideal S128x384 .f32) (s : Fin 128) (d : Fin 192) : qF q (ix2 s d) = q (ix2 s ⟨d.val, by omega⟩) := by
  pointwise [qF]

theorem qB_apply (q : FVec Ideal S128x384 .f32) (s : Fin 128) (d : Fin 192) : qB q (ix2 s d) = q (ix2 s ⟨192 + d.val, by omega⟩) := by
  pointwise [qB]

theorem window_whole {S : Shape} (x : Vec Ideal S .f32) (off : Fin S.rank → ℕ) (h : ∀ a, off a = 0)
    (inb : ∀ a, off a + S.size a ≤ S.size a) : window x off S.size inb = x := by
  funext y
  exact congrArg x (funext fun a => Fin.ext (by
    show off a + 1 * (y a).val = (y a).val
    rw [h a]; omega))

theorem spread_apply (bc : FVec Ideal S128x32 .f32) (sel : Vec Ideal S2048x32 .f32) (bones : Vec Ideal S32x384 .f32)
    (r : Fin 2048) (j : Fin 384) :
    spread bc sel bones (ix2 r j) =
      ∑ q : Fin 32, bc (ix2 ⟨r.val / 16, by omega⟩ q) * sel (ix2 r q) * bones (ix2 q j) := by
  unfold spread
  rw [window_whole sel _ (by decide), window_whole bones _ (by decide)]
  pointwise

theorem drive_apply (g : FVec Ideal S2048x384 .f32) (q x : FVec Ideal S128x192 .f32) (s : Fin 128) (n : Fin 16) (d : Fin 192) :
    drive g q x (ix4 (0 : Fin 1) s n d) =
      g (ix2 ⟨s.val * 16 + n.val, by omega⟩ ⟨d.val, by omega⟩) * logTwo * (q (ix2 s d) * x (ix2 s d)) := by
  pointwise [drive, named_ln2]

theorem readout_apply (g : FVec Ideal S2048x384 .f32) (s : Fin 128) (n : Fin 16) (d : Fin 192) :
    readout g (ix4 (0 : Fin 1) s n d) = g (ix2 ⟨s.val * 16 + n.val, by omega⟩ ⟨192 + d.val, by omega⟩) := by
  pointwise [readout]

theorem outY_apply (s cb : Vec Ideal S1x128x16x192 .f32) (pt : Vec Ideal S128x2048 .f32) (dsk : Vec Ideal S1x1x192 .f32)
    (x : FVec Ideal S128x192 .f32) (t : Fin 128) (d : Fin 192) :
    outY s cb pt dsk x (ix2 t d) =
      (∑ q : Fin 2048, pt (ix2 t q) *
          (s (ix4 (0 : Fin 1) ⟨q.val / 16, by omega⟩ ⟨q.val % 16, by omega⟩ d)
            * cb (ix4 (0 : Fin 1) ⟨q.val / 16, by omega⟩ ⟨q.val % 16, by omega⟩ d)))
        + dsk (ix3 (0 : Fin 1) (0 : Fin 1) d) * x (ix2 t d) := by
  unfold outY
  rw [window_whole pt _ (by decide)]
  pointwise

theorem xRow_eq (x : Vec Ideal S128x192 .f32) : xRow x = x := window_whole x _ (by decide) _

theorem xCol_apply (x : Vec Ideal S64x2x1x192 .f32) (s : Fin 128) (d : Fin 192) :
    xCol x (ix2 s d) = x (ix4 ⟨s.val % 64, by omega⟩ ⟨s.val / 64, by omega⟩ (0 : Fin 1) d) := by
  pointwise [xCol, window]
  split
  · refine congrArg x (funext fun a => Fin.ext ?_)
    fin_cases a
    · show 0 + 1 * s.val = s.val % 64; omega
    · show 0 + 1 * 0 = s.val / 64; omega
    · rfl
    · show 0 + 1 * d.val = d.val; omega
  · refine congrArg x (funext fun a => Fin.ext ?_)
    fin_cases a
    · show 0 + 1 * (s.val - 64) = s.val % 64; omega
    · show 1 + 1 * 0 = s.val / 64; omega
    · rfl
    · show 0 + 1 * d.val = d.val; omega

theorem colBlock_apply (y : FVec Ideal S128x192 .f32) (h : Fin 64) (w : Fin 2) (d : Fin 192) :
    colBlock y (ix4 h w (0 : Fin 1) d) = y (ix2 ⟨64 * w.val + h.val, by omega⟩ d) := by
  pointwise [colBlock]
  split
  · exact congrArg y (congrArg₂ ix2 (Fin.ext (by simp only; omega)) rfl)
  · exact congrArg y (congrArg₂ ix2 (Fin.ext (by simp only; omega)) rfl)

/-- A window at an index is the tensor at the shifted index. -/
theorem window_at {S : Shape} (x : Vec Ideal S .f32) {off size : Fin S.rank → ℕ} (inb : ∀ a, off a + size a ≤ S.size a)
    (y : (⟨S.rank, size⟩ : Shape).Idx) (z : S.Idx) (h : ∀ a, (z a).val = off a + (y a).val) :
    window x off size inb y = x z :=
  congrArg x (funext fun a => Fin.ext (by
    show off a + 1 * (y a).val = (z a).val
    rw [h a]; omega))

theorem slabs_apply (u : Fin 4 → FVec Ideal S1x128x16x192 .f32) (e : Fin 4) (s : Fin 128) (n : Fin 16) (d : Fin 192) :
    slabs (u 0) (u 1) (u 2) (u 3) (ix4 e s n d) = u e (ix4 (0 : Fin 1) s n d) := by
  unfold slabs
  fin_cases e <;> rfl

theorem leaveH_apply (u : Fin 4 → FVec Ideal S16x192 .f32) (e : Fin 4) (n : Fin 16) (d : Fin 192) :
    leaveH (u 0) (u 1) (u 2) (u 3) (ix3 e n d) = u e (ix2 n d) := by
  unfold leaveH
  fin_cases e <;> pointwise

theorem enterH_apply (H : Vec Ideal S4x16x192 .f32) (e : Fin 4) (n : Fin 16) (d : Fin 192) :
    enterH H e.val (ix2 n d) = H (ix3 e n d) := by
  pointwise [enterH, rowH]
  refine congrArg H (funext fun a => Fin.ext ?_)
  fin_cases a
  · show (e.val + 0) % 4 = e.val; omega
  · show (0 + n.val) % 16 = n.val; omega
  · show (0 + d.val) % 192 = d.val; omega

theorem rowT_apply (A : Vec Ideal S4x128x16x192 .f32) (e : Fin 4) (t : Fin 128) (n : Fin 16) (d : Fin 192) :
    rowT A e.val t.val (ix4 (0 : Fin 1) (0 : Fin 1) n d) = A (ix4 e t n d) := by
  unfold rowT
  refine congrArg A (funext fun a => Fin.ext ?_)
  fin_cases a
  · show (e.val + 0) % 4 = e.val; omega
  · show (t.val + 0) % 128 = t.val; omega
  · show (0 + n.val) % 16 = n.val; omega
  · show (0 + d.val) % 192 = d.val; omega

theorem stepAt_apply (A B : Vec Ideal S4x128x16x192 .f32) (h : FVec Ideal S16x192 .f32) (e : Fin 4) (t : Fin 128) (n : Fin 16)
    (d : Fin 192) :
    stepAt A B e.val t.val h (ix2 n d) = A (ix4 e t n d) * h (ix2 n d) + B (ix4 e t n d) := by
  rw [← rowT_apply A, ← rowT_apply B]
  pointwise [stepAt]

theorem states_apply (A B : Vec Ideal S4x128x16x192 .f32) (H : Vec Ideal S4x16x192 .f32) (e : ℕ) (t : Fin 128) (n : Fin 16)
    (d : Fin 192) :
    states A B H e (ix4 (0 : Fin 1) t n d) = st A B H e t.val (ix2 n d) := by
  unfold states
  refine congrArg (st A B H e t.val) (funext fun a => ?_)
  fin_cases a <;> rfl

/-- The place of row `t` in the order a direction takes the rows of a chunk. -/
def ord (e t : ℕ) : ℕ := if e % 2 = 0 then t else 127 - t

/-- The recurrence `h (l + 1) = a l * h l + b l` from zero. -/
def hs (a b : ℕ → EReal) : ℕ → EReal
  | 0 => 0
  | l + 1 => a l * hs a b l + b l

/-- If the rows of a slab hold the recurrence's coefficients from position `l₀` on and the entering states are the
    recurrence's at `l₀`, the states along the chunk are the recurrence's. -/
theorem st_value (A B : Vec Ideal S4x128x16x192 .f32) (H : Vec Ideal S4x16x192 .f32) (e : Fin 4) (n : Fin 16) (d : Fin 192)
    (a b : ℕ → EReal) (l₀ : ℕ) (hA : ∀ t : Fin 128, A (ix4 e t n d) = a (l₀ + ord e.val t.val))
    (hB : ∀ t : Fin 128, B (ix4 e t n d) = b (l₀ + ord e.val t.val)) (hH : H (ix3 e n d) = hs a b l₀) (t : Fin 128) :
    st A B H e.val t.val (ix2 n d) = hs a b (l₀ + ord e.val t.val + 1) := by
  by_cases he : e.val % 2 = 0
  · have key : ∀ i (hi : i < 128), stF A B H e.val i (ix2 n d) = hs a b (l₀ + i + 1) := by
      intro i
      induction i with
      | zero =>
        intro hi
        refine (stepAt_apply A B _ e ⟨0, hi⟩ n d).trans ?_
        rw [hA, hB, enterH_apply, hH]
        simp only [ord, if_pos he]; rfl
      | succ i ih =>
        intro hi
        refine (stepAt_apply A B _ e ⟨i + 1, hi⟩ n d).trans ?_
        rw [hA, hB, ih (by omega)]
        simp only [ord, if_pos he]; rfl
    simp only [st, ord, if_pos he]
    exact key _ t.isLt
  · have key : ∀ i (hi : i < 128), stD A B H e.val i (ix2 n d) = hs a b (l₀ + i + 1) := by
      intro i
      induction i with
      | zero =>
        intro hi
        refine (stepAt_apply A B _ e ⟨127, by omega⟩ n d).trans ?_
        rw [hA, hB, enterH_apply, hH]
        simp only [ord, if_neg he]; rfl
      | succ i ih =>
        intro hi
        refine (stepAt_apply A B _ e ⟨126 - i, by omega⟩ n d).trans ?_
        rw [hA, hB, ih (by omega)]
        simp only [ord, if_neg he]
        rw [show l₀ + (127 - (126 - i)) = l₀ + i + 1 by omega]; rfl
    simp only [st, ord, if_neg he, stB]
    exact key _ (by omega)

end Cert.KernelIdeal.Scan

end
-- ==== Proof.ScanMath.lean ====
/-
  The selective scan along four directions over the extended reals, in plain terms: what each direction reads at each
  step, the step sizes, the recurrence of the states, and the outputs. Beside it the algebra that lets step sizes be
  kept in units of log 2.
-/
module

public import proofs.«01_k».proof.Proof.ScanSlabs

@[expose] public section

noncomputable section

namespace Cert.ScanMath

open Idealize.ShloMosaic Cert.KernelIdeal.Scan

/-- The arguments, by their coordinates: the image by pixel and channel, the state matrices by direction, channel and
    state, the skips, the projections, the step-size projections and their offsets. -/
structure Args where
  X : Fin 4096 → Fin 192 → EReal
  A : Fin 4 → Fin 192 → Fin 16 → EReal
  D : Fin 4 → Fin 192 → EReal
  Wx : Fin 4 → Fin 38 → Fin 192 → EReal
  Wd : Fin 4 → Fin 192 → Fin 6 → EReal
  bd : Fin 4 → Fin 192 → EReal

/-- The pixel that direction `k` reads at step `l`: row by row, column by column, and both from the end. -/
def pix (k l : ℕ) : ℕ :=
  if k = 0 then l else if k = 1 then l % 64 * 64 + l / 64 else if k = 2 then 4095 - l
  else (4095 - l) % 64 * 64 + (4095 - l) / 64

/-- The softplus. -/
def softplus (z : EReal) : EReal := max z 0 + Ideal.log1p (Ideal.exp (-max z (-z)))

namespace Args

variable (T : Args) (k : Fin 4)

/-- What direction `k` reads at step `l`. -/
def x (l : ℕ) (d : Fin 192) : EReal := T.X ⟨pix k.val l % 4096, Nat.mod_lt _ (by decide)⟩ d

/-- The projection of what it reads: step-size rank, input weights, read-out weights. -/
def xd (l : ℕ) (j : Fin 38) : EReal := ∑ e : Fin 192, T.x k l e * T.Wx k j e

/-- The raw step size, -/
def z (l : ℕ) (d : Fin 192) : EReal := ∑ r : Fin 6, T.xd k l ⟨r.val, by omega⟩ * T.Wd k d r + T.bd k d

/-- the step size, -/
def δ (l : ℕ) (d : Fin 192) : EReal := softplus (T.z k l d)

/-- the decay, -/
def a (n : Fin 16) (d : Fin 192) (l : ℕ) : EReal := Ideal.exp (T.δ k l d * T.A k d n)

/-- the input, -/
def b (n : Fin 16) (d : Fin 192) (l : ℕ) : EReal := T.δ k l d * T.x k l d * T.xd k l ⟨6 + n.val, by omega⟩

/-- the state before step `l`, -/
def h (n : Fin 16) (d : Fin 192) (l : ℕ) : EReal := hs (T.a k n d) (T.b k n d) l

/-- and the output of step `l`. -/
def y (l : ℕ) (d : Fin 192) : EReal :=
  ∑ n : Fin 16, T.h k n d (l + 1) * T.xd k l ⟨22 + n.val, by omega⟩ + T.D k d * T.x k l d

end Args

/-! ## Units of log 2 -/

theorem log_pos : 0 < Real.log 2 := Real.log_pos (by norm_num)

theorem invLog_pos : (0 : ℝ) < (Real.log 2)⁻¹ := inv_pos.2 log_pos

theorem invLog_nonneg : (0 : EReal) ≤ invLog := EReal.coe_nonneg.2 invLog_pos.le

theorem invLog_ne_top : invLog ≠ ⊤ := EReal.coe_ne_top _

theorem logTwo_mul_invLog : logTwo * invLog = 1 := by
  rw [logTwo, invLog, ← EReal.coe_mul, mul_inv_cancel₀ log_pos.ne', EReal.coe_one]

theorem invLog_mul_add (u v : EReal) : invLog * (u + v) = invLog * u + invLog * v :=
  EReal.left_distrib_of_nonneg_of_ne_top invLog_nonneg invLog_ne_top u v

theorem invLog_mul_sum {ι : Type} (s : Finset ι) (f : ι → EReal) : invLog * ∑ i ∈ s, f i = ∑ i ∈ s, invLog * f i := by
  classical
  induction s using Finset.induction_on with
  | empty => simp
  | insert i s hi ih => rw [Finset.sum_insert hi, Finset.sum_insert hi, invLog_mul_add, ih]

/-- A power of two at a step size in units of log 2 is the exponential. -/
theorem exp2_invLog (u : EReal) : Ideal.exp2 (invLog * u) = Ideal.exp u := by
  induction u using EReal.rec with
  | bot => rw [invLog, EReal.coe_mul_bot_of_pos invLog_pos]; rfl
  | top => rw [invLog, EReal.coe_mul_top_of_pos invLog_pos]; rfl
  | coe r =>
    rw [invLog, ← EReal.coe_mul]
    show ((Real.rpow 2 _ : ℝ) : EReal) = ((Real.exp r : ℝ) : EReal)
    refine congrArg _ ?_
    show (2 : ℝ) ^ ((Real.log 2)⁻¹ * r) = _
    rw [Real.rpow_def_of_pos (by norm_num), ← mul_assoc, mul_inv_cancel₀ log_pos.ne', one_mul]

theorem invLog_mul_max (u v : EReal) : invLog * max u v = max (invLog * u) (invLog * v) :=
  (monotone_mul_left_of_nonneg invLog_nonneg).map_max

/-- The base-two softplus of a raw step size in units of log 2 is the softplus in units of log 2. -/
theorem softplus2_invLog (u : EReal) :
    max (invLog * u) 0 + Ideal.log (1 + Ideal.exp2 (0 - max (invLog * u) (-(invLog * u)))) * invLog
      = invLog * softplus u := by
  unfold softplus Ideal.log1p
  rw [invLog_mul_add, invLog_mul_max, mul_zero, mul_comm (Ideal.log _) invLog]
  rw [← mul_neg, ← invLog_mul_max, zero_sub, ← mul_neg, exp2_invLog]

/-- The raw step size in units of log 2. -/
theorem raw_invLog (p w : Fin 6 → EReal) (β : EReal) :
    (∑ r, p r * (w r * invLog)) + β * invLog = invLog * (∑ r, p r * w r + β) := by
  rw [invLog_mul_add, invLog_mul_sum, mul_comm β]
  refine congrArg₂ (· + ·) (Finset.sum_congr rfl fun r _ => ?_) rfl
  rw [← mul_assoc, mul_comm]

/-- The input, its step size in units of log 2 and its weight scaled by log 2. -/
theorem drive_invLog (u v w : EReal) : w * logTwo * (invLog * u * v) = u * v * w := by
  rw [mul_assoc invLog, mul_assoc w, ← mul_assoc logTwo, logTwo_mul_invLog, one_mul, mul_comm]

/-! ## Products with 0/1 tables -/

/-- A sum over rows of 16 with a table that keeps one row. -/
theorem sum_row (f : Fin 2048 → EReal) (t : Fin 128) :
    (∑ q : Fin 2048, (if q.val / 16 = t.val then (1 : EReal) else 0) * f q)
      = ∑ n : Fin 16, f ⟨t.val * 16 + n.val, by omega⟩ := by
  rw [← (finProdFinEquiv (m := 128) (n := 16)).sum_comp, Fintype.sum_prod_type, Finset.sum_eq_single t]
  · refine Finset.sum_congr rfl fun n _ => ?_
    have hv : ((finProdFinEquiv (m := 128) (n := 16) (t, n) : Fin 2048)).val = n.val + 16 * t.val := rfl
    rw [if_pos (by rw [hv]; omega), one_mul]
    exact congrArg f (Fin.ext (by rw [hv]; show _ = t.val * 16 + n.val; omega))
  · intro s _ hs
    refine Finset.sum_eq_zero fun n _ => ?_
    have hv : ((finProdFinEquiv (m := 128) (n := 16) (s, n) : Fin 2048)).val = n.val + 16 * s.val := rfl
    rw [if_neg (fun h => hs (Fin.ext (by rw [hv] at h; omega))), zero_mul]
  · intro h; exact absurd (Finset.mem_univ _) h

/-- A sum over 32 columns with two tables, one keeping the columns of a residue mod 16 and one keeping half of them. -/
theorem sum_pick (f : Fin 32 → EReal) (n : Fin 16) (P : Prop) [Decidable P] (o : ℕ) (ho : (P ∧ o = 0) ∨ (¬P ∧ o = 16)) :
    (∑ q : Fin 32, f q * (if n.val = q.val % 16 then (1 : EReal) else 0) * (if (q.val < 16 ↔ P) then (1 : EReal) else 0))
      = f ⟨o + n.val, by omega⟩ := by
  rw [Finset.sum_eq_single (⟨o + n.val, by omega⟩ : Fin 32)]
  · rw [if_pos (show n.val = (o + n.val) % 16 by omega), if_pos, mul_one, mul_one]
    rcases ho with ⟨hP, h⟩ | ⟨hP, h⟩
    · exact iff_of_true (show o + n.val < 16 by omega) hP
    · exact iff_of_false (show ¬o + n.val < 16 by omega) hP
  · intro q _ hq
    by_cases h1 : n.val = q.val % 16
    · rw [if_neg (c := (q.val < 16 ↔ P)), mul_zero]
      intro h2
      refine hq (Fin.ext (show q.val = o + n.val from ?_))
      rcases ho with ⟨hP, h⟩ | ⟨hP, h⟩
      · have := h2.2 hP; omega
      · have : ¬q.val < 16 := fun h => hP (h2.1 h)
        omega
    · rw [if_neg h1, mul_zero, zero_mul]
  · intro h; exact absurd (Finset.mem_univ _) h

end Cert.ScanMath

end
-- ==== Proof.ScanChunk.lean ====
/-
  One chunk of the scan call over the extended reals: if its input blocks hold the image's pixels in the four orders,
  the weights and the 0/1 tables, and it is entered with the states at the chunk's first position, then its outputs are
  the scan's outputs at the chunk's positions and it leaves the states at the next chunk's first position.
-/
module

public import proofs.«01_k».proof.Proof.ScanMath

@[expose] public section

set_option maxRecDepth 16384

noncomputable section

namespace Cert.KernelIdeal.Scan

open Cert.KernelIdeal Cert.KernelIdeal.Gen Cert.ScanMath Idealize.ShloMosaic Idealize.ShloMosaic.TcCoe
open Idealize.ShloMosaic.VecWindow (window put)

/-- The reference's number of the kernel's direction: the kernel pairs each order with its reverse. -/
def kd : Fin 4 → Fin 4 := ![0, 2, 1, 3]

theorem all_four {Q : Fin 4 → Prop} (h0 : Q 0) (h1 : Q 1) (h2 : Q 2) (h3 : Q 3) : ∀ e, Q e := by
  intro e
  fin_cases e
  exacts [h0, h1, h2, h3]

namespace Blocks

variable (b : Blocks Ideal)

/-- What each direction reads, -/
def xv : Fin 4 → FVec Ideal S128x192 .f32 := ![xRow b.x0, xRow b.x1, xCol b.x2, xCol b.x3]
/-- its projection, -/
def pr : Fin 4 → FVec Ideal S128x76 .f32 := ![b.pr0, b.pr1, b.pr2, b.pr3]
/-- its step sizes, -/
def q : Fin 4 → FVec Ideal S128x192 .f32 := ![qF b.q01, qB b.q01, qF b.q23, qB b.q23]
/-- and its weights spread over the channels. -/
def g : Fin 4 → FVec Ideal S2048x384 .f32 := ![b.g0, b.g1, b.g2, b.g3]

end Blocks

/-- The blocks hold chunk `c` of the arguments `T`. -/
structure Reads (b : Blocks Ideal) (T : Args) (c : ℕ) : Prop where
  x : ∀ (e : Fin 4) (s : Fin 128) (d : Fin 192), b.xv e (ix2 s d) = T.x (kd e) (128 * c + ord e.val s.val) d
  wx : ∀ (e : Fin 4) (p : Fin 2) (J : Fin 76) (j : Fin 38) (i : Fin 192), p.val = e.val / 2 → J.val = 38 * (e.val % 2) + j.val →
    b.x4 (ix3 p J i) = T.Wx (kd e) j i
  wd : ∀ (e : Fin 4) (p : Fin 2) (R : Fin 12) (J : Fin 384) (r : Fin 6) (d : Fin 192), p.val = e.val / 2 →
    R.val = 6 * (e.val % 2) + r.val → J.val = 192 * (e.val % 2) + d.val → b.x5 (ix3 p R J) = T.Wd (kd e) d r
  wz : ∀ (e : Fin 4) (p : Fin 2) (R : Fin 12) (J : Fin 384) (r : Fin 6) (d : Fin 192), p.val = e.val / 2 →
    R.val = 6 * (1 - e.val % 2) + r.val → J.val = 192 * (e.val % 2) + d.val → b.x5 (ix3 p R J) = 0
  bd : ∀ (e : Fin 4) (p : Fin 2) (J : Fin 384) (d : Fin 192), p.val = e.val / 2 → J.val = 192 * (e.val % 2) + d.val →
    b.x6 (ix3 p (0 : Fin 1) J) = T.bd (kd e) d
  A : ∀ (e : Fin 4) (p f : Fin 2) (n : Fin 16) (d : Fin 192), p.val = e.val / 2 → f.val = e.val % 2 →
    b.x7 (ix4 p f n d) = T.A (kd e) d n
  D : ∀ (e : Fin 4) (p f : Fin 2) (d : Fin 192), p.val = e.val / 2 → f.val = e.val % 2 →
    b.x8 (ix3 p f d) = T.D (kd e) d
  pt : ∀ (t : Fin 128) (r : Fin 2048), b.x9 (ix2 t r) = if r.val / 16 = t.val then 1 else 0
  sel : ∀ (r : Fin 2048) (i : Fin 32), b.x10 (ix2 r i) = if r.val % 16 = i.val % 16 then 1 else 0
  bones : ∀ (i : Fin 32) (j : Fin 384), b.x11 (ix2 i j) = if (i.val < 16 ↔ j.val < 192) then 1 else 0

namespace Reads

variable {b : Blocks Ideal} {T : Args} {c : ℕ} (R : Reads b T c)

section
variable (x : FVec Ideal S128x192 .f32)

theorem proj_value {k : Fin 4} {l : ℕ} {s : Fin 128} {w : Vec Ideal S1x76x192 .f32} {J : Fin 76} {j : Fin 38}
    (hx : ∀ i, x (ix2 s i) = T.x k l i) (hw : ∀ i, w (ix3 (0 : Fin 1) J i) = T.Wx k j i) : proj x w (ix2 s J) = T.xd k l j := by
  rw [proj_apply]
  exact Finset.sum_congr rfl fun i _ => by rw [hx, hw]

end

theorem window_pair {q r : ℕ} (x : Vec Ideal ⟨3, ![2, q, r]⟩ .f32) (p : Fin 2)
    (inb : ∀ a, (![p.val, 0, 0] : Fin 3 → ℕ) a + (![1, q, r] : Fin 3 → ℕ) a ≤ (⟨3, ![2, q, r]⟩ : Shape).size a) (i : Fin q) (j : Fin r) :
    window (s := ⟨3, ![2, q, r]⟩) x ![p.val, 0, 0] ![1, q, r] inb (ix3 (0 : Fin 1) i j) = x (ix3 p i j) :=
  window_at (S := ⟨3, ![2, q, r]⟩) x inb _ _ (by
    intro a
    fin_cases a
    · rfl
    · exact (Nat.zero_add _).symm
    · exact (Nat.zero_add _).symm)

include R in
theorem pr_value : ∀ (e : Fin 4) (s : Fin 128) (J : Fin 76) (j : Fin 38), J.val = 38 * (e.val % 2) + j.val →
    b.pr e (ix2 s J) = T.xd (kd e) (128 * c + ord e.val s.val) j := by
  refine all_four ?_ ?_ ?_ ?_ <;> intro s J j hJ
  · exact proj_value _ (R.x 0 s) fun i => (window_pair b.x4 0 _ J i).trans (R.wx 0 0 J j i rfl hJ)
  · exact proj_value _ (R.x 1 s) fun i => (window_pair b.x4 0 _ J i).trans (R.wx 1 0 J j i rfl hJ)
  · exact proj_value _ (R.x 2 s) fun i => (window_pair b.x4 1 _ J i).trans (R.wx 2 1 J j i rfl hJ)
  · exact proj_value _ (R.x 3 s) fun i => (window_pair b.x4 1 _ J i).trans (R.wx 3 1 J j i rfl hJ)

/-- The forward half of a pair's step sizes. -/
theorem qF_value {pf pb : FVec Ideal S128x76 .f32} {w : Vec Ideal S1x12x384 .f32} {o : Vec Ideal S1x1x384 .f32} {s : Fin 128}
    {d : Fin 192} (P W : Fin 6 → EReal) (β : EReal) (hp : ∀ r : Fin 6, pf (ix2 s ⟨r.val, by omega⟩) = P r)
    (hw : ∀ r : Fin 6, w (ix3 (0 : Fin 1) ⟨r.val, by omega⟩ ⟨d.val, by omega⟩) = W r)
    (hz : ∀ r : Fin 6, w (ix3 (0 : Fin 1) ⟨6 + r.val, by omega⟩ ⟨d.val, by omega⟩) = 0)
    (ho : o (ix3 (0 : Fin 1) (0 : Fin 1) ⟨d.val, by omega⟩) = β) :
    qF (softplus2 (draw pf pb w o)) (ix2 s d) = invLog * softplus (∑ r, P r * W r + β) := by
  rw [qF_apply, softplus2_apply, ← softplus2_invLog]
  have e : draw pf pb w o (ix2 s ⟨d.val, by omega⟩) = invLog * (∑ r, P r * W r + β) := by
    rw [draw_apply, ← raw_invLog]
    simp only [hp, hw, hz, ho, zero_mul, mul_zero, Finset.sum_const_zero, add_zero]
  rw [e]

/-- The backward half. -/
theorem qB_value {pf pb : FVec Ideal S128x76 .f32} {w : Vec Ideal S1x12x384 .f32} {o : Vec Ideal S1x1x384 .f32} {s : Fin 128}
    {d : Fin 192} (P W : Fin 6 → EReal) (β : EReal) (hp : ∀ r : Fin 6, pb (ix2 s ⟨38 + r.val, by omega⟩) = P r)
    (hw : ∀ r : Fin 6, w (ix3 (0 : Fin 1) ⟨6 + r.val, by omega⟩ ⟨192 + d.val, by omega⟩) = W r)
    (hz : ∀ r : Fin 6, w (ix3 (0 : Fin 1) ⟨r.val, by omega⟩ ⟨192 + d.val, by omega⟩) = 0)
    (ho : o (ix3 (0 : Fin 1) (0 : Fin 1) ⟨192 + d.val, by omega⟩) = β) :
    qB (softplus2 (draw pf pb w o)) (ix2 s d) = invLog * softplus (∑ r, P r * W r + β) := by
  rw [qB_apply, softplus2_apply, ← softplus2_invLog]
  have e : draw pf pb w o (ix2 s ⟨192 + d.val, by omega⟩) = invLog * (∑ r, P r * W r + β) := by
    rw [draw_apply, ← raw_invLog]
    simp only [hp, hw, hz, ho, zero_mul, mul_zero, Finset.sum_const_zero, zero_add]
  rw [e]

include R in
theorem q_value : ∀ (e : Fin 4) (s : Fin 128) (d : Fin 192),
    b.q e (ix2 s d) = invLog * T.δ (kd e) (128 * c + ord e.val s.val) d := by
  refine all_four ?_ ?_ ?_ ?_ <;> intro s d
  · exact qF_value _ _ _ (fun r => R.pr_value 0 s _ _ (by simp))
      (fun r => (window_pair b.x5 0 _ _ _).trans (R.wd 0 0 _ _ r d rfl (by simp) (by simp)))
      (fun r => (window_pair b.x5 0 _ _ _).trans (R.wz 0 0 _ _ r d rfl (by simp) (by simp)))
      ((window_pair b.x6 0 _ _ _).trans (R.bd 0 0 _ d rfl (by simp)))
  · exact qB_value _ _ _ (fun r => R.pr_value 1 s _ _ (by simp))
      (fun r => (window_pair b.x5 0 _ _ _).trans (R.wd 1 0 _ _ r d rfl (by simp) (by simp)))
      (fun r => (window_pair b.x5 0 _ _ _).trans (R.wz 1 0 _ _ r d rfl (by simp) (by simp)))
      ((window_pair b.x6 0 _ _ _).trans (R.bd 1 0 _ d rfl (by simp)))
  · exact qF_value _ _ _ (fun r => R.pr_value 2 s _ _ (by simp))
      (fun r => (window_pair b.x5 1 _ _ _).trans (R.wd 2 1 _ _ r d rfl (by simp) (by simp)))
      (fun r => (window_pair b.x5 1 _ _ _).trans (R.wz 2 1 _ _ r d rfl (by simp) (by simp)))
      ((window_pair b.x6 1 _ _ _).trans (R.bd 2 1 _ d rfl (by simp)))
  · exact qB_value _ _ _ (fun r => R.pr_value 3 s _ _ (by simp))
      (fun r => (window_pair b.x5 1 _ _ _).trans (R.wd 3 1 _ _ r d rfl (by simp) (by simp)))
      (fun r => (window_pair b.x5 1 _ _ _).trans (R.wz 3 1 _ _ r d rfl (by simp) (by simp)))
      ((window_pair b.x6 1 _ _ _).trans (R.bd 3 1 _ d rfl (by simp)))

include R in
/-- Spread weights: one column of the projection, the input weights left and the read-out weights right. -/
theorem spread_value (bc : FVec Ideal S128x32 .f32) (s : Fin 128) (n : Fin 16) (J : Fin 384) (o : ℕ)
    (ho : (J.val < 192 ∧ o = 0) ∨ (¬J.val < 192 ∧ o = 16)) :
    spread bc b.x10 b.x11 (ix2 ⟨s.val * 16 + n.val, by omega⟩ J) = bc (ix2 s ⟨o + n.val, by omega⟩) := by
  rw [spread_apply]
  refine Eq.trans (Finset.sum_congr rfl fun i _ => ?_) (sum_pick (fun i => bc (ix2 s i)) n (J.val < 192) o ho)
  rw [R.sel, R.bones]
  have h1 : (⟨(s.val * 16 + n.val) / 16, by omega⟩ : Fin 128) = s := Fin.ext (by show (s.val * 16 + n.val) / 16 = s.val; omega)
  have h2 : (s.val * 16 + n.val) % 16 = n.val := by omega
  simp only [h1, h2]

include R in
theorem g_value : ∀ (e : Fin 4) (s : Fin 128) (n : Fin 16) (J : Fin 384) (o : ℕ) (j : Fin 38),
    ((J.val < 192 ∧ o = 0) ∨ (¬J.val < 192 ∧ o = 16)) → j.val = 6 + (o + n.val) →
    b.g e (ix2 ⟨s.val * 16 + n.val, by omega⟩ J) = T.xd (kd e) (128 * c + ord e.val s.val) j := by
  refine all_four ?_ ?_ ?_ ?_ <;> intro s n J o j ho hj
  · exact (R.spread_value _ s n J o ho).trans ((bcF_apply _ _ _).trans (R.pr_value 0 s _ j (by simp; omega)))
  · exact (R.spread_value _ s n J o ho).trans ((bcB_apply _ _ _).trans (R.pr_value 1 s _ j (by simp; omega)))
  · exact (R.spread_value _ s n J o ho).trans ((bcF_apply _ _ _).trans (R.pr_value 2 s _ j (by simp; omega)))
  · exact (R.spread_value _ s n J o ho).trans ((bcB_apply _ _ _).trans (R.pr_value 3 s _ j (by simp; omega)))

theorem window_quad (x : Vec Ideal S2x2x16x192 .f32) (p f : Fin 2)
    (inb : ∀ a, (![p.val, f.val, 0, 0] : Fin 4 → ℕ) a + S1x1x16x192.size a ≤ S2x2x16x192.size a) (n : Fin 16) (d : Fin 192) :
    window (s := S2x2x16x192) x ![p.val, f.val, 0, 0] S1x1x16x192.size inb (ix4 (0 : Fin 1) (0 : Fin 1) n d) = x (ix4 p f n d) :=
  window_at (S := S2x2x16x192) x inb _ _ (by
    intro a
    fin_cases a
    · rfl
    · rfl
    · exact (Nat.zero_add _).symm
    · exact (Nat.zero_add _).symm)

theorem window_skip (x : Vec Ideal S2x2x192 .f32) (p f : Fin 2)
    (inb : ∀ a, (![p.val, f.val, 0] : Fin 3 → ℕ) a + S1x1x192.size a ≤ S2x2x192.size a) (d : Fin 192) :
    window (s := S2x2x192) x ![p.val, f.val, 0] S1x1x192.size inb (ix3 (0 : Fin 1) (0 : Fin 1) d) = x (ix3 p f d) :=
  window_at (S := S2x2x192) x inb _ _ (by
    intro a
    fin_cases a
    · rfl
    · rfl
    · exact (Nat.zero_add _).symm)

theorem window_slab (x : Vec Ideal S4x128x16x192 .f32) (e : Fin 4)
    (inb : ∀ a, (![e.val, 0, 0, 0] : Fin 4 → ℕ) a + S1x128x16x192.size a ≤ S4x128x16x192.size a) (s : Fin 128) (n : Fin 16)
    (d : Fin 192) :
    window (s := S4x128x16x192) x ![e.val, 0, 0, 0] S1x128x16x192.size inb (ix4 (0 : Fin 1) s n d) = x (ix4 e s n d) :=
  window_at (S := S4x128x16x192) x inb _ _ (by
    intro a
    fin_cases a
    · rfl
    · exact (Nat.zero_add _).symm
    · exact (Nat.zero_add _).symm
    · exact (Nat.zero_add _).symm)

/-- The decays hold the recurrence's coefficients, -/
theorem decay_value {q : FVec Ideal S128x192 .f32} {a : Vec Ideal S1x1x16x192 .f32} {k : Fin 4} {l : ℕ} {s : Fin 128} {n : Fin 16}
    {d : Fin 192} (hq : q (ix2 s d) = invLog * T.δ k l d) (ha : a (ix4 (0 : Fin 1) (0 : Fin 1) n d) = T.A k d n) :
    decay q a (ix4 (0 : Fin 1) s n d) = T.a k n d l := by
  rw [decay_apply, hq, ha, mul_assoc, exp2_invLog]; rfl

include R in
theorem A_value : ∀ (e : Fin 4) (n : Fin 16) (d : Fin 192) (s : Fin 128),
    b.A (ix4 e s n d) = T.a (kd e) n d (128 * c + ord e.val s.val) := by
  intro e n d s
  refine (slabs_apply ![decay (qF b.q01) _, decay (qB b.q01) _, decay (qF b.q23) _, decay (qB b.q23) _] e s n d).trans ?_
  revert e
  refine all_four ?_ ?_ ?_ ?_
  · exact decay_value (R.q_value 0 s d) ((window_quad b.x7 0 0 _ n d).trans (R.A 0 0 0 n d rfl rfl))
  · exact decay_value (R.q_value 1 s d) ((window_quad b.x7 0 1 _ n d).trans (R.A 1 0 1 n d rfl rfl))
  · exact decay_value (R.q_value 2 s d) ((window_quad b.x7 1 0 _ n d).trans (R.A 2 1 0 n d rfl rfl))
  · exact decay_value (R.q_value 3 s d) ((window_quad b.x7 1 1 _ n d).trans (R.A 3 1 1 n d rfl rfl))

/-- the second slabs its inputs, -/
theorem drive_value {g : FVec Ideal S2048x384 .f32} {q x : FVec Ideal S128x192 .f32} {k : Fin 4} {l : ℕ} {s : Fin 128}
    {n : Fin 16} {d : Fin 192} (hg : g (ix2 ⟨s.val * 16 + n.val, by omega⟩ ⟨d.val, by omega⟩) = T.xd k l ⟨6 + n.val, by omega⟩)
    (hq : q (ix2 s d) = invLog * T.δ k l d) (hx : x (ix2 s d) = T.x k l d) :
    drive g q x (ix4 (0 : Fin 1) s n d) = T.b k n d l := by
  rw [drive_apply, hg, hq, hx, drive_invLog]; rfl

include R in
theorem B_value : ∀ (e : Fin 4) (n : Fin 16) (d : Fin 192) (s : Fin 128),
    b.B (ix4 e s n d) = T.b (kd e) n d (128 * c + ord e.val s.val) := by
  intro e n d s
  refine (slabs_apply ![drive b.g0 (qF b.q01) _, drive b.g1 (qB b.q01) _, drive b.g2 (qF b.q23) _, drive b.g3 (qB b.q23) _]
    e s n d).trans ?_
  have hg := fun e => R.g_value e s n ⟨d.val, by omega⟩ 0 ⟨6 + n.val, by omega⟩ (Or.inl ⟨d.isLt, rfl⟩) (by simp)
  revert e
  refine all_four ?_ ?_ ?_ ?_
  · exact drive_value (hg 0) (R.q_value 0 s d) (R.x 0 s d)
  · exact drive_value (hg 1) (R.q_value 1 s d) (R.x 1 s d)
  · exact drive_value (hg 2) (R.q_value 2 s d) (R.x 2 s d)
  · exact drive_value (hg 3) (R.q_value 3 s d) (R.x 3 s d)

include R in
/-- and the third its read-out weights. -/
theorem C_value : ∀ (e : Fin 4) (n : Fin 16) (d : Fin 192) (s : Fin 128),
    b.C (ix4 e s n d) = T.xd (kd e) (128 * c + ord e.val s.val) ⟨22 + n.val, by omega⟩ := by
  intro e n d s
  refine (slabs_apply ![readout b.g0, readout b.g1, readout b.g2, readout b.g3] e s n d).trans ?_
  have hg := fun e => R.g_value e s n ⟨192 + d.val, by omega⟩ 16 ⟨22 + n.val, by omega⟩
    (Or.inr ⟨by show ¬(192 + d.val < 192); omega, rfl⟩) (by show 22 + n.val = 6 + (16 + n.val); omega)
  revert e
  refine all_four ?_ ?_ ?_ ?_
  · exact (readout_apply _ s n d).trans (hg 0)
  · exact (readout_apply _ s n d).trans (hg 1)
  · exact (readout_apply _ s n d).trans (hg 2)
  · exact (readout_apply _ s n d).trans (hg 3)

/-- Entered with the states at the chunk's first position. -/
def Enters (T : Args) (H : Vec Ideal S4x16x192 .f32) (c : ℕ) : Prop :=
  ∀ (e : Fin 4) (n : Fin 16) (d : Fin 192), H (ix3 e n d) = T.h (kd e) n d (128 * c)

variable {H : Vec Ideal S4x16x192 .f32} (hH : Enters T H c)

include R hH in
/-- The states along the chunk. -/
theorem state_value (e : Fin 4) (n : Fin 16) (d : Fin 192) (t : Fin 128) :
    st b.A b.B H e.val t.val (ix2 n d) = T.h (kd e) n d (128 * c + ord e.val t.val + 1) :=
  st_value b.A b.B H e n d _ _ (128 * c) (R.A_value e n d) (R.B_value e n d) (hH e n d) t

include R hH in
/-- The next chunk is entered with the states at its first position. -/
theorem next_value : Enters T (b.next H) (c + 1) := by
  intro e n d
  refine (leaveH_apply ![stF b.A b.B H 0 127, stB b.A b.B H 1 0, stF b.A b.B H 2 127, stB b.A b.B H 3 0] e n d).trans ?_
  revert e
  refine all_four ?_ ?_ ?_ ?_
  · exact R.state_value hH 0 n d 127
  · exact R.state_value hH 1 n d 0
  · exact R.state_value hH 2 n d 127
  · exact R.state_value hH 3 n d 0

include R hH in
theorem outY_value (e : Fin 4) (dsk : Vec Ideal S1x1x192 .f32) (inb) (t : Fin 128) (d : Fin 192)
    (hD : dsk (ix3 (0 : Fin 1) (0 : Fin 1) d) = T.D (kd e) d) :
    outY (states b.A b.B H e.val) (window (s := S4x128x16x192) b.C ![e.val, 0, 0, 0] S1x128x16x192.size inb) b.x9 dsk (b.xv e) (ix2 t d)
      = T.y (kd e) (128 * c + ord e.val t.val) d := by
  rw [outY_apply, hD, R.x e t d]
  refine congrArg₂ (· + ·) ?_ rfl
  refine Eq.trans (Finset.sum_congr rfl fun q _ => ?_)
    ((sum_row (fun q => st b.A b.B H e.val (q.val / 16) (ix2 ⟨q.val % 16, by omega⟩ d)
      * b.C (ix4 e ⟨q.val / 16, by omega⟩ ⟨q.val % 16, by omega⟩ d)) t).trans ?_)
  · rw [R.pt, states_apply]
    exact congrArg (_ * ·) (congrArg (_ * ·) (window_slab _ _ _ _ _ _))
  refine Finset.sum_congr rfl fun n _ => ?_
  have h1 : (t.val * 16 + n.val) / 16 = t.val := by omega
  have h2 : (t.val * 16 + n.val) % 16 = n.val := by omega
  simp only [h1, h2]
  rw [R.state_value hH, R.C_value]

include R hH in
/-- The four outputs of the chunk. -/
theorem y0_value (t : Fin 128) (d : Fin 192) : b.y0 H (ix2 t d) = T.y 0 (128 * c + t.val) d :=
  R.outY_value hH 0 _ _ t d ((window_skip b.x8 0 0 _ d).trans (R.D 0 0 0 d rfl rfl))

include R hH in
theorem y1_value (t : Fin 128) (d : Fin 192) : b.y1 H (ix2 t d) = T.y 2 (128 * c + (127 - t.val)) d :=
  R.outY_value hH 1 _ _ t d ((window_skip b.x8 0 1 _ d).trans (R.D 1 0 1 d rfl rfl))

include R hH in
theorem y2_value (t : Fin 128) (d : Fin 192) : b.y2 H (ix2 t d) = T.y 1 (128 * c + t.val) d :=
  R.outY_value hH 2 _ _ t d ((window_skip b.x8 1 0 _ d).trans (R.D 2 1 0 d rfl rfl))

include R hH in
theorem y3_value (t : Fin 128) (d : Fin 192) : b.y3 H (ix2 t d) = T.y 3 (128 * c + (127 - t.val)) d :=
  R.outY_value hH 3 _ _ t d ((window_skip b.x8 1 1 _ d).trans (R.D 3 1 1 d rfl rfl))

end Reads

end Cert.KernelIdeal.Scan

end
-- ==== Proof.ScanTables.lean ====
/-
  The arrays the scan call is given, read back to the arguments: the weights of each direction, and the 0/1 tables.
-/
module

public import proofs.«01_k».proof.Proof.Gen.KernelIdeal.Frame.Runs
public import proofs.«01_k».proof.Proof.ScanChunk
public import Idealize.ShloMosaic.Lib.Claim
public import Idealize.ShloMosaic.Lib.StableHlo.ReadAt

@[expose] public section

set_option maxRecDepth 16384

noncomputable section

namespace Cert.ScanMath

open Idealize.ShloMosaic

/-- The arguments by their coordinates. -/
def Args.of (a0 : (⟨2, ![4096, 192]⟩ : Shape).Idx → EReal) (a1 : (⟨2, ![1, 12288]⟩ : Shape).Idx → EReal)
    (a2 : (⟨2, ![1, 768]⟩ : Shape).Idx → EReal) (a3 : (⟨3, ![4, 38, 192]⟩ : Shape).Idx → EReal)
    (a4 : (⟨3, ![4, 192, 6]⟩ : Shape).Idx → EReal) (a5 : (⟨2, ![4, 192]⟩ : Shape).Idx → EReal) : Args where
  X p d := a0 (ix2 p d)
  A k d n := a1 (ix2 (0 : Fin 1) ⟨(k.val * 192 + d.val) * 16 + n.val, by omega⟩)
  D k d := a2 (ix2 (0 : Fin 1) ⟨k.val * 192 + d.val, by omega⟩)
  Wx k j i := a3 (ix3 k j i)
  Wd k d r := a4 (ix3 k d r)
  bd k d := a5 (ix2 k d)

end Cert.ScanMath

namespace Cert.KernelIdeal.Scan

open Cert.KernelIdeal Cert.KernelIdeal.Gen Cert.ScanMath Idealize.ShloMosaic Idealize.ShloMosaic.TcCoe

variable (m : (ℓ : Loc nD τ sig) → Buf (Elt Ideal) ℓ) (c : Dev nD)

/-- The arguments of core `c`, as launched. -/
def args : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem uitofp_bit (b : BitVec 1) : (FloatOps.uitofp (F := Ideal) .f32 b : EReal) = if b = 1#1 then 1 else 0 := by
  have h : b = 0#1 ∨ b = 1#1 := by revert b; decide
  rcases h with h | h <;> subst h
  · show (((0#1 : BitVec 1).toNat : ℝ) : EReal) = _
    simp
  · show (((1#1 : BitVec 1).toNat : ℝ) : EReal) = _
    simp

theorem cmpi_eq_bit (x y : ℕ) (hx : x < 2048) (hy : y < 2048) :
    (IntOp.cmpi .eq (BitVec.ofNat 32 x) (BitVec.ofNat 32 y) = 1#1) ↔ x = y := by
  have h : IntOp.cmpi .eq (BitVec.ofNat 32 x) (BitVec.ofNat 32 y) = BitVec.ofBool (BitVec.ofNat 32 x == BitVec.ofNat 32 y) := rfl
  rw [h]
  constructor
  · intro e
    by_contra hne
    have : (BitVec.ofNat 32 x == BitVec.ofNat 32 y) = false := by
      rw [beq_eq_false_iff_ne]
      intro e'
      have := congrArg BitVec.toNat e'
      simp only [BitVec.toNat_ofNat] at this
      omega
    rw [this] at e
    exact absurd e (by decide)
  · rintro rfl
    simp

/-- The remainder as the host computes it, of a word by sixteen. -/
abbrev rem16 (x : BitVec 32) : BitVec 32 :=
  Scalar.select
    (IntOp.andi
      (IntOp.cmpi .ne (IntOp.cmpi .slt (IntOp.remsi .host x 16#32) 0#32) (IntOp.cmpi .slt (16#32 : BitVec 32) 0#32))
      (IntOp.cmpi .ne (IntOp.remsi .host x 16#32) 0#32))
    (IntOp.addi (IntOp.remsi .host x 16#32) 16#32)
    (IntOp.remsi .host x 16#32)

theorem rem16_ofNat : ∀ r : Fin 2048, rem16 (BitVec.ofNat 32 r.val) = BitVec.ofNat 32 (r.val % 16) := by
  decide +kernel

theorem kd_zero : kd 0 = 0 := rfl
theorem kd_one : kd 1 = 2 := rfl
theorem kd_two : kd 2 = 1 := rfl
theorem kd_three : kd 3 = 3 := rfl

theorem ix2_ext {p q : ℕ} {i i' : Fin p} {j j' : Fin q} (hi : i.val = i'.val) (hj : j.val = j'.val) : ix2 i j = ix2 i' j' := by
  rw [Fin.ext hi, Fin.ext hj]

theorem ix3_ext {p q r : ℕ} {i i' : Fin p} {j j' : Fin q} {k k' : Fin r} (hi : i.val = i'.val) (hj : j.val = j'.val)
    (hk : k.val = k'.val) : ix3 i j k = ix3 i' j' k' := by
  rw [Fin.ext hi, Fin.ext hj, Fin.ext hk]

theorem tableA : ∀ (e : Fin 4) (p f : Fin 2) (n : Fin 16) (d : Fin 192), p.val = e.val / 2 → f.val = e.val % 2 →
    (V m c main_v19 : Vec Ideal S2x2x16x192 .f32) (ix4 p f n d) = (args m c).A (kd e) d n := by
  refine all_four ?_ ?_ ?_ ?_ <;> intro p f n d hp hf
  all_goals
    unfold V
    repeat after_reads_at
    norm_num at hp hf
    simp only [hp, hf, lt_self_iff_false, Nat.lt_one_iff, one_ne_zero, zero_lt_one, ↓reduceDIte]
    refine congrArg (m (c, Proc.tc.devRef main_arg1)) (congrArg (ix2 0) (Fin.ext ?_))
    simp only [kd_zero, kd_one, kd_two, kd_three]
    norm_num
  all_goals omega

theorem tableD : ∀ (e : Fin 4) (p f : Fin 2) (d : Fin 192), p.val = e.val / 2 → f.val = e.val % 2 →
    (V m c main_v37 : Vec Ideal S2x2x192 .f32) (ix3 p f d) = (args m c).D (kd e) d := by
  refine all_four ?_ ?_ ?_ ?_ <;> intro p f d hp hf
  all_goals
    unfold V
    repeat after_reads_at
    norm_num at hp hf
    simp only [hp, hf, lt_self_iff_false, Nat.lt_one_iff, one_ne_zero, zero_lt_one, ↓reduceDIte]
    refine congrArg (m (c, Proc.tc.devRef main_arg2)) (congrArg (ix2 0) (Fin.ext ?_))
    simp only [kd_zero, kd_one, kd_two, kd_three]
    norm_num
  all_goals omega

theorem tableWx : ∀ (e : Fin 4) (p : Fin 2) (J : Fin 76) (j : Fin 38) (i : Fin 192), p.val = e.val / 2 →
    J.val = 38 * (e.val % 2) + j.val →
    (V m c main_v50 : Vec Ideal S2x76x192 .f32) (ix3 p J i) = (args m c).Wx (kd e) j i := by
  refine all_four ?_ ?_ ?_ ?_ <;> intro p J j i hp hJ
  all_goals
    unfold V
    repeat after_reads_at
    norm_num at hp hJ
    have hj := j.isLt
    split_ifs
  all_goals first
    | omega
    | exact congrArg (m (c, Proc.tc.devRef main_arg3)) (ix3_ext rfl (by simp only []; omega) rfl)

set_option maxHeartbeats 1600000 in
theorem tableWd : ∀ (e : Fin 4) (p : Fin 2) (R : Fin 12) (J : Fin 384) (r : Fin 6) (d : Fin 192), p.val = e.val / 2 →
    R.val = 6 * (e.val % 2) + r.val → J.val = 192 * (e.val % 2) + d.val →
    (V m c main_v72 : Vec Ideal S2x12x384 .f32) (ix3 p R J) = (args m c).Wd (kd e) d r := by
  refine all_four ?_ ?_ ?_ ?_ <;> intro p R J r d hp hR hJ
  all_goals
    unfold V
    repeat after_reads_at
    norm_num at hp hR hJ
    have hr := r.isLt
    have hd := d.isLt
    split_ifs
  all_goals first
    | omega
    | exact congrArg (m (c, Proc.tc.devRef main_arg4)) (ix3_ext rfl (by simp only []; omega) (by simp only []; omega))

set_option maxHeartbeats 1600000 in
theorem tableWz : ∀ (e : Fin 4) (p : Fin 2) (R : Fin 12) (J : Fin 384) (r : Fin 6) (d : Fin 192), p.val = e.val / 2 →
    R.val = 6 * (1 - e.val % 2) + r.val → J.val = 192 * (e.val % 2) + d.val →
    (V m c main_v72 : Vec Ideal S2x12x384 .f32) (ix3 p R J) = (0 : EReal) := by
  refine all_four ?_ ?_ ?_ ?_ <;> intro p R J r d hp hR hJ
  all_goals
    unfold V
    repeat after_reads_at
    norm_num at hp hR hJ
    have hr := r.isLt
    have hd := d.isLt
    split_ifs
  all_goals first
    | omega
    | rfl

theorem tableBd : ∀ (e : Fin 4) (p : Fin 2) (J : Fin 384) (d : Fin 192), p.val = e.val / 2 →
    J.val = 192 * (e.val % 2) + d.val →
    (V m c main_v87 : Vec Ideal S2x1x384 .f32) (ix3 p (0 : Fin 1) J) = (args m c).bd (kd e) d := by
  refine all_four ?_ ?_ ?_ ?_ <;> intro p J d hp hJ
  all_goals
    unfold V
    repeat after_reads_at
    norm_num at hp hJ
    have hd := d.isLt
    split_ifs
  all_goals first
    | omega
    | exact congrArg (m (c, Proc.tc.devRef main_arg5)) (ix2_ext rfl (by simp only []; omega))

theorem columns (h w : Fin 64) (d : Fin 192) :
    (V m c main_v0 : Vec Ideal S64x64x1x192 .f32) (ix4 h w (0 : Fin 1) d) = (args m c).X ⟨64 * h.val + w.val, by omega⟩ d := by
  unfold V
  repeat after_reads_at
  exact congrArg (m (c, Proc.tc.devRef main_arg0)) (ix2_ext (by simp only []; omega) rfl)

theorem tablePt (t : Fin 128) (r : Fin 2048) :
    (V m c main_v124 : Vec Ideal S128x2048 .f32) (ix2 t r) = (if r.val / 16 = t.val then 1 else 0 : EReal) := by
  unfold V
  after_reads_at
  have h0 : IntOp.addi (BitVec.ofNat 32 t.val) 0#32 = BitVec.ofNat 32 t.val := BitVec.add_zero _
  rw [uitofp_bit, h0]
  have := cmpi_eq_bit t.val (r.val / 16) (by omega) (by omega)
  by_cases h : r.val / 16 = t.val
  · rw [if_pos h, if_pos (this.2 h.symm)]
  · rw [if_neg h, if_neg (fun e => h (this.1 e).symm)]

theorem tableSel (r : Fin 2048) (i : Fin 32) :
    (V m c main_v97 : Vec Ideal S2048x32 .f32) (ix2 r i) = (if r.val % 16 = i.val % 16 then 1 else 0 : EReal) := by
  unfold V
  after_reads_at
  have key : FloatOps.uitofp (F := Ideal) .f32 (IntOp.cmpi .eq (rem16 (BitVec.ofNat 32 r.val)) (rem16 (BitVec.ofNat 32 i.val))) =
      (if r.val % 16 = i.val % 16 then 1 else 0 : EReal) := by
    rw [uitofp_bit, rem16_ofNat r, rem16_ofNat ⟨i.val, by omega⟩]
    have := cmpi_eq_bit (r.val % 16) (i.val % 16) (by omega) (by omega)
    by_cases h : r.val % 16 = i.val % 16
    · rw [if_pos h, if_pos (this.2 h)]
    · rw [if_neg h, if_neg (fun e => h (this.1 e))]
  exact key

theorem slt16 : ∀ i : Fin 32, IntOp.cmpi .slt (BitVec.ofNat 32 i.val) 16#32 = BitVec.ofBool (decide (i.val < 16)) := by
  decide +kernel

theorem slt192 : ∀ j : Fin 384, IntOp.cmpi .slt (BitVec.ofNat 32 j.val) 192#32 = BitVec.ofBool (decide (j.val < 192)) := by
  decide +kernel

theorem tableBones (i : Fin 32) (j : Fin 384) :
    (V m c main_v116 : Vec Ideal S32x384 .f32) (ix2 i j) = (if (i.val < 16 ↔ j.val < 192) then 1 else 0 : EReal) := by
  unfold V
  after_reads_at
  have hz : id (constant (F := Ideal) S_ FTy.f32 0#32) ix0 = (0 : EReal) := by
    show (constant (F := Ideal) S_ FTy.f32 0#32) ix0 = (0 : EReal)
    pointwise
  rw [uitofp_bit, slt16, slt192, hz]
  have h1 : Scalar.select (IntOp.andi (BitVec.ofBool true) (BitVec.ofBool true)) (1 : EReal) 0 = 1 := rfl
  have h2 : Scalar.select (IntOp.andi (BitVec.ofBool true) (BitVec.ofBool false)) (1 : EReal) 0 = 0 := rfl
  have h3 : Scalar.select (IntOp.andi (BitVec.ofBool false) (BitVec.ofBool true)) (1 : EReal) 0 = 0 := rfl
  have h4 : Scalar.select (IntOp.andi (BitVec.ofBool false) (BitVec.ofBool false)) (1 : EReal) 0 = 0 := rfl
  have g1 : ¬ (IntOp.andi (~~~BitVec.ofBool true) (~~~BitVec.ofBool true) = 1#1) := by decide
  have g2 : ¬ (IntOp.andi (~~~BitVec.ofBool true) (~~~BitVec.ofBool false) = 1#1) := by decide
  have g3 : ¬ (IntOp.andi (~~~BitVec.ofBool false) (~~~BitVec.ofBool true) = 1#1) := by decide
  have g4 : IntOp.andi (~~~BitVec.ofBool false) (~~~BitVec.ofBool false) = 1#1 := by decide
  by_cases hi : i.val < 16 <;> by_cases hj : j.val < 192 <;> simp only [hi, hj, decide_true, decide_false]
  · rw [h1, if_neg g1, if_pos (by trivial), add_zero]
  · rw [h2, if_neg g2, if_neg (by simp), add_zero]
  · rw [h3, if_neg g3, if_neg (by simp), add_zero]
  · rw [h4, if_pos g4, if_pos (by trivial), zero_add]

end Cert.KernelIdeal.Scan

end
-- ==== Proof.ScanRules.lean ====
/-
  The scan body's run, read with every buffer's contents named: `R` says the body's rest runs from given contents of
  the twenty-one buffers, and one rule a buffer steps over a load or a store of it. `L` is the same inside the loop:
  the state scratch holds whatever it holds, its first `m` rows in the loop's order at the recurrence's states.
-/
module

public import proofs.«01_k».proof.Proof.ScanDefs

@[expose] public section

noncomputable section

namespace Cert.KernelIdeal.Scan

open Cert.KernelIdeal Cert.KernelIdeal.Gen Cert.Scan Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put window_put_same window_put_of_disjoint)

variable {F : FTy → Type} [FloatOps F] [Named F]

local notation "𝕄" => MT nD τ sig Unit (Elt F) ℕ (UR sig nD τ) ℕ

variable (F) in
/-- What stays fixed during one run of the body: the core, the twenty-one memrefs (all of them whole buffers), the
    contents of the twelve inputs, and what is to hold in the end. -/
structure Env where
  c : Dev nD
  a1 : Memref sig .tc .vmem S128x192 .f32
  h1 : a1.IsWhole
  a2 : Memref sig .tc .vmem S128x192 .f32
  h2 : a2.IsWhole
  a3 : Memref sig .tc .vmem S64x2x1x192 .f32
  h3 : a3.IsWhole
  a4 : Memref sig .tc .vmem S64x2x1x192 .f32
  h4 : a4.IsWhole
  a5 : Memref sig .tc .vmem S2x76x192 .f32
  h5 : a5.IsWhole
  a6 : Memref sig .tc .vmem S2x12x384 .f32
  h6 : a6.IsWhole
  a7 : Memref sig .tc .vmem S2x1x384 .f32
  h7 : a7.IsWhole
  a8 : Memref sig .tc .vmem S2x2x16x192 .f32
  h8 : a8.IsWhole
  a9 : Memref sig .tc .vmem S2x2x192 .f32
  h9 : a9.IsWhole
  a10 : Memref sig .tc .vmem S128x2048 .f32
  h10 : a10.IsWhole
  a11 : Memref sig .tc .vmem S2048x32 .f32
  h11 : a11.IsWhole
  a12 : Memref sig .tc .vmem S32x384 .f32
  h12 : a12.IsWhole
  a13 : Memref sig .tc .vmem S128x192 .f32
  h13 : a13.IsWhole
  a14 : Memref sig .tc .vmem S128x192 .f32
  h14 : a14.IsWhole
  a15 : Memref sig .tc .vmem S64x2x1x192 .f32
  h15 : a15.IsWhole
  a16 : Memref sig .tc .vmem S64x2x1x192 .f32
  h16 : a16.IsWhole
  a17 : Memref sig .tc .vmem S4x128x16x192 .f32
  h17 : a17.IsWhole
  a18 : Memref sig .tc .vmem S4x128x16x192 .f32
  h18 : a18.IsWhole
  a19 : Memref sig .tc .vmem S4x128x16x192 .f32
  h19 : a19.IsWhole
  a20 : Memref sig .tc .vmem S4x128x16x192 .f32
  h20 : a20.IsWhole
  a21 : Memref sig .tc .vmem S4x16x192 .f32
  h21 : a21.IsWhole
  b : Blocks F
  E : Set ℕ
  K : PUnit → sProp 𝕄

/-- The twenty-one buffers owned: the inputs at their contents, the outputs at `o·`, the scratch at `A` (decays),
    `B` (inputs), `C` (read-out weights), `X` (states) and `H` (carried states). -/
def own (e : Env F) (A B C X : Vec F S4x128x16x192 .f32) (H : Vec F S4x16x192 .f32) (o13 o14 : Vec F S128x192 .f32)
    (o15 o16 : Vec F S64x2x1x192 .f32) : sProp 𝕄 :=
  iprop(owns (e.c : Thread nD τ) e.a1 fullShare e.b.x0 ∗ owns (e.c : Thread nD τ) e.a2 fullShare e.b.x1 ∗ owns (e.c : Thread nD τ) e.a3 fullShare e.b.x2 ∗ owns (e.c : Thread nD τ) e.a4 fullShare e.b.x3 ∗ owns (e.c : Thread nD τ) e.a5 fullShare e.b.x4 ∗ owns (e.c : Thread nD τ) e.a6 fullShare e.b.x5 ∗ owns (e.c : Thread nD τ) e.a7 fullShare e.b.x6 ∗ owns (e.c : Thread nD τ) e.a8 fullShare e.b.x7 ∗ owns (e.c : Thread nD τ) e.a9 fullShare e.b.x8 ∗ owns (e.c : Thread nD τ) e.a10 fullShare e.b.x9 ∗ owns (e.c : Thread nD τ) e.a11 fullShare e.b.x10 ∗ owns (e.c : Thread nD τ) e.a12 fullShare e.b.x11 ∗ owns (e.c : Thread nD τ) e.a13 fullShare o13 ∗ owns (e.c : Thread nD τ) e.a14 fullShare o14 ∗ owns (e.c : Thread nD τ) e.a15 fullShare o15 ∗ owns (e.c : Thread nD τ) e.a16 fullShare o16 ∗ owns (e.c : Thread nD τ) e.a17 fullShare A ∗ owns (e.c : Thread nD τ) e.a18 fullShare B ∗ owns (e.c : Thread nD τ) e.a19 fullShare C ∗ owns (e.c : Thread nD τ) e.a20 fullShare X ∗ owns (e.c : Thread nD τ) e.a21 fullShare H)

/-- The program `p` runs from these contents to what is to hold in the end. -/
def R (e : Env F) (A B C X : Vec F S4x128x16x192 .f32) (H : Vec F S4x16x192 .f32) (o13 o14 : Vec F S128x192 .f32)
    (o15 o16 : Vec F S64x2x1x192 .f32) (p : Prog (TpuEff nD τ sig (Elt F) Λ₀ .tc) PUnit) : Prop :=
  own e A B C X H o13 o14 o15 o16 ⊢ wp frame (wpE (defs₀ (F := F)) Variants.none e.c none) e.E p e.K

section
variable {e : Env F} {A B C X : Vec F S4x128x16x192 .f32} {H : Vec F S4x16x192 .f32} {o13 o14 : Vec F S128x192 .f32}
  {o15 o16 : Vec F S64x2x1x192 .f32}

theorem R.ret (h : own e A B C X H o13 o14 o15 o16 ⊢ e.K ⟨⟩) : R e A B C X H o13 o14 o15 o16 (.ret ⟨⟩) :=
  exec_ret Variants.none (e.c : Thread nD τ) none e.E PUnit.unit h

theorem R.assoc {α β : Type} {p : Prog (TpuEff nD τ sig (Elt F) Λ₀ .tc) α} {f : α → Prog (TpuEff nD τ sig (Elt F) Λ₀ .tc) β}
    {g : β → Prog (TpuEff nD τ sig (Elt F) Λ₀ .tc) PUnit}
    (h : R e A B C X H o13 o14 o15 o16 (p >>= fun x => f x >>= g)) :
    R e A B C X H o13 o14 o15 o16 ((p >>= f) >>= g) := by
  rw [Prog.bind_assoc]; exact h

/-- A conditional that only changes the carried states. -/
theorem R.cond {α : Type} {P : Prop} {dec : Decidable P} {p : P → Prog (TpuEff nD τ sig (Elt F) Λ₀ .tc) α}
    {q : ¬P → Prog (TpuEff nD τ sig (Elt F) Λ₀ .tc) α} {k : α → Prog (TpuEff nD τ sig (Elt F) Λ₀ .tc) PUnit}
    {r : Prog (TpuEff nD τ sig (Elt F) Λ₀ .tc) α} (Hz : Vec F S4x16x192 .f32) (hq : ∀ hc : ¬P, q hc = r)
    (hp : ∀ hc : P, R e A B C X Hz o13 o14 o15 o16 (r >>= k) → R e A B C X H o13 o14 o15 o16 (p hc >>= k))
    (h : R e A B C X (if P then Hz else H) o13 o14 o15 o16 (r >>= k)) :
    R e A B C X H o13 o14 o15 o16 (dite P p q >>= k) := by
  by_cases hc : P
  · rw [if_pos hc] at h; rw [dif_pos hc]; exact hp hc h
  · rw [if_neg hc] at h; rw [dif_neg hc, hq hc]; exact h

theorem R.ld1 {off size : Fin 2 → ℕ} {inb : ∀ a, off a + size a ≤ S128x192.size a}
    {hl : e.a1.view.LoadsAt (Rect.unit (s := S128x192) off size inb).toLoadRect}
    {k : ((Rect.unit (s := S128x192) off size inb).toLoadRect.shape.Idx → Elt F .f32) → Prog (TpuEff nD τ sig (Elt F) Λ₀ .tc) PUnit}
    (h : R e A B C X H o13 o14 o15 o16 (k (window (s := S128x192) e.b.x0 off size inb))) :
    R e A B C X H o13 o14 o15 o16 (.op (.load e.a1 (Rect.unit (s := S128x192) off size inb).toLoadRect hl) k) := by
  unfold R at h ⊢
  refine load_window Variants.none (e.c : Thread nD τ) none e.E (R := ?R) (q := fullShare) (x := e.b.x0) ?hP h
  case hP => unfold own; exact split_here (PROP := sProp 𝕄)

theorem R.ld2 {off size : Fin 2 → ℕ} {inb : ∀ a, off a + size a ≤ S128x192.size a}
    {hl : e.a2.view.LoadsAt (Rect.unit (s := S128x192) off size inb).toLoadRect}
    {k : ((Rect.unit (s := S128x192) off size inb).toLoadRect.shape.Idx → Elt F .f32) → Prog (TpuEff nD τ sig (Elt F) Λ₀ .tc) PUnit}
    (h : R e A B C X H o13 o14 o15 o16 (k (window (s := S128x192) e.b.x1 off size inb))) :
    R e A B C X H o13 o14 o15 o16 (.op (.load e.a2 (Rect.unit (s := S128x192) off size inb).toLoadRect hl) k) := by
  unfold R at h ⊢
  refine load_window Variants.none (e.c : Thread nD τ) none e.E (R := ?R) (q := fullShare) (x := e.b.x1) ?hP h
  case hP => unfold own; exact split_next <| split_here (PROP := sProp 𝕄)

theorem R.ld3 {off size : Fin 4 → ℕ} {inb : ∀ a, off a + size a ≤ S64x2x1x192.size a}
    {hl : e.a3.view.LoadsAt (Rect.unit (s := S64x2x1x192) off size inb).toLoadRect}
    {k : ((Rect.unit (s := S64x2x1x192) off size inb).toLoadRect.shape.Idx → Elt F .f32) → Prog (TpuEff nD τ sig (Elt F) Λ₀ .tc) PUnit}
    (h : R e A B C X H o13 o14 o15 o16 (k (window (s := S64x2x1x192) e.b.x2 off size inb))) :
    R e A B C X H o13 o14 o15 o16 (.op (.load e.a3 (Rect.unit (s := S64x2x1x192) off size inb).toLoadRect hl) k) := by
  unfold R at h ⊢
  refine load_window Variants.none (e.c : Thread nD τ) none e.E (R := ?R) (q := fullShare) (x := e.b.x2) ?hP h
  case hP => unfold own; exact split_next <| split_next <| split_here (PROP := sProp 𝕄)

theorem R.ld4 {off size : Fin 4 → ℕ} {inb : ∀ a, off a + size a ≤ S64x2x1x192.size a}
    {hl : e.a4.view.LoadsAt (Rect.unit (s := S64x2x1x192) off size inb).toLoadRect}
    {k : ((Rect.unit (s := S64x2x1x192) off size inb).toLoadRect.shape.Idx → Elt F .f32) → Prog (TpuEff nD τ sig (Elt F) Λ₀ .tc) PUnit}
    (h : R e A B C X H o13 o14 o15 o16 (k (window (s := S64x2x1x192) e.b.x3 off size inb))) :
    R e A B C X H o13 o14 o15 o16 (.op (.load e.a4 (Rect.unit (s := S64x2x1x192) off size inb).toLoadRect hl) k) := by
  unfold R at h ⊢
  refine load_window Variants.none (e.c : Thread nD τ) none e.E (R := ?R) (q := fullShare) (x := e.b.x3) ?hP h
  case hP => unfold own; exact split_next <| split_next <| split_next <| split_here (PROP := sProp 𝕄)

theorem R.ld5 {off size : Fin 3 → ℕ} {inb : ∀ a, off a + size a ≤ S2x76x192.size a}
    {hl : e.a5.view.LoadsAt (Rect.unit (s := S2x76x192) off size inb).toLoadRect}
    {k : ((Rect.unit (s := S2x76x192) off size inb).toLoadRect.shape.Idx → Elt F .f32) → Prog (TpuEff nD τ sig (Elt F) Λ₀ .tc) PUnit}
    (h : R e A B C X H o13 o14 o15 o16 (k (window (s := S2x76x192) e.b.x4 off size inb))) :
    R e A B C X H o13 o14 o15 o16 (.op (.load e.a5 (Rect.unit (s := S2x76x192) off size inb).toLoadRect hl) k) := by
  unfold R at h ⊢
  refine load_window Variants.none (e.c : Thread nD τ) none e.E (R := ?R) (q := fullShare) (x := e.b.x4) ?hP h
  case hP => unfold own; exact split_next <| split_next <| split_next <| split_next <| split_here (PROP := sProp 𝕄)

theorem R.ld6 {off size : Fin 3 → ℕ} {inb : ∀ a, off a + size a ≤ S2x12x384.size a}
    {hl : e.a6.view.LoadsAt (Rect.unit (s := S2x12x384) off size inb).toLoadRect}
    {k : ((Rect.unit (s := S2x12x384) off size inb).toLoadRect.shape.Idx → Elt F .f32) → Prog (TpuEff nD τ sig (Elt F) Λ₀ .tc) PUnit}
    (h : R e A B C X H o13 o14 o15 o16 (k (window (s := S2x12x384) e.b.x5 off size inb))) :
    R e A B C X H o13 o14 o15 o16 (.op (.load e.a6 (Rect.unit (s := S2x12x384) off size inb).toLoadRect hl) k) := by
  unfold R at h ⊢
  refine load_window Variants.none (e.c : Thread nD τ) none e.E (R := ?R) (q := fullShare) (x := e.b.x5) ?hP h
  case hP => unfold own; exact split_next <| split_next <| split_next <| split_next <| split_next <| split_here (PROP := sProp 𝕄)

theorem R.ld7 {off size : Fin 3 → ℕ} {inb : ∀ a, off a + size a ≤ S2x1x384.size a}
    {hl : e.a7.view.LoadsAt (Rect.unit (s := S2x1x384) off size inb).toLoadRect}
    {k : ((Rect.unit (s := S2x1x384) off size inb).toLoadRect.shape.Idx → Elt F .f32) → Prog (TpuEff nD τ sig (Elt F) Λ₀ .tc) PUnit}
    (h : R e A B C X H o13 o14 o15 o16 (k (window (s := S2x1x384) e.b.x6 off size inb))) :
    R e A B C X H o13 o14 o15 o16 (.op (.load e.a7 (Rect.unit (s := S2x1x384) off size inb).toLoadRect hl) k) := by
  unfold R at h ⊢
  refine load_window Variants.none (e.c : Thread nD τ) none e.E (R := ?R) (q := fullShare) (x := e.b.x6) ?hP h
  case hP => unfold own; exact split_next <| split_next <| split_next <| split_next <| split_next <| split_next <| split_here (PROP := sProp 𝕄)

theorem R.ld8 {off size : Fin 4 → ℕ} {inb : ∀ a, off a + size a ≤ S2x2x16x192.size a}
    {hl : e.a8.view.LoadsAt (Rect.unit (s := S2x2x16x192) off size inb).toLoadRect}
    {k : ((Rect.unit (s := S2x2x16x192) off size inb).toLoadRect.shape.Idx → Elt F .f32) → Prog (TpuEff nD τ sig (Elt F) Λ₀ .tc) PUnit}
    (h : R e A B C X H o13 o14 o15 o16 (k (window (s := S2x2x16x192) e.b.x7 off size inb))) :
    R e A B C X H o13 o14 o15 o16 (.op (.load e.a8 (Rect.unit (s := S2x2x16x192) off size inb).toLoadRect hl) k) := by
  unfold R at h ⊢
  refine load_window Variants.none (e.c : Thread nD τ) none e.E (R := ?R) (q := fullShare) (x := e.b.x7) ?hP h
  case hP => unfold own; exact split_next <| split_next <| split_next <| split_next <| split_next <| split_next <| split_next <| split_here (PROP := sProp 𝕄)

theorem R.ld9 {off size : Fin 3 → ℕ} {inb : ∀ a, off a + size a ≤ S2x2x192.size a}
    {hl : e.a9.view.LoadsAt (Rect.unit (s := S2x2x192) off size inb).toLoadRect}
    {k : ((Rect.unit (s := S2x2x192) off size inb).toLoadRect.shape.Idx → Elt F .f32) → Prog (TpuEff nD τ sig (Elt F) Λ₀ .tc) PUnit}
    (h : R e A B C X H o13 o14 o15 o16 (k (window (s := S2x2x192) e.b.x8 off size inb))) :
    R e A B C X H o13 o14 o15 o16 (.op (.load e.a9 (Rect.unit (s := S2x2x192) off size inb).toLoadRect hl) k) := by
  unfold R at h ⊢
  refine load_window Variants.none (e.c : Thread nD τ) none e.E (R := ?R) (q := fullShare) (x := e.b.x8) ?hP h
  case hP => unfold own; exact split_next <| split_next <| split_next <| split_next <| split_next <| split_next <| split_next <| split_next <| split_here (PROP := sProp 𝕄)

theorem R.ld10 {off size : Fin 2 → ℕ} {inb : ∀ a, off a + size a ≤ S128x2048.size a}
    {hl : e.a10.view.LoadsAt (Rect.unit (s := S128x2048) off size inb).toLoadRect}
    {k : ((Rect.unit (s := S128x2048) off size inb).toLoadRect.shape.Idx → Elt F .f32) → Prog (TpuEff nD τ sig (Elt F) Λ₀ .tc) PUnit}
    (h : R e A B C X H o13 o14 o15 o16 (k (window (s := S128x2048) e.b.x9 off size inb))) :
    R e A B C X H o13 o14 o15 o16 (.op (.load e.a10 (Rect.unit (s := S128x2048) off size inb).toLoadRect hl) k) := by
  unfold R at h ⊢
  refine load_window Variants.none (e.c : Thread nD τ) none e.E (R := ?R) (q := fullShare) (x := e.b.x9) ?hP h
  case hP => unfold own; exact split_next <| split_next <| split_next <| split_next <| split_next <| split_next <| split_next <| split_next <| split_next <| split_here (PROP := sProp 𝕄)

theorem R.ld11 {off size : Fin 2 → ℕ} {inb : ∀ a, off a + size a ≤ S2048x32.size a}
    {hl : e.a11.view.LoadsAt (Rect.unit (s := S2048x32) off size inb).toLoadRect}
    {k : ((Rect.unit (s := S2048x32) off size inb).toLoadRect.shape.Idx → Elt F .f32) → Prog (TpuEff nD τ sig (Elt F) Λ₀ .tc) PUnit}
    (h : R e A B C X H o13 o14 o15 o16 (k (window (s := S2048x32) e.b.x10 off size inb))) :
    R e A B C X H o13 o14 o15 o16 (.op (.load e.a11 (Rect.unit (s := S2048x32) off size inb).toLoadRect hl) k) := by
  unfold R at h ⊢
  refine load_window Variants.none (e.c : Thread nD τ) none e.E (R := ?R) (q := fullShare) (x := e.b.x10) ?hP h
  case hP => unfold own; exact split_next <| split_next <| split_next <| split_next <| split_next <| split_next <| split_next <| split_next <| split_next <| split_next <| split_here (PROP := sProp 𝕄)

theorem R.ld12 {off size : Fin 2 → ℕ} {inb : ∀ a, off a + size a ≤ S32x384.size a}
    {hl : e.a12.view.LoadsAt (Rect.unit (s := S32x384) off size inb).toLoadRect}
    {k : ((Rect.unit (s := S32x384) off size inb).toLoadRect.shape.Idx → Elt F .f32) → Prog (TpuEff nD τ sig (Elt F) Λ₀ .tc) PUnit}
    (h : R e A B C X H o13 o14 o15 o16 (k (window (s := S32x384) e.b.x11 off size inb))) :
    R e A B C X H o13 o14 o15 o16 (.op (.load e.a12 (Rect.unit (s := S32x384) off size inb).toLoadRect hl) k) := by
  unfold R at h ⊢
  refine load_window Variants.none (e.c : Thread nD τ) none e.E (R := ?R) (q := fullShare) (x := e.b.x11) ?hP h
  case hP => unfold own; exact split_next <| split_next <| split_next <| split_next <| split_next <| split_next <| split_next <| split_next <| split_next <| split_next <| split_next <| split_here (PROP := sProp 𝕄)

theorem R.ld13 {off size : Fin 2 → ℕ} {inb : ∀ a, off a + size a ≤ S128x192.size a}
    {hl : e.a13.view.LoadsAt (Rect.unit (s := S128x192) off size inb).toLoadRect}
    {k : ((Rect.unit (s := S128x192) off size inb).toLoadRect.shape.Idx → Elt F .f32) → Prog (TpuEff nD τ sig (Elt F) Λ₀ .tc) PUnit}
    (h : R e A B C X H o13 o14 o15 o16 (k (window (s := S128x192) o13 off size inb))) :
    R e A B C X H o13 o14 o15 o16 (.op (.load e.a13 (Rect.unit (s := S128x192) off size inb).toLoadRect hl) k) := by
  unfold R at h ⊢
  refine load_window Variants.none (e.c : Thread nD τ) none e.E (R := ?R) (q := fullShare) (x := o13) ?hP h
  case hP => unfold own; exact split_next <| split_next <| split_next <| split_next <| split_next <| split_next <| split_next <| split_next <| split_next <| split_next <| split_next <| split_next <| split_here (PROP := sProp 𝕄)

theorem R.st13 {off size : Fin 2 → ℕ} {inb : ∀ a, off a + size a ≤ S128x192.size a}
    {w : (Rect.unit (s := S128x192) off size inb).shape.Idx → Elt F .f32}
    {hx : (e.a13.access (Rect.unit (s := S128x192) off size inb)).Stores Finset.univ}
    {hm : Finset.univ = Finset.univ ∨ ∀ a, (Rect.unit (s := S128x192) off size inb).stride a = 1}
    {k : PUnit → Prog (TpuEff nD τ sig (Elt F) Λ₀ .tc) PUnit}
    (h : R e A B C X H (put (s := S128x192) o13 off size w) o14 o15 o16 (k ⟨⟩)) :
    R e A B C X H o13 o14 o15 o16 (.op (.store e.a13 (Rect.unit (s := S128x192) off size inb) w Finset.univ hx hm) k) := by
  unfold R at h ⊢
  refine store_put Variants.none (e.c : Thread nD τ) none e.E (R := ?R) (x := o13) ?hP ?hP' h
  case hP => unfold own; exact split_next <| split_next <| split_next <| split_next <| split_next <| split_next <| split_next <| split_next <| split_next <| split_next <| split_next <| split_next <| split_here (PROP := sProp 𝕄)
  case hP' => unfold own; exact split_next <| split_next <| split_next <| split_next <| split_next <| split_next <| split_next <| split_next <| split_next <| split_next <| split_next <| split_next <| split_here (PROP := sProp 𝕄)

theorem R.ld14 {off size : Fin 2 → ℕ} {inb : ∀ a, off a + size a ≤ S128x192.size a}
    {hl : e.a14.view.LoadsAt (Rect.unit (s := S128x192) off size inb).toLoadRect}
    {k : ((Rect.unit (s := S128x192) off size inb).toLoadRect.shape.Idx → Elt F .f32) → Prog (TpuEff nD τ sig (Elt F) Λ₀ .tc) PUnit}
    (h : R e A B C X H o13 o14 o15 o16 (k (window (s := S128x192) o14 off size inb))) :
    R e A B C X H o13 o14 o15 o16 (.op (.load e.a14 (Rect.unit (s := S128x192) off size inb).toLoadRect hl) k) := by
  unfold R at h ⊢
  refine load_window Variants.none (e.c : Thread nD τ) none e.E (R := ?R) (q := fullShare) (x := o14) ?hP h
  case hP => unfold own; exact split_next <| split_next <| split_next <| split_next <| split_next <| split_next <| split_next <| split_next <| split_next <| split_next <| split_next <| split_next <| split_next <| split_here (PROP := sProp 𝕄)

theorem R.st14 {off size : Fin 2 → ℕ} {inb : ∀ a, off a + size a ≤ S128x192.size a}
    {w : (Rect.unit (s := S128x192) off size inb).shape.Idx → Elt F .f32}
    {hx : (e.a14.access (Rect.unit (s := S128x192) off size inb)).Stores Finset.univ}
    {hm : Finset.univ = Finset.univ ∨ ∀ a, (Rect.unit (s := S128x192) off size inb).stride a = 1}
    {k : PUnit → Prog (TpuEff nD τ sig (Elt F) Λ₀ .tc) PUnit}
    (h : R e A B C X H o13 (put (s := S128x192) o14 off size w) o15 o16 (k ⟨⟩)) :
    R e A B C X H o13 o14 o15 o16 (.op (.store e.a14 (Rect.unit (s := S128x192) off size inb) w Finset.univ hx hm) k) := by
  unfold R at h ⊢
  refine store_put Variants.none (e.c : Thread nD τ) none e.E (R := ?R) (x := o14) ?hP ?hP' h
  case hP => unfold own; exact split_next <| split_next <| split_next <| split_next <| split_next <| split_next <| split_next <| split_next <| split_next <| split_next <| split_next <| split_next <| split_next <| split_here (PROP := sProp 𝕄)
  case hP' => unfold own; exact split_next <| split_next <| split_next <| split_next <| split_next <| split_next <| split_next <| split_next <| split_next <| split_next <| split_next <| split_next <| split_next <| split_here (PROP := sProp 𝕄)

theorem R.ld15 {off size : Fin 4 → ℕ} {inb : ∀ a, off a + size a ≤ S64x2x1x192.size a}
    {hl : e.a15.view.LoadsAt (Rect.unit (s := S64x2x1x192) off size inb).toLoadRect}
    {k : ((Rect.unit (s := S64x2x1x192) off size inb).toLoadRect.shape.Idx → Elt F .f32) → Prog (TpuEff nD τ sig (Elt F) Λ₀ .tc) PUnit}
    (h : R e A B C X H o13 o14 o15 o16 (k (window (s := S64x2x1x192) o15 off size inb))) :
    R e A B C X H o13 o14 o15 o16 (.op (.load e.a15 (Rect.unit (s := S64x2x1x192) off size inb).toLoadRect hl) k) := by
  unfold R at h ⊢
  refine load_window Variants.none (e.c : Thread nD τ) none e.E (R := ?R) (q := fullShare) (x := o15) ?hP h
  case hP => unfold own; exact split_next <| split_next <| split_next <| split_next <| split_next <| split_next <| split_next <| split_next <| split_next <| split_next <| split_next <| split_next <| split_next <| split_next <| split_here (PROP := sProp 𝕄)

theorem R.st15 {off size : Fin 4 → ℕ} {inb : ∀ a, off a + size a ≤ S64x2x1x192.size a}
    {w : (Rect.unit (s := S64x2x1x192) off size inb).shape.Idx → Elt F .f32}
    {hx : (e.a15.access (Rect.unit (s := S64x2x1x192) off size inb)).Stores Finset.univ}
    {hm : Finset.univ = Finset.univ ∨ ∀ a, (Rect.unit (s := S64x2x1x192) off size inb).stride a = 1}
    {k : PUnit → Prog (TpuEff nD τ sig (Elt F) Λ₀ .tc) PUnit}
    (h : R e A B C X H o13 o14 (put (s := S64x2x1x192) o15 off size w) o16 (k ⟨⟩)) :
    R e A B C X H o13 o14 o15 o16 (.op (.store e.a15 (Rect.unit (s := S64x2x1x192) off size inb) w Finset.univ hx hm) k) := by
  unfold R at h ⊢
  refine store_put Variants.none (e.c : Thread nD τ) none e.E (R := ?R) (x := o15) ?hP ?hP' h
  case hP => unfold own; exact split_next <| split_next <| split_next <| split_next <| split_next <| split_next <| split_next <| split_next <| split_next <| split_next <| split_next <| split_next <| split_next <| split_next <| split_here (PROP := sProp 𝕄)
  case hP' => unfold own; exact split_next <| split_next <| split_next <| split_next <| split_next <| split_next <| split_next <| split_next <| split_next <| split_next <| split_next <| split_next <| split_next <| split_next <| split_here (PROP := sProp 𝕄)

theorem R.ld16 {off size : Fin 4 → ℕ} {inb : ∀ a, off a + size a ≤ S64x2x1x192.size a}
    {hl : e.a16.view.LoadsAt (Rect.unit (s := S64x2x1x192) off size inb).toLoadRect}
    {k : ((Rect.unit (s := S64x2x1x192) off size inb).toLoadRect.shape.Idx → Elt F .f32) → Prog (TpuEff nD τ sig (Elt F) Λ₀ .tc) PUnit}
    (h : R e A B C X H o13 o14 o15 o16 (k (window (s := S64x2x1x192) o16 off size inb))) :
    R e A B C X H o13 o14 o15 o16 (.op (.load e.a16 (Rect.unit (s := S64x2x1x192) off size inb).toLoadRect hl) k) := by
  unfold R at h ⊢
  refine load_window Variants.none (e.c : Thread nD τ) none e.E (R := ?R) (q := fullShare) (x := o16) ?hP h
  case hP => unfold own; exact split_next <| split_next <| split_next <| split_next <| split_next <| split_next <| split_next <| split_next <| split_next <| split_next <| split_next <| split_next <| split_next <| split_next <| split_next <| split_here (PROP := sProp 𝕄)

theorem R.st16 {off size : Fin 4 → ℕ} {inb : ∀ a, off a + size a ≤ S64x2x1x192.size a}
    {w : (Rect.unit (s := S64x2x1x192) off size inb).shape.Idx → Elt F .f32}
    {hx : (e.a16.access (Rect.unit (s := S64x2x1x192) off size inb)).Stores Finset.univ}
    {hm : Finset.univ = Finset.univ ∨ ∀ a, (Rect.unit (s := S64x2x1x192) off size inb).stride a = 1}
    {k : PUnit → Prog (TpuEff nD τ sig (Elt F) Λ₀ .tc) PUnit}
    (h : R e A B C X H o13 o14 o15 (put (s := S64x2x1x192) o16 off size w) (k ⟨⟩)) :
    R e A B C X H o13 o14 o15 o16 (.op (.store e.a16 (Rect.unit (s := S64x2x1x192) off size inb) w Finset.univ hx hm) k) := by
  unfold R at h ⊢
  refine store_put Variants.none (e.c : Thread nD τ) none e.E (R := ?R) (x := o16) ?hP ?hP' h
  case hP => unfold own; exact split_next <| split_next <| split_next <| split_next <| split_next <| split_next <| split_next <| split_next <| split_next <| split_next <| split_next <| split_next <| split_next <| split_next <| split_next <| split_here (PROP := sProp 𝕄)
  case hP' => unfold own; exact split_next <| split_next <| split_next <| split_next <| split_next <| split_next <| split_next <| split_next <| split_next <| split_next <| split_next <| split_next <| split_next <| split_next <| split_next <| split_here (PROP := sProp 𝕄)

theorem R.ld17 {off size : Fin 4 → ℕ} {inb : ∀ a, off a + size a ≤ S4x128x16x192.size a}
    {hl : e.a17.view.LoadsAt (Rect.unit (s := S4x128x16x192) off size inb).toLoadRect}
    {k : ((Rect.unit (s := S4x128x16x192) off size inb).toLoadRect.shape.Idx → Elt F .f32) → Prog (TpuEff nD τ sig (Elt F) Λ₀ .tc) PUnit}
    (h : R e A B C X H o13 o14 o15 o16 (k (window (s := S4x128x16x192) A off size inb))) :
    R e A B C X H o13 o14 o15 o16 (.op (.load e.a17 (Rect.unit (s := S4x128x16x192) off size inb).toLoadRect hl) k) := by
  unfold R at h ⊢
  refine load_window Variants.none (e.c : Thread nD τ) none e.E (R := ?R) (q := fullShare) (x := A) ?hP h
  case hP => unfold own; exact split_next <| split_next <| split_next <| split_next <| split_next <| split_next <| split_next <| split_next <| split_next <| split_next <| split_next <| split_next <| split_next <| split_next <| split_next <| split_next <| split_here (PROP := sProp 𝕄)

theorem R.st17 {off size : Fin 4 → ℕ} {inb : ∀ a, off a + size a ≤ S4x128x16x192.size a}
    {w : (Rect.unit (s := S4x128x16x192) off size inb).shape.Idx → Elt F .f32}
    {hx : (e.a17.access (Rect.unit (s := S4x128x16x192) off size inb)).Stores Finset.univ}
    {hm : Finset.univ = Finset.univ ∨ ∀ a, (Rect.unit (s := S4x128x16x192) off size inb).stride a = 1}
    {k : PUnit → Prog (TpuEff nD τ sig (Elt F) Λ₀ .tc) PUnit}
    (h : R e (put (s := S4x128x16x192) A off size w) B C X H o13 o14 o15 o16 (k ⟨⟩)) :
    R e A B C X H o13 o14 o15 o16 (.op (.store e.a17 (Rect.unit (s := S4x128x16x192) off size inb) w Finset.univ hx hm) k) := by
  unfold R at h ⊢
  refine store_put Variants.none (e.c : Thread nD τ) none e.E (R := ?R) (x := A) ?hP ?hP' h
  case hP => unfold own; exact split_next <| split_next <| split_next <| split_next <| split_next <| split_next <| split_next <| split_next <| split_next <| split_next <| split_next <| split_next <| split_next <| split_next <| split_next <| split_next <| split_here (PROP := sProp 𝕄)
  case hP' => unfold own; exact split_next <| split_next <| split_next <| split_next <| split_next <| split_next <| split_next <| split_next <| split_next <| split_next <| split_next <| split_next <| split_next <| split_next <| split_next <| split_next <| split_here (PROP := sProp 𝕄)

theorem R.ld18 {off size : Fin 4 → ℕ} {inb : ∀ a, off a + size a ≤ S4x128x16x192.size a}
    {hl : e.a18.view.LoadsAt (Rect.unit (s := S4x128x16x192) off size inb).toLoadRect}
    {k : ((Rect.unit (s := S4x128x16x192) off size inb).toLoadRect.shape.Idx → Elt F .f32) → Prog (TpuEff nD τ sig (Elt F) Λ₀ .tc) PUnit}
    (h : R e A B C X H o13 o14 o15 o16 (k (window (s := S4x128x16x192) B off size inb))) :
    R e A B C X H o13 o14 o15 o16 (.op (.load e.a18 (Rect.unit (s := S4x128x16x192) off size inb).toLoadRect hl) k) := by
  unfold R at h ⊢
  refine load_window Variants.none (e.c : Thread nD τ) none e.E (R := ?R) (q := fullShare) (x := B) ?hP h
  case hP => unfold own; exact split_next <| split_next <| split_next <| split_next <| split_next <| split_next <| split_next <| split_next <| split_next <| split_next <| split_next <| split_next <| split_next <| split_next <| split_next <| split_next <| split_next <| split_here (PROP := sProp 𝕄)

theorem R.st18 {off size : Fin 4 → ℕ} {inb : ∀ a, off a + size a ≤ S4x128x16x192.size a}
    {w : (Rect.unit (s := S4x128x16x192) off size inb).shape.Idx → Elt F .f32}
    {hx : (e.a18.access (Rect.unit (s := S4x128x16x192) off size inb)).Stores Finset.univ}
    {hm : Finset.univ = Finset.univ ∨ ∀ a, (Rect.unit (s := S4x128x16x192) off size inb).stride a = 1}
    {k : PUnit → Prog (TpuEff nD τ sig (Elt F) Λ₀ .tc) PUnit}
    (h : R e A (put (s := S4x128x16x192) B off size w) C X H o13 o14 o15 o16 (k ⟨⟩)) :
    R e A B C X H o13 o14 o15 o16 (.op (.store e.a18 (Rect.unit (s := S4x128x16x192) off size inb) w Finset.univ hx hm) k) := by
  unfold R at h ⊢
  refine store_put Variants.none (e.c : Thread nD τ) none e.E (R := ?R) (x := B) ?hP ?hP' h
  case hP => unfold own; exact split_next <| split_next <| split_next <| split_next <| split_next <| split_next <| split_next <| split_next <| split_next <| split_next <| split_next <| split_next <| split_next <| split_next <| split_next <| split_next <| split_next <| split_here (PROP := sProp 𝕄)
  case hP' => unfold own; exact split_next <| split_next <| split_next <| split_next <| split_next <| split_next <| split_next <| split_next <| split_next <| split_next <| split_next <| split_next <| split_next <| split_next <| split_next <| split_next <| split_next <| split_here (PROP := sProp 𝕄)

theorem R.ld19 {off size : Fin 4 → ℕ} {inb : ∀ a, off a + size a ≤ S4x128x16x192.size a}
    {hl : e.a19.view.LoadsAt (Rect.unit (s := S4x128x16x192) off size inb).toLoadRect}
    {k : ((Rect.unit (s := S4x128x16x192) off size inb).toLoadRect.shape.Idx → Elt F .f32) → Prog (TpuEff nD τ sig (Elt F) Λ₀ .tc) PUnit}
    (h : R e A B C X H o13 o14 o15 o16 (k (window (s := S4x128x16x192) C off size inb))) :
    R e A B C X H o13 o14 o15 o16 (.op (.load e.a19 (Rect.unit (s := S4x128x16x192) off size inb).toLoadRect hl) k) := by
  unfold R at h ⊢
  refine load_window Variants.none (e.c : Thread nD τ) none e.E (R := ?R) (q := fullShare) (x := C) ?hP h
  case hP => unfold own; exact split_next <| split_next <| split_next <| split_next <| split_next <| split_next <| split_next <| split_next <| split_next <| split_next <| split_next <| split_next <| split_next <| split_next <| split_next <| split_next <| split_next <| split_next <| split_here (PROP := sProp 𝕄)

theorem R.st19 {off size : Fin 4 → ℕ} {inb : ∀ a, off a + size a ≤ S4x128x16x192.size a}
    {w : (Rect.unit (s := S4x128x16x192) off size inb).shape.Idx → Elt F .f32}
    {hx : (e.a19.access (Rect.unit (s := S4x128x16x192) off size inb)).Stores Finset.univ}
    {hm : Finset.univ = Finset.univ ∨ ∀ a, (Rect.unit (s := S4x128x16x192) off size inb).stride a = 1}
    {k : PUnit → Prog (TpuEff nD τ sig (Elt F) Λ₀ .tc) PUnit}
    (h : R e A B (put (s := S4x128x16x192) C off size w) X H o13 o14 o15 o16 (k ⟨⟩)) :
    R e A B C X H o13 o14 o15 o16 (.op (.store e.a19 (Rect.unit (s := S4x128x16x192) off size inb) w Finset.univ hx hm) k) := by
  unfold R at h ⊢
  refine store_put Variants.none (e.c : Thread nD τ) none e.E (R := ?R) (x := C) ?hP ?hP' h
  case hP => unfold own; exact split_next <| split_next <| split_next <| split_next <| split_next <| split_next <| split_next <| split_next <| split_next <| split_next <| split_next <| split_next <| split_next <| split_next <| split_next <| split_next <| split_next <| split_next <| split_here (PROP := sProp 𝕄)
  case hP' => unfold own; exact split_next <| split_next <| split_next <| split_next <| split_next <| split_next <| split_next <| split_next <| split_next <| split_next <| split_next <| split_next <| split_next <| split_next <| split_next <| split_next <| split_next <| split_next <| split_here (PROP := sProp 𝕄)

theorem R.ld20 {off size : Fin 4 → ℕ} {inb : ∀ a, off a + size a ≤ S4x128x16x192.size a}
    {hl : e.a20.view.LoadsAt (Rect.unit (s := S4x128x16x192) off size inb).toLoadRect}
    {k : ((Rect.unit (s := S4x128x16x192) off size inb).toLoadRect.shape.Idx → Elt F .f32) → Prog (TpuEff nD τ sig (Elt F) Λ₀ .tc) PUnit}
    (h : R e A B C X H o13 o14 o15 o16 (k (window (s := S4x128x16x192) X off size inb))) :
    R e A B C X H o13 o14 o15 o16 (.op (.load e.a20 (Rect.unit (s := S4x128x16x192) off size inb).toLoadRect hl) k) := by
  unfold R at h ⊢
  refine load_window Variants.none (e.c : Thread nD τ) none e.E (R := ?R) (q := fullShare) (x := X) ?hP h
  case hP => unfold own; exact split_next <| split_next <| split_next <| split_next <| split_next <| split_next <| split_next <| split_next <| split_next <| split_next <| split_next <| split_next <| split_next <| split_next <| split_next <| split_next <| split_next <| split_next <| split_next <| split_here (PROP := sProp 𝕄)

theorem R.st20 {off size : Fin 4 → ℕ} {inb : ∀ a, off a + size a ≤ S4x128x16x192.size a}
    {w : (Rect.unit (s := S4x128x16x192) off size inb).shape.Idx → Elt F .f32}
    {hx : (e.a20.access (Rect.unit (s := S4x128x16x192) off size inb)).Stores Finset.univ}
    {hm : Finset.univ = Finset.univ ∨ ∀ a, (Rect.unit (s := S4x128x16x192) off size inb).stride a = 1}
    {k : PUnit → Prog (TpuEff nD τ sig (Elt F) Λ₀ .tc) PUnit}
    (h : R e A B C (put (s := S4x128x16x192) X off size w) H o13 o14 o15 o16 (k ⟨⟩)) :
    R e A B C X H o13 o14 o15 o16 (.op (.store e.a20 (Rect.unit (s := S4x128x16x192) off size inb) w Finset.univ hx hm) k) := by
  unfold R at h ⊢
  refine store_put Variants.none (e.c : Thread nD τ) none e.E (R := ?R) (x := X) ?hP ?hP' h
  case hP => unfold own; exact split_next <| split_next <| split_next <| split_next <| split_next <| split_next <| split_next <| split_next <| split_next <| split_next <| split_next <| split_next <| split_next <| split_next <| split_next <| split_next <| split_next <| split_next <| split_next <| split_here (PROP := sProp 𝕄)
  case hP' => unfold own; exact split_next <| split_next <| split_next <| split_next <| split_next <| split_next <| split_next <| split_next <| split_next <| split_next <| split_next <| split_next <| split_next <| split_next <| split_next <| split_next <| split_next <| split_next <| split_next <| split_here (PROP := sProp 𝕄)

theorem R.ld21 {off size : Fin 3 → ℕ} {inb : ∀ a, off a + size a ≤ S4x16x192.size a}
    {hl : e.a21.view.LoadsAt (Rect.unit (s := S4x16x192) off size inb).toLoadRect}
    {k : ((Rect.unit (s := S4x16x192) off size inb).toLoadRect.shape.Idx → Elt F .f32) → Prog (TpuEff nD τ sig (Elt F) Λ₀ .tc) PUnit}
    (h : R e A B C X H o13 o14 o15 o16 (k (window (s := S4x16x192) H off size inb))) :
    R e A B C X H o13 o14 o15 o16 (.op (.load e.a21 (Rect.unit (s := S4x16x192) off size inb).toLoadRect hl) k) := by
  unfold R at h ⊢
  refine load_window Variants.none (e.c : Thread nD τ) none e.E (R := ?R) (q := fullShare) (x := H) ?hP h
  case hP => unfold own; exact split_next <| split_next <| split_next <| split_next <| split_next <| split_next <| split_next <| split_next <| split_next <| split_next <| split_next <| split_next <| split_next <| split_next <| split_next <| split_next <| split_next <| split_next <| split_next <| split_last (PROP := sProp 𝕄)

theorem R.st21 {off size : Fin 3 → ℕ} {inb : ∀ a, off a + size a ≤ S4x16x192.size a}
    {w : (Rect.unit (s := S4x16x192) off size inb).shape.Idx → Elt F .f32}
    {hx : (e.a21.access (Rect.unit (s := S4x16x192) off size inb)).Stores Finset.univ}
    {hm : Finset.univ = Finset.univ ∨ ∀ a, (Rect.unit (s := S4x16x192) off size inb).stride a = 1}
    {k : PUnit → Prog (TpuEff nD τ sig (Elt F) Λ₀ .tc) PUnit}
    (h : R e A B C X (put (s := S4x16x192) H off size w) o13 o14 o15 o16 (k ⟨⟩)) :
    R e A B C X H o13 o14 o15 o16 (.op (.store e.a21 (Rect.unit (s := S4x16x192) off size inb) w Finset.univ hx hm) k) := by
  unfold R at h ⊢
  refine store_put Variants.none (e.c : Thread nD τ) none e.E (R := ?R) (x := H) ?hP ?hP' h
  case hP => unfold own; exact split_next <| split_next <| split_next <| split_next <| split_next <| split_next <| split_next <| split_next <| split_next <| split_next <| split_next <| split_next <| split_next <| split_next <| split_next <| split_next <| split_next <| split_next <| split_next <| split_last (PROP := sProp 𝕄)
  case hP' => unfold own; exact split_next <| split_next <| split_next <| split_next <| split_next <| split_next <| split_next <| split_next <| split_next <| split_next <| split_next <| split_next <| split_next <| split_next <| split_next <| split_next <| split_next <| split_next <| split_next <| split_last (PROP := sProp 𝕄)

end

/-! ## The loop -/

/-- A row inside the scratch is the window the loop loads. -/
theorem window_eq_rowT (A : Vec F S4x128x16x192 .f32) (d t : ℕ)
    (inb : ∀ a, (![d, t, 0, 0] : Fin 4 → ℕ) a + S1x1x16x192.size a ≤ S4x128x16x192.size a) :
    window (s := S4x128x16x192) A ![d, t, 0, 0] S1x1x16x192.size inb = rowT A d t := by
  funext y
  refine congrArg A (funext fun a => Fin.ext ?_)
  have h1 := inb a
  have h2 : (y a).val < S1x1x16x192.size a := (y a).isLt
  show (![d, t, 0, 0] : Fin 4 → ℕ) a + 1 * (y a).val = ((![d, t, 0, 0] : Fin 4 → ℕ) a + (y a).val) % S4x128x16x192.size a
  rw [Nat.mod_eq_of_lt (by omega), Nat.one_mul]

theorem window_eq_rowH (H : Vec F S4x16x192 .f32) (d : ℕ)
    (inb : ∀ a, (![d, 0, 0] : Fin 3 → ℕ) a + S1x16x192.size a ≤ S4x16x192.size a) :
    window (s := S4x16x192) H ![d, 0, 0] S1x16x192.size inb = rowH H d := by
  funext y
  refine congrArg H (funext fun a => Fin.ext ?_)
  have h1 := inb a
  have h2 : (y a).val < S1x16x192.size a := (y a).isLt
  show (![d, 0, 0] : Fin 3 → ℕ) a + 1 * (y a).val = ((![d, 0, 0] : Fin 3 → ℕ) a + (y a).val) % S4x16x192.size a
  rw [Nat.mod_eq_of_lt (by omega), Nat.one_mul]

theorem inb_row {d t : ℕ} (hd : d < 4) (ht : t < 128) :
    ∀ a, (![d, t, 0, 0] : Fin 4 → ℕ) a + S1x1x16x192.size a ≤ S4x128x16x192.size a := by
  intro a
  fin_cases a
  · show d + 1 ≤ 4; omega
  · show t + 1 ≤ 128; omega
  · show 0 + 16 ≤ 16; omega
  · show 0 + 192 ≤ 192; omega

/-- A load of one direction's carried states, as a slab. -/
theorem R.ldRow {e : Env F} {A B C X : Vec F S4x128x16x192 .f32} {H : Vec F S4x16x192 .f32} {o13 o14 : Vec F S128x192 .f32}
    {o15 o16 : Vec F S64x2x1x192 .f32} {d : ℕ} {inb : ∀ a, (![d, 0, 0] : Fin 3 → ℕ) a + S1x16x192.size a ≤ S4x16x192.size a}
    {hl : e.a21.view.LoadsAt (Rect.unit (s := S4x16x192) ![d, 0, 0] S1x16x192.size inb).toLoadRect}
    {k : ((Rect.unit (s := S4x16x192) ![d, 0, 0] S1x16x192.size inb).toLoadRect.shape.Idx → Elt F .f32) → Prog (TpuEff nD τ sig (Elt F) Λ₀ .tc) PUnit}
    (h : R e A B C X H o13 o14 o15 o16 (k (rowH H d))) :
    R e A B C X H o13 o14 o15 o16 (.op (.load e.a21 (Rect.unit (s := S4x16x192) ![d, 0, 0] S1x16x192.size inb).toLoadRect hl) k) :=
  R.ld21 (by rw [window_eq_rowH]; exact h)

/-- The place of row `t` of direction `d` in the loop's order. -/
def place (d t : ℕ) : ℕ := 4 * (if d % 2 = 0 then t else 127 - t) + d

/-- The first `m` rows of the state scratch, in the loop's order, hold the recurrence's states. -/
def Inv (A B : Vec F S4x128x16x192 .f32) (H : Vec F S4x16x192 .f32) (m : ℕ) (X : Vec F S4x128x16x192 .f32) : Prop :=
  ∀ d t, d < 4 → t < 128 → place d t < m → rowT X d t = shapeCast S1x1x16x192 (st A B H d t) shapeCasts_S16x192_S1x1x16x192

theorem Inv.step {A B : Vec F S4x128x16x192 .f32} {H : Vec F S4x16x192 .f32} {m : ℕ} {X : Vec F S4x128x16x192 .f32}
    (hX : Inv A B H m X) {d t : ℕ} (hd : d < 4) (ht : t < 128) (hm : place d t = m) :
    Inv A B H (m + 1) (put (s := S4x128x16x192) X ![d, t, 0, 0] S1x1x16x192.size
      (shapeCast S1x1x16x192 (st A B H d t) shapeCasts_S16x192_S1x1x16x192)) := by
  intro d' t' hd' ht' hm'
  rw [← window_eq_rowT _ d' t' (inb_row hd' ht')]
  by_cases hdd : d' = d
  · subst hdd
    by_cases htt : t' = t
    · subst htt
      exact window_put_same X _ _ _ _
    · rw [window_put_of_disjoint X _ _ _ _ (inb_row hd' ht') _ 1 (by show t' + 1 ≤ t ∨ t + 1 ≤ t'; omega), window_eq_rowT]
      refine hX d' t' hd' ht' ?_
      unfold place at hm hm' ⊢
      split at hm <;> simp_all <;> omega
  · rw [window_put_of_disjoint X _ _ _ _ (inb_row hd' ht') _ 0 (by show d' + 1 ≤ d ∨ d + 1 ≤ d'; omega), window_eq_rowT]
    refine hX d' t' hd' ht' ?_
    have : place d' t' ≠ m := by
      rw [← hm]; unfold place
      split <;> split <;> omega
    omega

/-- The program `p` runs inside the loop, its first `m` row stores done. -/
def L (e : Env F) (A B C : Vec F S4x128x16x192 .f32) (H : Vec F S4x16x192 .f32) (o13 o14 : Vec F S128x192 .f32)
    (o15 o16 : Vec F S64x2x1x192 .f32) (m : ℕ) (p : Prog (TpuEff nD τ sig (Elt F) Λ₀ .tc) PUnit) : Prop :=
  ∀ X, Inv A B H m X → R e A B C X H o13 o14 o15 o16 p

section
variable {e : Env F} {A B C : Vec F S4x128x16x192 .f32} {H : Vec F S4x16x192 .f32} {o13 o14 : Vec F S128x192 .f32}
  {o15 o16 : Vec F S64x2x1x192 .f32} {m : ℕ}

/-- Into the loop, the slabs it reads under their names. -/
theorem L.enter {A' B' C' X : Vec F S4x128x16x192 .f32} {p : Prog (TpuEff nD τ sig (Elt F) Λ₀ .tc) PUnit}
    (hA : A' = A) (hB : B' = B) (hC : C' = C) (h : L e A B C H o13 o14 o15 o16 0 p) :
    R e A' B' C' X H o13 o14 o15 o16 p := by
  subst hA hB hC
  exact h X fun d t _ _ hm => absurd hm (Nat.not_lt_zero _)

section
variable {d t : ℕ} {inb : ∀ a, (![d, t, 0, 0] : Fin 4 → ℕ) a + S1x1x16x192.size a ≤ S4x128x16x192.size a}

theorem L.ld17 {hl : e.a17.view.LoadsAt (Rect.unit (s := S4x128x16x192) ![d, t, 0, 0] S1x1x16x192.size inb).toLoadRect}
    {k : ((Rect.unit (s := S4x128x16x192) ![d, t, 0, 0] S1x1x16x192.size inb).toLoadRect.shape.Idx → Elt F .f32) → Prog (TpuEff nD τ sig (Elt F) Λ₀ .tc) PUnit}
    (h : L e A B C H o13 o14 o15 o16 m (k (rowT A d t))) :
    L e A B C H o13 o14 o15 o16 m (.op (.load e.a17 (Rect.unit (s := S4x128x16x192) ![d, t, 0, 0] S1x1x16x192.size inb).toLoadRect hl) k) :=
  fun X hX => R.ld17 (by rw [window_eq_rowT]; exact h X hX)

theorem L.ld18 {hl : e.a18.view.LoadsAt (Rect.unit (s := S4x128x16x192) ![d, t, 0, 0] S1x1x16x192.size inb).toLoadRect}
    {k : ((Rect.unit (s := S4x128x16x192) ![d, t, 0, 0] S1x1x16x192.size inb).toLoadRect.shape.Idx → Elt F .f32) → Prog (TpuEff nD τ sig (Elt F) Λ₀ .tc) PUnit}
    (h : L e A B C H o13 o14 o15 o16 m (k (rowT B d t))) :
    L e A B C H o13 o14 o15 o16 m (.op (.load e.a18 (Rect.unit (s := S4x128x16x192) ![d, t, 0, 0] S1x1x16x192.size inb).toLoadRect hl) k) :=
  fun X hX => R.ld18 (by rw [window_eq_rowT]; exact h X hX)

/-- The loop loads the state row it is about to store, and does not use what it loaded. -/
theorem L.ld20 {hl : e.a20.view.LoadsAt (Rect.unit (s := S4x128x16x192) ![d, t, 0, 0] S1x1x16x192.size inb).toLoadRect}
    {k : ((Rect.unit (s := S4x128x16x192) ![d, t, 0, 0] S1x1x16x192.size inb).toLoadRect.shape.Idx → Elt F .f32) → Prog (TpuEff nD τ sig (Elt F) Λ₀ .tc) PUnit}
    (h : ∀ w, L e A B C H o13 o14 o15 o16 m (k w)) :
    L e A B C H o13 o14 o15 o16 m (.op (.load e.a20 (Rect.unit (s := S4x128x16x192) ![d, t, 0, 0] S1x1x16x192.size inb).toLoadRect hl) k) :=
  fun X hX => R.ld20 (h _ X hX)

theorem L.storeUp {hx : (e.a20.access (Rect.unit (s := S4x128x16x192) ![d, t, 0, 0] S1x1x16x192.size inb)).Stores Finset.univ}
    {hm : Finset.univ = Finset.univ ∨ ∀ a, (Rect.unit (s := S4x128x16x192) ![d, t, 0, 0] S1x1x16x192.size inb).stride a = 1}
    {k : PUnit → Prog (TpuEff nD τ sig (Elt F) Λ₀ .tc) PUnit}
    (hd : d < 4 ∧ d % 2 = 0 ∧ 4 * t + d = m) (h : L e A B C H o13 o14 o15 o16 (4 * t + d + 1) (k ⟨⟩)) :
    L e A B C H o13 o14 o15 o16 m (.op (.store e.a20 (Rect.unit (s := S4x128x16x192) ![d, t, 0, 0] S1x1x16x192.size inb)
      (shapeCast S1x1x16x192 (stF A B H d t) shapeCasts_S16x192_S1x1x16x192) Finset.univ hx hm) k) := by
  intro X hX
  obtain ⟨hd, h2, hm⟩ := hd
  refine R.st20 (h _ ?_)
  have ht : t < 128 := by have := inb 1; change t + 1 ≤ 128 at this; omega
  have e1 : stF A B H d t = st A B H d t := by unfold st; rw [if_pos h2]
  rw [e1, hm]
  exact hX.step hd ht (by unfold place; rw [if_pos h2]; exact hm)

theorem L.storeDown {hx : (e.a20.access (Rect.unit (s := S4x128x16x192) ![d, t, 0, 0] S1x1x16x192.size inb)).Stores Finset.univ}
    {hm : Finset.univ = Finset.univ ∨ ∀ a, (Rect.unit (s := S4x128x16x192) ![d, t, 0, 0] S1x1x16x192.size inb).stride a = 1}
    {k : PUnit → Prog (TpuEff nD τ sig (Elt F) Λ₀ .tc) PUnit}
    (hd : d < 4 ∧ d % 2 = 1 ∧ 4 * (127 - t) + d = m) (h : L e A B C H o13 o14 o15 o16 (4 * (127 - t) + d + 1) (k ⟨⟩)) :
    L e A B C H o13 o14 o15 o16 m (.op (.store e.a20 (Rect.unit (s := S4x128x16x192) ![d, t, 0, 0] S1x1x16x192.size inb)
      (shapeCast S1x1x16x192 (stB A B H d t) shapeCasts_S16x192_S1x1x16x192) Finset.univ hx hm) k) := by
  intro X hX
  obtain ⟨hd, h2, hm⟩ := hd
  have h2' : ¬d % 2 = 0 := by omega
  refine R.st20 (h _ ?_)
  have ht : t < 128 := by have := inb 1; change t + 1 ≤ 128 at this; omega
  have e1 : stB A B H d t = st A B H d t := by unfold st; rw [if_neg h2']
  rw [e1, hm]
  exact hX.step hd ht (by unfold place; rw [if_neg h2']; exact hm)

end

/-- Out of the loop, the state scratch holding all the states. -/
theorem L.exit {p : Prog (TpuEff nD τ sig (Elt F) Λ₀ .tc) PUnit} (hm : m = 512)
    (h : ∀ X, (∀ d inb, window (s := S4x128x16x192) X ![d, 0, 0, 0] S1x128x16x192.size inb = states A B H d) →
      R e A B C X H o13 o14 o15 o16 p) :
    L e A B C H o13 o14 o15 o16 m p := by
  subst hm
  intro X hX
  refine h X fun d inb => funext fun y => ?_
  have hd : d < 4 := by have := inb 0; change d + 1 ≤ 4 at this; omega
  have ht : (y 1).val < 128 := (y 1).isLt
  have := congrFun (hX d (y 1).val hd ht (by unfold place; split <;> omega)) (ix4 (0 : Fin 1) (0 : Fin 1) (y 2) (y 3))
  refine Eq.trans (congrArg X (funext fun a => Fin.ext ?_)) (this.trans ?_)
  · have h1 := inb a
    have h2 : (y a).val < S1x128x16x192.size a := (y a).isLt
    fin_cases a
    · show d + 1 * (y 0).val = (d + 0) % 4
      have : (y 0).val < 1 := (y 0).isLt
      omega
    · show 0 + 1 * (y 1).val = ((y 1).val + 0) % 128
      omega
    · show 0 + 1 * (y 2).val = (0 + (y 2).val) % 16
      have : (y 2).val < 16 := (y 2).isLt
      omega
    · show 0 + 1 * (y 3).val = (0 + (y 3).val) % 192
      have : (y 3).val < 192 := (y 3).isLt
      omega
  · unfold states
    refine shapeCast_apply _ _ _ _ ?_
    rw [Shape.rowMajor_val_two, Shape.rowMajor_val_four]
    show _ = ((0 * 1 + 0) * 16 + (y 2).val) * 192 + (y 3).val
    simp

end

/-! ## One row of the loop, under its name -/

theorem stF_zero (A B : Vec F S4x128x16x192 .f32) (H : Vec F S4x16x192 .f32) (d : ℕ) :
    addf (mulf (shapeCast S16x192 (rowT A d 0) shapeCasts_S1x1x16x192_S16x192) (shapeCast S16x192 (rowH H d) shapeCasts_S1x16x192_S16x192))
      (shapeCast S16x192 (rowT B d 0) shapeCasts_S1x1x16x192_S16x192) = stF A B H d 0 := rfl

theorem stF_succ (A B : Vec F S4x128x16x192 .f32) (H : Vec F S4x16x192 .f32) (d t : ℕ) :
    addf (mulf (shapeCast S16x192 (rowT A d (t + 1)) shapeCasts_S1x1x16x192_S16x192) (stF A B H d t))
      (shapeCast S16x192 (rowT B d (t + 1)) shapeCasts_S1x1x16x192_S16x192) = stF A B H d (t + 1) := rfl

theorem stB_last (A B : Vec F S4x128x16x192 .f32) (H : Vec F S4x16x192 .f32) (d : ℕ) :
    addf (mulf (shapeCast S16x192 (rowT A d 127) shapeCasts_S1x1x16x192_S16x192) (shapeCast S16x192 (rowH H d) shapeCasts_S1x16x192_S16x192))
      (shapeCast S16x192 (rowT B d 127) shapeCasts_S1x1x16x192_S16x192) = stB A B H d 127 := rfl

theorem stB_step (A B : Vec F S4x128x16x192 .f32) (H : Vec F S4x16x192 .f32) (d t : ℕ) (ht : t < 127) :
    addf (mulf (shapeCast S16x192 (rowT A d t) shapeCasts_S1x1x16x192_S16x192) (stB A B H d (t + 1)))
      (shapeCast S16x192 (rowT B d t) shapeCasts_S1x1x16x192_S16x192) = stB A B H d t := by
  unfold stB
  obtain ⟨n, hn⟩ : ∃ n, 127 - (t + 1) = n := ⟨_, rfl⟩
  have h1 : 127 - t = n + 1 := by omega
  have h2 : t = 126 - n := by omega
  rw [hn, h1, h2]; rfl

end Cert.KernelIdeal.Scan

end
-- ==== Proof.ScanBody.lean ====
/-
  One run of the scan call's body: from the input blocks `b` and the carried states `H` it leaves the four outputs
  `Blocks.y0` … `y3` and the states `Blocks.next`, whatever its scratch and output buffers held before.
-/
module

public import proofs.«01_k».proof.Proof.ScanRules

@[expose] public section

set_option maxRecDepth 16384

noncomputable section

namespace Cert.KernelIdeal.Scan

open Cert.KernelIdeal Cert.KernelIdeal.Gen Cert.Scan Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

/-! ## Writing a whole buffer piece by piece -/

/-- A slab written over a scratch, read at an index. -/
theorem put_slab (X : Vec F S4x128x16x192 .f32) (d : ℕ) (u : FVec F S1x128x16x192 .f32) (y : S4x128x16x192.Idx) :
    put (s := S4x128x16x192) X ![d, 0, 0, 0] S1x128x16x192.size u y
      = if (y 0).val = d then u (ix4 (0 : Fin 1) (y 1) (y 2) (y 3)) else X y := by
  have y1 : (y 1).val < 128 := (y 1).isLt
  have y2 : (y 2).val < 16 := (y 2).isLt
  have y3 : (y 3).val < 192 := (y 3).isLt
  unfold put
  by_cases hd : (y 0).val = d
  · rw [if_pos hd, dif_pos (show ∀ a, (![d, 0, 0, 0] : Fin 4 → ℕ) a ≤ (y a).val ∧
      (y a).val < (![d, 0, 0, 0] : Fin 4 → ℕ) a + S1x128x16x192.size a from fun a => by
        fin_cases a
        · show d ≤ (y 0).val ∧ (y 0).val < d + 1; omega
        · show 0 ≤ (y 1).val ∧ (y 1).val < 0 + 128; omega
        · show 0 ≤ (y 2).val ∧ (y 2).val < 0 + 16; omega
        · show 0 ≤ (y 3).val ∧ (y 3).val < 0 + 192; omega)]
    refine congrArg u (funext fun a => Fin.ext ?_)
    fin_cases a
    · show (y 0).val - d = 0; omega
    all_goals rfl
  · rw [if_neg hd, dif_neg]
    intro h
    have h0 : d ≤ (y 0).val ∧ (y 0).val < d + 1 := h 0
    omega

theorem put_slabs (X : Vec F S4x128x16x192 .f32) (u0 u1 u2 u3 : FVec F S1x128x16x192 .f32) :
    put (s := S4x128x16x192) (put (s := S4x128x16x192) (put (s := S4x128x16x192) (put (s := S4x128x16x192) X
      ![0, 0, 0, 0] S1x128x16x192.size u0) ![1, 0, 0, 0] S1x128x16x192.size u1)
      ![2, 0, 0, 0] S1x128x16x192.size u2) ![3, 0, 0, 0] S1x128x16x192.size u3 = slabs u0 u1 u2 u3 := by
  funext y
  have y0 : (y 0).val < 4 := (y 0).isLt
  rw [put_slab, put_slab, put_slab, put_slab]
  unfold slabs
  split
  · rfl
  split
  · rfl
  split
  · rfl
  rw [if_pos (by omega)]

/-- A slab written over the carried states, read at an index. -/
theorem put_slabH (X : Vec F S4x16x192 .f32) (d : ℕ) (u : FVec F S1x16x192 .f32) (y : S4x16x192.Idx) :
    put (s := S4x16x192) X ![d, 0, 0] S1x16x192.size u y
      = if (y 0).val = d then u (ix3 (0 : Fin 1) (y 1) (y 2)) else X y := by
  have y1 : (y 1).val < 16 := (y 1).isLt
  have y2 : (y 2).val < 192 := (y 2).isLt
  unfold put
  by_cases hd : (y 0).val = d
  · rw [if_pos hd, dif_pos (show ∀ a, (![d, 0, 0] : Fin 3 → ℕ) a ≤ (y a).val ∧
      (y a).val < (![d, 0, 0] : Fin 3 → ℕ) a + S1x16x192.size a from fun a => by
        fin_cases a
        · show d ≤ (y 0).val ∧ (y 0).val < d + 1; omega
        · show 0 ≤ (y 1).val ∧ (y 1).val < 0 + 16; omega
        · show 0 ≤ (y 2).val ∧ (y 2).val < 0 + 192; omega)]
    refine congrArg u (funext fun a => Fin.ext ?_)
    fin_cases a
    · show (y 0).val - d = 0; omega
    all_goals rfl
  · rw [if_neg hd, dif_neg]
    intro h
    have h0 : d ≤ (y 0).val ∧ (y 0).val < d + 1 := h 0
    omega

theorem put_leaveH (X : Vec F S4x16x192 .f32) (h0 h1 h2 h3 : FVec F S16x192 .f32) :
    put (s := S4x16x192) (put (s := S4x16x192) (put (s := S4x16x192) (put (s := S4x16x192) X
      ![0, 0, 0] S1x16x192.size (shapeCast S1x16x192 h0 shapeCasts_S16x192_S1x16x192))
      ![1, 0, 0] S1x16x192.size (shapeCast S1x16x192 h1 shapeCasts_S16x192_S1x16x192))
      ![2, 0, 0] S1x16x192.size (shapeCast S1x16x192 h2 shapeCasts_S16x192_S1x16x192))
      ![3, 0, 0] S1x16x192.size (shapeCast S1x16x192 h3 shapeCasts_S16x192_S1x16x192) = leaveH h0 h1 h2 h3 := by
  funext y
  have y0 : (y 0).val < 4 := (y 0).isLt
  rw [put_slabH, put_slabH, put_slabH, put_slabH]
  unfold leaveH
  split
  · rfl
  split
  · rfl
  split
  · rfl
  rw [if_pos (by omega)]

/-- A column written over a block, read at an index. -/
theorem put_column (X : Vec F S64x2x1x192 .f32) (d : ℕ) (u : FVec F S64x1x1x192 .f32) (y : S64x2x1x192.Idx) :
    put (s := S64x2x1x192) X ![0, d, 0, 0] S64x1x1x192.size u y
      = if (y 1).val = d then u (ix4 (y 0) (0 : Fin 1) (0 : Fin 1) (y 3)) else X y := by
  have y0 : (y 0).val < 64 := (y 0).isLt
  have y2 : (y 2).val < 1 := (y 2).isLt
  have y3 : (y 3).val < 192 := (y 3).isLt
  unfold put
  by_cases hd : (y 1).val = d
  · rw [if_pos hd, dif_pos (show ∀ a, (![0, d, 0, 0] : Fin 4 → ℕ) a ≤ (y a).val ∧
      (y a).val < (![0, d, 0, 0] : Fin 4 → ℕ) a + S64x1x1x192.size a from fun a => by
        fin_cases a
        · show 0 ≤ (y 0).val ∧ (y 0).val < 0 + 64; omega
        · show d ≤ (y 1).val ∧ (y 1).val < d + 1; omega
        · show 0 ≤ (y 2).val ∧ (y 2).val < 0 + 1; omega
        · show 0 ≤ (y 3).val ∧ (y 3).val < 0 + 192; omega)]
    refine congrArg u (funext fun a => Fin.ext ?_)
    fin_cases a
    · rfl
    · show (y 1).val - d = 0; omega
    · show (y 2).val - 0 = 0; omega
    · rfl
  · rw [if_neg hd, dif_neg]
    intro h
    have h0 : d ≤ (y 1).val ∧ (y 1).val < d + 1 := h 1
    omega

theorem put_columns (X : Vec F S64x2x1x192 .f32) (y : FVec F S128x192 .f32) :
    put (s := S64x2x1x192) (put (s := S64x2x1x192) X ![0, 0, 0, 0] S64x1x1x192.size
      (shapeCast S64x1x1x192 (extractStridedSlice S64x192 ![0, 0] y slices_S128x192_o0_0_S64x192) shapeCasts_S64x192_S64x1x1x192))
      ![0, 1, 0, 0] S64x1x1x192.size
      (shapeCast S64x1x1x192 (extractStridedSlice S64x192 ![64, 0] y slices_S128x192_o64_0_S64x192) shapeCasts_S64x192_S64x1x1x192)
      = colBlock y := by
  funext i
  have i1 : (i 1).val < 2 := (i 1).isLt
  rw [put_column, put_column]
  unfold colBlock
  split
  · rfl
  rw [if_pos (by omega)]

/-- A whole buffer written. -/
theorem put_whole (X y : Vec F S128x192 .f32) : put (s := S128x192) X ![0, 0] S128x192.size y = y := by
  funext i
  have i0 : (i 0).val < 128 := (i 0).isLt
  have i1 : (i 1).val < 192 := (i 1).isLt
  unfold put
  rw [dif_pos (show ∀ a, (![0, 0] : Fin 2 → ℕ) a ≤ (i a).val ∧ (i a).val < (![0, 0] : Fin 2 → ℕ) a + S128x192.size a from fun a => by
    fin_cases a
    · show 0 ≤ (i 0).val ∧ (i 0).val < 0 + 128; omega
    · show 0 ≤ (i 1).val ∧ (i 1).val < 0 + 192; omega)]
  refine congrArg y (funext fun a => Fin.ext ?_)
  fin_cases a <;> rfl

theorem put_zeroH (X : Vec F S4x16x192 .f32) :
    put (s := S4x16x192) X ![0, 0, 0] S4x16x192.size
      (shapeCast S4x16x192 (broadcast S4x16x192 (Scalar.ofBits .f32 0x00000000#32 : F .f32)) shapeCasts_S4x16x192_S4x16x192) = zeroH := by
  funext i
  have i0 : (i 0).val < 4 := (i 0).isLt
  have i1 : (i 1).val < 16 := (i 1).isLt
  have i2 : (i 2).val < 192 := (i 2).isLt
  unfold put
  rw [dif_pos (show ∀ a, (![0, 0, 0] : Fin 3 → ℕ) a ≤ (i a).val ∧ (i a).val < (![0, 0, 0] : Fin 3 → ℕ) a + S4x16x192.size a from fun a => by
    fin_cases a
    · show 0 ≤ (i 0).val ∧ (i 0).val < 0 + 4; omega
    · show 0 ≤ (i 1).val ∧ (i 1).val < 0 + 16; omega
    · show 0 ≤ (i 2).val ∧ (i 2).val < 0 + 192; omega)]
  rfl

/-! ## The run -/

/-- The carried states a grid point enters with. -/
def enter (i : grid0.Coords) (H : Vec F S4x16x192 .f32) : Vec F S4x16x192 .f32 := if isFirst i then zeroH else H

set_option maxHeartbeats 0 in
theorem body_run (e : Env F) (i : grid0.Coords) (A B C X : Vec F S4x128x16x192 .f32) (H : Vec F S4x16x192 .f32)
    (o13 o14 : Vec F S128x192 .f32) (o15 o16 : Vec F S64x2x1x192 .f32)
    (hK : ∀ X', own e e.b.A e.b.B e.b.C X' (e.b.next (enter i H)) (e.b.y0 (enter i H)) (e.b.y1 (enter i H))
      (colBlock (e.b.y2 (enter i H))) (colBlock (e.b.y3 (enter i H))) ⊢ e.K ⟨⟩) :
    R e A B C X H o13 o14 o15 o16 (cc0_ss2d_scan i e.a1 e.h1 e.a2 e.h2 e.a3 e.h3 e.a4 e.h4 e.a5 e.h5 e.a6 e.h6 e.a7 e.h7
      e.a8 e.h8 e.a9 e.h9 e.a10 e.h10 e.a11 e.h11 e.a12 e.h12 e.a13 e.h13 e.a14 e.h14 e.a15 e.h15 e.a16 e.h16 e.a17 e.h17
      e.a18 e.h18 e.a19 e.h19 e.a20 e.h20 e.a21 e.h21) := by
  refine R.assoc (e := e) ?_
  refine R.cond (e := e) zeroH (fun hc => rfl) (fun hc h => ?_) ?_
  · refine R.ld21 ?_
    refine R.st21 ?_
    rw [put_zeroH]
    exact h
  change R e A B C X (enter i H) o13 o14 o15 o16 _
  generalize enter i H = H0 at hK ⊢
  refine R.ld11 ?_
  refine R.ld12 ?_
  refine R.ld1 ?_
  refine R.ld2 ?_
  refine R.ld3 ?_
  refine R.ld3 ?_
  refine R.ld4 ?_
  refine R.ld4 ?_
  refine R.ld5 ?_
  refine R.ld6 ?_
  refine R.ld7 ?_
  refine R.ld8 ?_
  refine R.ld17 ?_
  refine R.st17 ?_
  refine R.ld18 ?_
  refine R.st18 ?_
  refine R.ld19 ?_
  refine R.st19 ?_
  refine R.ld8 ?_
  refine R.ld17 ?_
  refine R.st17 ?_
  refine R.ld18 ?_
  refine R.st18 ?_
  refine R.ld19 ?_
  refine R.st19 ?_
  refine R.ld5 ?_
  refine R.ld6 ?_
  refine R.ld7 ?_
  refine R.ld8 ?_
  refine R.ld17 ?_
  refine R.st17 ?_
  refine R.ld18 ?_
  refine R.st18 ?_
  refine R.ld19 ?_
  refine R.st19 ?_
  refine R.ld8 ?_
  refine R.ld17 ?_
  refine R.st17 ?_
  refine R.ld18 ?_
  refine R.st18 ?_
  refine R.ld19 ?_
  refine R.st19 ?_
  refine R.ldRow ?_
  refine R.ldRow ?_
  refine R.ldRow ?_
  refine R.ldRow ?_
  refine L.enter (A := e.b.A) (B := e.b.B) (C := e.b.C) (put_slabs _ _ _ _ _) (put_slabs _ _ _ _ _) (put_slabs _ _ _ _ _) ?_
  iterate 2
    refine L.ld17 ?_
    refine L.ld18 ?_
    refine L.ld20 fun _ => ?_
    rw [stF_zero]
    refine L.storeUp ⟨by decide, by decide, rfl⟩ ?_
    refine L.ld17 ?_
    refine L.ld18 ?_
    refine L.ld20 fun _ => ?_
    rw [stB_last]
    refine L.storeDown ⟨by decide, by decide, rfl⟩ ?_
  iterate 127
    iterate 2
      refine L.ld17 ?_
      refine L.ld18 ?_
      refine L.ld20 fun _ => ?_
      rw [stF_succ]
      refine L.storeUp ⟨by decide, by decide, rfl⟩ ?_
      refine L.ld17 ?_
      refine L.ld18 ?_
      refine L.ld20 fun _ => ?_
      rw [stB_step]
      rotate_left
      · decide
      refine L.storeDown ⟨by decide, by decide, rfl⟩ ?_
  refine L.exit rfl fun X hX => ?_
  iterate 4
    refine R.ld21 ?_
    refine R.st21 ?_
  rw [put_leaveH]
  iterate 4
    refine R.ld9 ?_
  refine R.ld10 ?_
  refine R.ld20 ?_
  rw [hX]
  refine R.ld19 ?_
  refine R.ld13 ?_
  refine R.st13 ?_
  rw [put_whole]
  refine R.ld20 ?_
  rw [hX]
  refine R.ld19 ?_
  refine R.ld14 ?_
  refine R.st14 ?_
  rw [put_whole]
  refine R.ld20 ?_
  rw [hX]
  refine R.ld19 ?_
  refine R.ld15 ?_
  refine R.st15 ?_
  refine R.ld15 ?_
  refine R.st15 ?_
  rw [put_columns]
  refine R.ld20 ?_
  rw [hX]
  refine R.ld19 ?_
  refine R.ld16 ?_
  refine R.st16 ?_
  refine R.ld16 ?_
  refine R.st16 ?_
  rw [put_columns]
  exact R.ret (hK X)

end Cert.KernelIdeal.Scan

end
-- ==== Proof.ScanRun.lean ====
/-
  The launch: the scan body at every grid point, run in the pipeline's order. `blocks` are the input blocks of a point,
  `carried n` the states the kernel enters point `n` with; the four outputs' blocks after a point are the body's.
-/
module

public import proofs.«01_k».proof.Proof.Gen.KernelIdeal.Frame.Runs
public import proofs.«01_k».proof.Proof.ScanBody
public import Idealize.ShloMosaic.Lib.Claim

@[expose] public section

set_option maxRecDepth 16384

noncomputable section

namespace Cert.KernelIdeal.Scan

open Cert.KernelIdeal Cert.KernelIdeal.Gen Cert.Scan Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The twelve input blocks of point `t`. -/
def blocks (c : Dev nD) (t : Fin cfg0.N) : Blocks F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t

/-- The carried states point `n` starts its loop from. -/
def carried (c : Dev nD) : ℕ → Vec F S4x16x192 .f32
  | 0 => zeroH
  | n + 1 => if h : n < cfg0.N then (blocks m c ⟨n, h⟩).next (carried c n) else zeroH

theorem carried_succ (c : Dev nD) (t : Fin cfg0.N) :
    carried m c (t.val + 1) = (blocks m c t).next (carried m c t.val) := dif_pos t.isLt

/-- The scratch of the call owned at some contents, the carried states at `H`, and the generator's register. -/
def held (c : Dev nD) (H : Vec F S4x16x192 .f32) : sProp 𝕄 :=
  iprop(iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d)
    ∗ owns (c : Thread nD τ) scM0_4 fullShare H) ∗ (∃ r, prngReg c r))

/-- The invariant before point `n`. -/
def inv (c : Dev nD) : (n : ℕ) → n ≤ cfg0.N → sProp 𝕄
  | 0, _ => Pipeline.ΦA spec0 c
  | n + 1, _ => held c (carried m c (n + 1))

theorem inv_pos (c : Dev nD) (n : ℕ) (h : n ≤ cfg0.N) (hz : n ≠ 0) : inv m c n h = held c (carried m c n) := by
  cases n with
  | zero => exact absurd rfl hz
  | succ n => rfl

theorem held_first (c : Dev nD) : (Pipeline.ΦA spec0 c : sProp 𝕄) ⊢ iprop(∃ H, held c H) := by
  rw [PhiA0_eq]
  unfold held
  iintro ⟨⟨H0, H1, H2, H3, ⟨%H, H4⟩⟩, Hg⟩
  iexists H
  isplitl [H0 H1 H2 H3 H4]
  · isplitl [H0]; · iexact H0
    isplitl [H1]; · iexact H1
    isplitl [H2]; · iexact H2
    isplitl [H3]; · iexact H3
    iexact H4
  iexact Hg

theorem held_any (c : Dev nD) (H : Vec F S4x16x192 .f32) : held c H ⊢ (Pipeline.ΦA spec0 c : sProp 𝕄) := by
  rw [PhiA0_eq]
  unfold held
  iintro ⟨⟨H0, H1, H2, H3, H4⟩, Hg⟩
  isplitl [H0 H1 H2 H3 H4]
  · isplitl [H0]; · iexact H0
    isplitl [H1]; · iexact H1
    isplitl [H2]; · iexact H2
    isplitl [H3]; · iexact H3
    iexists _; iexact H4
  iexact Hg

/-- The pipeline's proof data: the inputs' buffers keep their blocks, the outputs' hold the body's four results. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (blocks m c t).y0 (carried m c t.val)
    | ⟨13, _⟩ => (blocks m c t).y1 (carried m c t.val)
    | ⟨14, _⟩ => colBlock ((blocks m c t).y2 (carried m c t.val))
    | ⟨15, _⟩ => colBlock ((blocks m c t).y3 (carried m c t.val))
    | ⟨_ + 16, h⟩ => absurd h (Nat.not_lt.2 (Nat.le_add_left _ _))
  Φ t := inv m c t.val (Nat.le_of_lt_succ t.isLt)
  q w := Pipeline.shareOf spec0 w
  owed _ := 0

theorem data_A (c : Dev nD) (w : Fin cfg0.W) : (data m 0 c).A w = V m c (Pipeline.arrRef spec0 w) := by
  dsimp only [data]

theorem inv_castSucc (c : Dev nD) (t : Fin cfg0.N) :
    (data m 0 c).Φ t.castSucc = inv m c t.val (Nat.le_of_lt t.isLt) := by
  dsimp only [data]; exact Pipeline.Dat.Φ_castSucc (inv m c) t

theorem inv_succ (c : Dev nD) (t : Fin cfg0.N) :
    (data m 0 c).Φ t.succ = held c ((blocks m c t).next (carried m c t.val)) := by
  rw [← carried_succ]; rfl

/-- What the body leaves of each input is what it found. -/
theorem kept0 (c : Dev nD) (t : Fin cfg0.N) : (data m 0 c).after 0 t = iblk m c 0 t := by dsimp only [data]
theorem kept1 (c : Dev nD) (t : Fin cfg0.N) : (data m 0 c).after 1 t = iblk m c 1 t := by dsimp only [data]
theorem kept2 (c : Dev nD) (t : Fin cfg0.N) : (data m 0 c).after 2 t = iblk m c 2 t := by dsimp only [data]
theorem kept3 (c : Dev nD) (t : Fin cfg0.N) : (data m 0 c).after 3 t = iblk m c 3 t := by dsimp only [data]
theorem kept4 (c : Dev nD) (t : Fin cfg0.N) : (data m 0 c).after 4 t = iblk m c 4 t := by dsimp only [data]
theorem kept5 (c : Dev nD) (t : Fin cfg0.N) : (data m 0 c).after 5 t = iblk m c 5 t := by dsimp only [data]
theorem kept6 (c : Dev nD) (t : Fin cfg0.N) : (data m 0 c).after 6 t = iblk m c 6 t := by dsimp only [data]
theorem kept7 (c : Dev nD) (t : Fin cfg0.N) : (data m 0 c).after 7 t = iblk m c 7 t := by dsimp only [data]
theorem kept8 (c : Dev nD) (t : Fin cfg0.N) : (data m 0 c).after 8 t = iblk m c 8 t := by dsimp only [data]
theorem kept9 (c : Dev nD) (t : Fin cfg0.N) : (data m 0 c).after 9 t = iblk m c 9 t := by dsimp only [data]
theorem kept10 (c : Dev nD) (t : Fin cfg0.N) : (data m 0 c).after 10 t = iblk m c 10 t := by dsimp only [data]
theorem kept11 (c : Dev nD) (t : Fin cfg0.N) : (data m 0 c).after 11 t = iblk m c 11 t := by dsimp only [data]
theorem left12 (c : Dev nD) (t : Fin cfg0.N) : (data m 0 c).after 12 t = (blocks m c t).y0 (carried m c t.val) := by dsimp only [data]
theorem left13 (c : Dev nD) (t : Fin cfg0.N) : (data m 0 c).after 13 t = (blocks m c t).y1 (carried m c t.val) := by dsimp only [data]
theorem left14 (c : Dev nD) (t : Fin cfg0.N) : (data m 0 c).after 14 t = colBlock ((blocks m c t).y2 (carried m c t.val)) := by dsimp only [data]
theorem left15 (c : Dev nD) (t : Fin cfg0.N) : (data m 0 c).after 15 t = colBlock ((blocks m c t).y3 (carried m c t.val)) := by dsimp only [data]

/-- What the body finds in the inputs' buffers is their blocks. -/
theorem found0 (c : Dev nD) (t : Fin cfg0.N) (d) : (data m 0 c).before 0 t d = iblk m c 0 t :=
  before0_0_of m (data m 0 c) (data_A m c 0) (kept0 m c) t d
theorem found1 (c : Dev nD) (t : Fin cfg0.N) (d) : (data m 0 c).before 1 t d = iblk m c 1 t :=
  before0_1_of m (data m 0 c) (data_A m c 1) (kept1 m c) t d
theorem found2 (c : Dev nD) (t : Fin cfg0.N) (d) : (data m 0 c).before 2 t d = iblk m c 2 t :=
  before0_2_of m (data m 0 c) (data_A m c 2) (kept2 m c) t d
theorem found3 (c : Dev nD) (t : Fin cfg0.N) (d) : (data m 0 c).before 3 t d = iblk m c 3 t :=
  before0_3_of m (data m 0 c) (data_A m c 3) (kept3 m c) t d
theorem found4 (c : Dev nD) (t : Fin cfg0.N) (d) : (data m 0 c).before 4 t d = iblk m c 4 t :=
  before0_4_of m (data m 0 c) (data_A m c 4) (kept4 m c) t d
theorem found5 (c : Dev nD) (t : Fin cfg0.N) (d) : (data m 0 c).before 5 t d = iblk m c 5 t :=
  before0_5_of m (data m 0 c) (data_A m c 5) (kept5 m c) t d
theorem found6 (c : Dev nD) (t : Fin cfg0.N) (d) : (data m 0 c).before 6 t d = iblk m c 6 t :=
  before0_6_of m (data m 0 c) (data_A m c 6) (kept6 m c) t d
theorem found7 (c : Dev nD) (t : Fin cfg0.N) (d) : (data m 0 c).before 7 t d = iblk m c 7 t :=
  before0_7_of m (data m 0 c) (data_A m c 7) (kept7 m c) t d
theorem found8 (c : Dev nD) (t : Fin cfg0.N) (d) : (data m 0 c).before 8 t d = iblk m c 8 t :=
  before0_8_of m (data m 0 c) (data_A m c 8) (kept8 m c) t d
theorem found9 (c : Dev nD) (t : Fin cfg0.N) (d) : (data m 0 c).before 9 t d = iblk m c 9 t :=
  before0_9_of m (data m 0 c) (data_A m c 9) (kept9 m c) t d
theorem found10 (c : Dev nD) (t : Fin cfg0.N) (d) : (data m 0 c).before 10 t d = iblk m c 10 t :=
  before0_10_of m (data m 0 c) (data_A m c 10) (kept10 m c) t d
theorem found11 (c : Dev nD) (t : Fin cfg0.N) (d) : (data m 0 c).before 11 t d = iblk m c 11 t :=
  before0_11_of m (data m 0 c) (data_A m c 11) (kept11 m c) t d

/-- What the body of point `t` starts with, -/
def atStart (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d)))

/-- and what it ends with. -/
def atEnd (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t)
    ∗ owns (c : Thread nD τ) (ms0_6 t) fullShare ((data m 0 c).after 6 t)
    ∗ owns (c : Thread nD τ) (ms0_7 t) fullShare ((data m 0 c).after 7 t)
    ∗ owns (c : Thread nD τ) (ms0_8 t) fullShare ((data m 0 c).after 8 t)
    ∗ owns (c : Thread nD τ) (ms0_9 t) fullShare ((data m 0 c).after 9 t)
    ∗ owns (c : Thread nD τ) (ms0_10 t) fullShare ((data m 0 c).after 10 t)
    ∗ owns (c : Thread nD τ) (ms0_11 t) fullShare ((data m 0 c).after 11 t)
    ∗ owns (c : Thread nD τ) (ms0_12 t) fullShare ((data m 0 c).after 12 t)
    ∗ owns (c : Thread nD τ) (ms0_13 t) fullShare ((data m 0 c).after 13 t)
    ∗ owns (c : Thread nD τ) (ms0_14 t) fullShare ((data m 0 c).after 14 t)
    ∗ owns (c : Thread nD τ) (ms0_15 t) fullShare ((data m 0 c).after 15 t))

/-- The body's run at point `t`. -/
def envAt (c : Dev nD) (t : Fin cfg0.N) (K : PUnit → sProp 𝕄) : Env F :=
  ⟨c, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, scM0_0, Memref.isWhole_whole _, scM0_1, Memref.isWhole_whole _, scM0_2, Memref.isWhole_whole _, scM0_3, Memref.isWhole_whole _, scM0_4, Memref.isWhole_whole _,
    blocks m c t, Set.univ, K⟩

set_option maxHeartbeats 1000000 in
theorem own_at (c : Dev nD) (t : Fin cfg0.N) (K : PUnit → sProp 𝕄) (A B C X : Vec F S4x128x16x192 .f32)
    (H : Vec F S4x16x192 .f32) (o13 o14 : Vec F S128x192 .f32) (o15 o16 : Vec F S64x2x1x192 .f32) :
    own (envAt m c t K) A B C X H o13 o14 o15 o16 = iprop(owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ owns (c : Thread nD τ) (ms0_9 t) fullShare (iblk m c 9 t)
      ∗ owns (c : Thread nD τ) (ms0_10 t) fullShare (iblk m c 10 t)
      ∗ owns (c : Thread nD τ) (ms0_11 t) fullShare (iblk m c 11 t)
      ∗ owns (c : Thread nD τ) (ms0_12 t) fullShare o13
      ∗ owns (c : Thread nD τ) (ms0_13 t) fullShare o14
      ∗ owns (c : Thread nD τ) (ms0_14 t) fullShare o15
      ∗ owns (c : Thread nD τ) (ms0_15 t) fullShare o16
      ∗ owns (c : Thread nD τ) scM0_0 fullShare A
      ∗ owns (c : Thread nD τ) scM0_1 fullShare B
      ∗ owns (c : Thread nD τ) scM0_2 fullShare C
      ∗ owns (c : Thread nD τ) scM0_3 fullShare X
      ∗ owns (c : Thread nD τ) scM0_4 fullShare H) := rfl

/-- What that run ends with. -/
def finished (c : Dev nD) (t : Fin cfg0.N) : sProp 𝕄 :=
  iprop(∃ X', own (envAt m c t fun _ => iprop(emp)) (blocks m c t).A (blocks m c t).B
    (blocks m c t).C X' ((blocks m c t).next (carried m c t.val)) ((blocks m c t).y0 (carried m c t.val))
    ((blocks m c t).y1 (carried m c t.val)) (colBlock ((blocks m c t).y2 (carried m c t.val)))
    (colBlock ((blocks m c t).y3 (carried m c t.val))))

theorem enter_point (c : Dev nD) (t : Fin cfg0.N) (hz : t.val ≠ 0) (H : Vec F S4x16x192 .f32) :
    enter (grid0.coords t) H = H := by
  have hN : t.val < 32 := lt_of_lt_of_eq t.isLt (show cfg0.N = 32 from N_0)
  exact if_neg fun h => hz (by have := (hcond0_0 t).mp h; omega)

theorem enter_zero (c : Dev nD) (t : Fin cfg0.N) (hz : t.val = 0) (H : Vec F S4x16x192 .f32) :
    enter (grid0.coords t) H = zeroH := if_pos ((hcond0_0 t).mpr (by omega))

theorem body_at (c : Dev nD) (t : Fin cfg0.N) (A B C X : Vec F S4x128x16x192 .f32) (H : Vec F S4x16x192 .f32)
    (o13 o14 : Vec F S128x192 .f32) (o15 o16 : Vec F S64x2x1x192 .f32)
    (hH : enter (grid0.coords t) H = carried m c t.val) :
    own (envAt m c t fun _ => finished m c t) A B C X H o13 o14 o15 o16
      ⊢ wp frame (wpE (defs₀ (F := F)) Variants.none c none) Set.univ (bodyAt0 t) (fun _ => finished m c t) :=
  body_run (envAt m c t fun _ => finished m c t) (grid0.coords t) A B C X H o13 o14 o15 o16 (by
    intro X'
    rw [hH]
    exact sProp.exists_intro (Φ := fun X' => own (envAt m c t fun _ => iprop(emp)) (blocks m c t).A (blocks m c t).B
      (blocks m c t).C X' ((blocks m c t).next (carried m c t.val)) ((blocks m c t).y0 (carried m c t.val))
      ((blocks m c t).y1 (carried m c t.val)) (colBlock ((blocks m c t).y2 (carried m c t.val)))
      (colBlock ((blocks m c t).y3 (carried m c t.val)))) X')

set_option maxHeartbeats 2000000 in
/-- The body at a point, the carried scratch holding states that enter it as `carried`. -/
theorem point_run (c : Dev nD) (t : Fin cfg0.N) (H : Vec F S4x16x192 .f32)
    (hH : enter (grid0.coords t) H = carried m c t.val) :
    iprop(held c H ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d)))
      ⊢ wp frame (wpE (defs₀ (F := F)) Variants.none c none) Set.univ (bodyAt0 t) (fun _ => atEnd m c t) := by
  unfold atEnd
  simp only [found0, found1, found2, found3, found4, found5, found6, found7, found8, found9, found10, found11]
  rw [show (data m 0 c).owesAt () t.succ = (data m 0 c).owesAt () t.castSucc from rfl,
    kept0, kept1, kept2, kept3, kept4, kept5, kept6, kept7, kept8, kept9, kept10, kept11, left12, left13, left14, left15, inv_succ]
  unfold held
  iintro ⟨⟨⟨⟨%A, S0⟩, ⟨%B, S1⟩, ⟨%C, S2⟩, ⟨%X, S3⟩, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply wp_wand_r frame (wpE (defs₀ (F := F)) Variants.none c none) Set.univ (Q := fun _ => finished m c t)
  isplitl [H0 H1 H2 H3 H4 H5 H6 H7 H8 H9 H10 H11 H12 H13 H14 H15 S0 S1 S2 S3 S4]
  · iapply (body_at m c t A B C X H ((data m 0 c).before 12 t d12) ((data m 0 c).before 13 t d13)
      ((data m 0 c).before 14 t d14) ((data m 0 c).before 15 t d15) hH)
    rw [own_at]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [S0]; · iexact S0
    isplitl [S1]; · iexact S1
    isplitl [S2]; · iexact S2
    isplitl [S3]; · iexact S3
    iexact S4
  unfold finished
  simp only [own_at]
  iintro %u ⟨%X', H0, H1, H2, H3, H4, H5, H6, H7, H8, H9, H10, H11, H12, H13, H14, H15, S0, S1, S2, S3, S4⟩
  isplitl [S0 S1 S2 S3 S4 Hg]
  · isplitl [S0 S1 S2 S3 S4]
    · isplitl [S0]; · iexists _; iexact S0
      isplitl [S1]; · iexists _; iexact S1
      isplitl [S2]; · iexists _; iexact S2
      isplitl [S3]; · iexists _; iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_sound (c : Dev nD) (t : Fin cfg0.N) :
    atStart m c t ⊢ wp frame (wpE (defs₀ (F := F)) Variants.none c none) Set.univ (bodyAt0 t) (fun _ => atEnd m c t) := by
  unfold atStart
  rw [inv_castSucc]
  by_cases hz : t.val = 0
  · rw [show inv m c t.val (Nat.le_of_lt t.isLt) = Pipeline.ΦA spec0 c by
      obtain ⟨n, hn⟩ := t; dsimp only at hz; subst hz; rfl]
    refine (sep_mono (held_first c) .rfl).trans ?_
    iintro ⟨⟨%H, Hh⟩, Hr⟩
    iapply (point_run m c t H (by rw [enter_zero c t hz, hz]; rfl))
    isplitl [Hh]; · iexact Hh
    iexact Hr
  · rw [inv_pos m c _ _ hz]
    exact point_run m c t _ (enter_point c t hz _)

theorem defs_row (t : Fin cfg0.N) :
    defs₀ (F := F) .tc cfg0.body (cfg0.bodyArgs t (cfg0.slots t)) = bodyAt0 t := by
  unfold defs₀; rw [Defs.onTc_tc]

theorem body_met (c : Dev nD) : BodyObligation (data (F := F) m 0 c) (defs₀ (F := F)) Variants.none () Set.univ := fun t => by
  rw [bigSep_W0, bigSep_W0, defs_row]
  exact triple_restated (body_sound m c t) rfl .rfl fun _ => .rfl

theorem inv_in (c : Dev nD) : Pipeline.ΦA spec0 c ⊢ (data m 0 c).Φ 0 := .rfl

theorem inv_out (c : Dev nD) : (data m 0 c).Φ (Fin.last cfg0.N) ⊢ Pipeline.ΦA spec0 c := by
  rw [show (data m 0 c).Φ (Fin.last cfg0.N) = inv m c cfg0.N (Nat.le_refl _) from rfl,
    inv_pos m c _ _ (by have : cfg0.N = 32 := N_0; omega)]
  exact held_any c _

set_option backward.isDefEq.respectTransparency.types false in
/-- The launch: every array of the call ends at what its blocks add up to, and every counter at zero. -/
theorem launch : θ_run defs (onTc (τ := τ) (main (F := F))) (s₀ m ρ)
    (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (body_met m c).loose) (hq := fun _ _ _ => rfl)
    (howed := fun _ _ => rfl) (V := V m) (hmain := hmain m Variants.none) (hA := data_A m) (hin := inv_in m) (hout := inv_out m)

/-- The launch leaves the argument arrays as they were. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (data m) (data_A m) ((θ_run defs _ _).mono (fun _ h => h.1) (launch m ρ)))
    ((θ_run defs _ _).mono (fun _ h => h.2) (launch m ρ))

end Cert.KernelIdeal.Scan

end
-- ==== Proof.ScanReads.lean ====
/-
  The blocks of a grid point, read back to the arguments: point `t` works on chunk `t` of all four directions.
-/
module

public import proofs.«01_k».proof.Proof.ScanTables
public import proofs.«01_k».proof.Proof.ScanRun
public import Idealize.ShloMosaic.Lib.Pipeline.ValueKit

@[expose] public section

set_option maxRecDepth 16384

noncomputable section

namespace Cert.KernelIdeal.Scan

open Cert.KernelIdeal Cert.KernelIdeal.Gen Cert.Scan Cert.ScanMath Idealize.ShloMosaic Idealize.ShloMosaic.TcCoe

variable (m : (ℓ : Loc nD τ sig) → Buf (Elt Ideal) ℓ) (c : Dev nD)

theorem points (t : Fin cfg0.N) : t.val < 32 := lt_of_lt_of_eq t.isLt N_0

theorem at0 : ∀ t : Fin cfg0.N, win0_0.index t = ![t.val, 0] := (by decide +kernel : ∀ t : Fin grid0.N, win0_0.index t = ![t.val, 0])
theorem at1 : ∀ t : Fin cfg0.N, win0_1.index t = ![31 - t.val, 0] :=
  (by decide +kernel : ∀ t : Fin grid0.N, win0_1.index t = ![31 - t.val, 0])
theorem at2 : ∀ t : Fin cfg0.N, win0_2.index t = ![0, t.val, 0, 0] :=
  (by decide +kernel : ∀ t : Fin grid0.N, win0_2.index t = ![0, t.val, 0, 0])
theorem at3 : ∀ t : Fin cfg0.N, win0_3.index t = ![0, 31 - t.val, 0, 0] :=
  (by decide +kernel : ∀ t : Fin grid0.N, win0_3.index t = ![0, 31 - t.val, 0, 0])
theorem at4 : ∀ t : Fin cfg0.N, win0_4.index t = ![0, 0, 0] := (by decide +kernel : ∀ t : Fin grid0.N, win0_4.index t = ![0, 0, 0])
theorem at5 : ∀ t : Fin cfg0.N, win0_5.index t = ![0, 0, 0] := (by decide +kernel : ∀ t : Fin grid0.N, win0_5.index t = ![0, 0, 0])
theorem at6 : ∀ t : Fin cfg0.N, win0_6.index t = ![0, 0, 0] := (by decide +kernel : ∀ t : Fin grid0.N, win0_6.index t = ![0, 0, 0])
theorem at7 : ∀ t : Fin cfg0.N, win0_7.index t = ![0, 0, 0, 0] := (by decide +kernel : ∀ t : Fin grid0.N, win0_7.index t = ![0, 0, 0, 0])
theorem at8 : ∀ t : Fin cfg0.N, win0_8.index t = ![0, 0, 0] := (by decide +kernel : ∀ t : Fin grid0.N, win0_8.index t = ![0, 0, 0])
theorem at9 : ∀ t : Fin cfg0.N, win0_9.index t = ![0, 0] := (by decide +kernel : ∀ t : Fin grid0.N, win0_9.index t = ![0, 0])
theorem at10 : ∀ t : Fin cfg0.N, win0_10.index t = ![0, 0] := (by decide +kernel : ∀ t : Fin grid0.N, win0_10.index t = ![0, 0])
theorem at11 : ∀ t : Fin cfg0.N, win0_11.index t = ![0, 0] := (by decide +kernel : ∀ t : Fin grid0.N, win0_11.index t = ![0, 0])

theorem read0 (t : Fin cfg0.N) (s : Fin 128) (d : Fin 192) :
    (iblk m c 0 t : Vec Ideal S128x192 .f32) (ix2 s d) = (args m c).X ⟨128 * t.val + s.val, by have := points t; omega⟩ d := by
  have h : (iblk m c 0 t : Vec Ideal S128x192 .f32) (ix2 s d) =
      (V m c main_arg0 : Vec Ideal S4096x192 .f32) (ix2 ⟨128 * t.val + s.val, by have := points t; omega⟩ d) := by
    blk_ext [iblk, at0]
  rw [h, V_main_arg0]
  rfl

theorem read1 (t : Fin cfg0.N) (s : Fin 128) (d : Fin 192) :
    (iblk m c 1 t : Vec Ideal S128x192 .f32) (ix2 s d) = (args m c).X ⟨128 * (31 - t.val) + s.val, by have := points t; omega⟩ d := by
  have h : (iblk m c 1 t : Vec Ideal S128x192 .f32) (ix2 s d) =
      (V m c main_arg0 : Vec Ideal S4096x192 .f32) (ix2 ⟨128 * (31 - t.val) + s.val, by have := points t; omega⟩ d) := by
    blk_ext [iblk, at1]
  rw [h, V_main_arg0]
  rfl

theorem read2 (t : Fin cfg0.N) (h : Fin 64) (w : Fin 2) (d : Fin 192) :
    (iblk m c 2 t : Vec Ideal S64x2x1x192 .f32) (ix4 h w (0 : Fin 1) d) =
      (args m c).X ⟨64 * h.val + (2 * t.val + w.val), by have := points t; omega⟩ d := by
  rw [← columns m c h ⟨2 * t.val + w.val, by have := points t; omega⟩ d]
  blk_ext [iblk, at2]

theorem read3 (t : Fin cfg0.N) (h : Fin 64) (w : Fin 2) (d : Fin 192) :
    (iblk m c 3 t : Vec Ideal S64x2x1x192 .f32) (ix4 h w (0 : Fin 1) d) =
      (args m c).X ⟨64 * h.val + (2 * (31 - t.val) + w.val), by have := points t; omega⟩ d := by
  rw [← columns m c h ⟨2 * (31 - t.val) + w.val, by have := points t; omega⟩ d]
  blk_ext [iblk, at3]

theorem read4 (t : Fin cfg0.N) : (iblk m c 4 t : Vec Ideal S2x76x192 .f32) = (V m c main_v50 : Vec Ideal S2x76x192 .f32) := by
  funext y
  blk_ext [iblk, at4]

theorem read5 (t : Fin cfg0.N) : (iblk m c 5 t : Vec Ideal S2x12x384 .f32) = (V m c main_v72 : Vec Ideal S2x12x384 .f32) := by
  funext y
  blk_ext [iblk, at5]

theorem read6 (t : Fin cfg0.N) : (iblk m c 6 t : Vec Ideal S2x1x384 .f32) = (V m c main_v87 : Vec Ideal S2x1x384 .f32) := by
  funext y
  blk_ext [iblk, at6]

theorem read7 (t : Fin cfg0.N) : (iblk m c 7 t : Vec Ideal S2x2x16x192 .f32) = (V m c main_v19 : Vec Ideal S2x2x16x192 .f32) := by
  funext y
  blk_ext [iblk, at7]

theorem read8 (t : Fin cfg0.N) : (iblk m c 8 t : Vec Ideal S2x2x192 .f32) = (V m c main_v37 : Vec Ideal S2x2x192 .f32) := by
  funext y
  blk_ext [iblk, at8]

theorem read9 (t : Fin cfg0.N) : (iblk m c 9 t : Vec Ideal S128x2048 .f32) = (V m c main_v124 : Vec Ideal S128x2048 .f32) := by
  funext y
  blk_ext [iblk, at9]

theorem read10 (t : Fin cfg0.N) : (iblk m c 10 t : Vec Ideal S2048x32 .f32) = (V m c main_v97 : Vec Ideal S2048x32 .f32) := by
  funext y
  blk_ext [iblk, at10]

theorem read11 (t : Fin cfg0.N) : (iblk m c 11 t : Vec Ideal S32x384 .f32) = (V m c main_v116 : Vec Ideal S32x384 .f32) := by
  funext y
  blk_ext [iblk, at11]

end Cert.KernelIdeal.Scan

end
-- ==== Proof.ScanFinal.lean ====
/-
  The scan call's four results: at every pixel, each direction's scan output at the step that reads the pixel.
-/
module

public import proofs.«01_k».proof.Proof.ScanReads

@[expose] public section

set_option maxRecDepth 16384

noncomputable section

namespace Cert.KernelIdeal.Scan

open Cert.KernelIdeal Cert.KernelIdeal.Gen Cert.Scan Cert.ScanMath Idealize.ShloMosaic Idealize.ShloMosaic.TcCoe

variable (m : (ℓ : Loc nD τ sig) → Buf (Elt Ideal) ℓ) (c : Dev nD)

theorem x_at {T : Args} {k : Fin 4} {l p : ℕ} (hp : p < 4096) (h : pix k.val l = p) (d : Fin 192) : T.x k l d = T.X ⟨p, hp⟩ d := by
  unfold Args.x
  refine congrArg (fun q => T.X q d) (Fin.ext ?_)
  simp only [h]
  omega

theorem reads_x0 (t : Fin cfg0.N) (s : Fin 128) (d : Fin 192) :
    xRow (blocks m c t).x0 (ix2 s d) = (args m c).x 0 (128 * t.val + s.val) d := by
  rw [xRow_eq, x_at (p := 128 * t.val + s.val) (by have := points t; omega) rfl]
  exact read0 m c t s d

theorem reads_x1 (t : Fin cfg0.N) (s : Fin 128) (d : Fin 192) :
    xRow (blocks m c t).x1 (ix2 s d) = (args m c).x 2 (128 * t.val + (127 - s.val)) d := by
  have ht := points t
  rw [xRow_eq, x_at (k := 2) (l := 128 * t.val + (127 - s.val)) (p := 128 * (31 - t.val) + s.val) (by omega)
    (show 4095 - (128 * t.val + (127 - s.val)) = 128 * (31 - t.val) + s.val by omega)]
  exact read1 m c t s d

theorem reads_x2 (t : Fin cfg0.N) (s : Fin 128) (d : Fin 192) :
    xCol (blocks m c t).x2 (ix2 s d) = (args m c).x 1 (128 * t.val + s.val) d := by
  have ht := points t
  rw [xCol_apply, x_at (k := 1) (l := 128 * t.val + s.val) (p := 64 * (s.val % 64) + (2 * t.val + s.val / 64)) (by omega)
    (show (128 * t.val + s.val) % 64 * 64 + (128 * t.val + s.val) / 64 = 64 * (s.val % 64) + (2 * t.val + s.val / 64) by omega)]
  exact read2 m c t ⟨s.val % 64, by omega⟩ ⟨s.val / 64, by omega⟩ d

theorem reads_x3 (t : Fin cfg0.N) (s : Fin 128) (d : Fin 192) :
    xCol (blocks m c t).x3 (ix2 s d) = (args m c).x 3 (128 * t.val + (127 - s.val)) d := by
  have ht := points t
  rw [xCol_apply, x_at (k := 3) (l := 128 * t.val + (127 - s.val)) (p := 64 * (s.val % 64) + (2 * (31 - t.val) + s.val / 64)) (by omega)
    (show (4095 - (128 * t.val + (127 - s.val))) % 64 * 64 + (4095 - (128 * t.val + (127 - s.val))) / 64 =
      64 * (s.val % 64) + (2 * (31 - t.val) + s.val / 64) by omega)]
  exact read3 m c t ⟨s.val % 64, by omega⟩ ⟨s.val / 64, by omega⟩ d

theorem reads_x (t : Fin cfg0.N) : ∀ (e : Fin 4) (s : Fin 128) (d : Fin 192),
    (blocks m c t).xv e (ix2 s d) = (args m c).x (kd e) (128 * t.val + ord e.val s.val) d :=
  all_four (fun s d => reads_x0 m c t s d) (fun s d => reads_x1 m c t s d) (fun s d => reads_x2 m c t s d) (fun s d => reads_x3 m c t s d)

set_option maxHeartbeats 4000000 in
/-- Point `t`'s blocks hold chunk `t`. -/
theorem reads (t : Fin cfg0.N) : Reads (blocks m c t) (args m c) t.val where
  x := reads_x m c t
  wx e p J j i hp hJ := (congrFun (read4 m c t) _).trans (tableWx m c e p J j i hp hJ)
  wd e p R J r d hp hR hJ := (congrFun (read5 m c t) _).trans (tableWd m c e p R J r d hp hR hJ)
  wz e p R J r d hp hR hJ := (congrFun (read5 m c t) _).trans (tableWz m c e p R J r d hp hR hJ)
  bd e p J d hp hJ := (congrFun (read6 m c t) _).trans (tableBd m c e p J d hp hJ)
  A e p f n d hp hf := (congrFun (read7 m c t) _).trans (tableA m c e p f n d hp hf)
  D e p f d hp hf := (congrFun (read8 m c t) _).trans (tableD m c e p f d hp hf)
  pt u r := (congrFun (read9 m c t) _).trans (tablePt m c u r)
  sel r i := (congrFun (read10 m c t) _).trans (tableSel m c r i)
  bones i j := (congrFun (read11 m c t) _).trans (tableBones m c i j)

/-- The states every point is entered with are the scan's. -/
theorem enters : ∀ n, n ≤ 32 → Reads.Enters (args m c) (carried m c n) n := by
  intro n
  induction n with
  | zero =>
    intro _ e k d
    show (zeroH : Vec Ideal S4x16x192 .f32) (ix3 e k d) = 0
    pointwise [zeroH]
  | succ n ih =>
    intro hn
    have := (reads m c ⟨n, by rw [show cfg0.N = 32 from N_0]; omega⟩).next_value (ih (by omega))
    rw [← carried_succ] at this
    exact this

/-- The four results. -/
def out0 (T : Args) : Vec Ideal S4096x192 .f32 := fun i => T.y 0 (i 0).val (i 1)
def out1 (T : Args) : Vec Ideal S4096x192 .f32 := fun i => T.y 2 (4095 - (i 0).val) (i 1)
def out2 (T : Args) : Vec Ideal S64x64x1x192 .f32 := fun i => T.y 1 (64 * (i 1).val + (i 0).val) (i 3)
def out3 (T : Args) : Vec Ideal S64x64x1x192 .f32 := fun i => T.y 3 (4095 - (64 * (i 1).val + (i 0).val)) (i 3)

theorem at12 : ∀ t : Fin cfg0.N, win0_12.index t = ![t.val, 0] := (by decide +kernel : ∀ t : Fin grid0.N, win0_12.index t = ![t.val, 0])
theorem at13 : ∀ t : Fin cfg0.N, win0_13.index t = ![31 - t.val, 0] :=
  (by decide +kernel : ∀ t : Fin grid0.N, win0_13.index t = ![31 - t.val, 0])
theorem at14 : ∀ t : Fin cfg0.N, win0_14.index t = ![0, t.val, 0, 0] :=
  (by decide +kernel : ∀ t : Fin grid0.N, win0_14.index t = ![0, t.val, 0, 0])
theorem at15 : ∀ t : Fin cfg0.N, win0_15.index t = ![0, 31 - t.val, 0, 0] :=
  (by decide +kernel : ∀ t : Fin grid0.N, win0_15.index t = ![0, 31 - t.val, 0, 0])

theorem out0_at (t : Fin cfg0.N) (s : Fin 128) (d : Fin 192) :
    (blocks m c t).y0 (carried m c t.val) (ix2 s d) = (args m c).y 0 (128 * t.val + s.val) d :=
  (reads m c t).y0_value (enters m c t.val (Nat.le_of_lt (points t))) s d

theorem out1_at (t : Fin cfg0.N) (s : Fin 128) (d : Fin 192) :
    (blocks m c t).y1 (carried m c t.val) (ix2 s d) = (args m c).y 2 (128 * t.val + (127 - s.val)) d :=
  (reads m c t).y1_value (enters m c t.val (Nat.le_of_lt (points t))) s d

theorem out2_at (t : Fin cfg0.N) (h : Fin 64) (w : Fin 2) (d : Fin 192) :
    colBlock ((blocks m c t).y2 (carried m c t.val)) (ix4 h w (0 : Fin 1) d) = (args m c).y 1 (128 * t.val + (64 * w.val + h.val)) d :=
  (colBlock_apply _ h w d).trans ((reads m c t).y2_value (enters m c t.val (Nat.le_of_lt (points t))) _ d)

theorem out3_at (t : Fin cfg0.N) (h : Fin 64) (w : Fin 2) (d : Fin 192) :
    colBlock ((blocks m c t).y3 (carried m c t.val)) (ix4 h w (0 : Fin 1) d) =
      (args m c).y 3 (128 * t.val + (127 - (64 * w.val + h.val))) d :=
  (colBlock_apply _ h w d).trans ((reads m c t).y3_value (enters m c t.val (Nat.le_of_lt (points t))) _ d)

theorem final0 : (data m 0 c).arrAt 12 cfg0.N = out0 (args m c) := by
  refine (data m 0 c).arrAt_eq_of_covers 12 _ (by decide +kernel) fun t hf y => ?_
  blk_simp
  rw [left12]
  idx_vars y
  have ht := points t
  have hp : ((cfg0.win 12).blk t).view.emb (ix2 y0 y1) = (ix2 ⟨128 * t.val + y0.val, by have := points t; omega⟩ y1 : S4096x192.Idx) := by
    blk_ext [at12]
  refine (out0_at m c t y0 y1).trans (Eq.trans ?_ (congrArg (out0 (args m c)) hp).symm)
  exact rfl

theorem final1 : (data m 0 c).arrAt 13 cfg0.N = out1 (args m c) := by
  refine (data m 0 c).arrAt_eq_of_covers 13 _ (by decide +kernel) fun t hf y => ?_
  blk_simp
  rw [left13]
  idx_vars y
  have ht := points t
  have hp : ((cfg0.win 13).blk t).view.emb (ix2 y0 y1) = (ix2 ⟨128 * (31 - t.val) + y0.val, by have := points t; omega⟩ y1 : S4096x192.Idx) := by
    blk_ext [at13]
  refine (out1_at m c t y0 y1).trans (Eq.trans ?_ (congrArg (out1 (args m c)) hp).symm)
  exact congrArg (fun l => (args m c).y 2 l y1) (by show _ = 4095 - (128 * (31 - t.val) + y0.val); omega)

theorem final2 : (data m 0 c).arrAt 14 cfg0.N = out2 (args m c) := by
  refine (data m 0 c).arrAt_eq_of_covers 14 _ (by decide +kernel) fun t hf y => ?_
  blk_simp
  rw [left14]
  idx_vars y
  obtain rfl : y2 = 0 := Subsingleton.elim _ _
  have ht := points t
  have hp : ((cfg0.win 14).blk t).view.emb (ix4 y0 y1 (0 : Fin 1) y3) = (ix4 y0 ⟨2 * t.val + y1.val, by have := points t; omega⟩ (0 : Fin 1) y3 : S64x64x1x192.Idx) := by
    blk_ext [at14]
  refine (out2_at m c t y0 y1 y3).trans (Eq.trans ?_ (congrArg (out2 (args m c)) hp).symm)
  exact congrArg (fun l => (args m c).y 1 l y3) (by show _ = 64 * (2 * t.val + y1.val) + y0.val; omega)

theorem final3 : (data m 0 c).arrAt 15 cfg0.N = out3 (args m c) := by
  refine (data m 0 c).arrAt_eq_of_covers 15 _ (by decide +kernel) fun t hf y => ?_
  blk_simp
  rw [left15]
  idx_vars y
  obtain rfl : y2 = 0 := Subsingleton.elim _ _
  have ht := points t
  have hp : ((cfg0.win 15).blk t).view.emb (ix4 y0 y1 (0 : Fin 1) y3) = (ix4 y0 ⟨2 * (31 - t.val) + y1.val, by have := points t; omega⟩ (0 : Fin 1) y3 : S64x64x1x192.Idx) := by
    blk_ext [at15]
  refine (out3_at m c t y0 y1 y3).trans (Eq.trans ?_ (congrArg (out3 (args m c)) hp).symm)
  exact congrArg (fun l => (args m c).y 3 l y3) (by show _ = 4095 - (64 * (2 * (31 - t.val) + y1.val) + y0.val); omega)

end Cert.KernelIdeal.Scan

end
-- ==== Proof.RefEntry.lean ====
/-
  The reference before its loop: the decays, inputs and read-out weights it scans over, as the scan's coefficients.
-/
module

public import proofs.«01_k».proof.Proof.Gen.ReferenceIdeal.Run
public import proofs.«01_k».proof.Proof.ScanTables

@[expose] public section

set_option maxRecDepth 16384

noncomputable section

namespace Cert.ReferenceIdeal.Scan

open Cert.ReferenceIdeal Cert.ReferenceIdeal.Gen Cert.ReferenceIdeal.Value Cert.ScanMath Idealize.ShloMosaic Idealize.ShloMosaic.TcCoe
open Idealize.ShloMosaic.StableHlo

variable (m : (ℓ : Loc nD τ sig) → Buf (Elt Ideal) ℓ) (c : Dev nD)

/-- The arguments of core `c`, as launched. -/
def args : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The contents after the projections, -/
def s0 : Valuation τ sig (Elt Ideal) := after hostOps0 (fun b => m (c, b))
/-- after the softplus, -/
def s1 : Valuation τ sig (Elt Ideal) := after hostOps0_1 (s0 m c)
/-- and when the loop starts. -/
def s2 : Valuation τ sig (Elt Ideal) := after hostOps0_2 (s1 m c)

theorem entry_eq : entryContents preI m c = s2 m c := rfl

/-- What each direction reads, -/
def vX : Vec Ideal S4x4096x192 .f32 := s0 m c (Proc.devRef .tc main_v9)
/-- its projection, -/
def vXd : Vec Ideal S4x4096x38 .f32 := s0 m c (Proc.devRef .tc main_v10)
/-- its raw step size, -/
def vZ : Vec Ideal S4x4096x192 .f32 := s0 m c (Proc.devRef .tc main_v17)
/-- its step size. -/
def vδ : Vec Ideal S4x4096x192 .f32 := s1 m c (Proc.devRef .tc main_v18)

theorem vX_apply (k : Fin 4) (l : Fin 4096) (d : Fin 192) : vX m c (ix3 k l d) = (args m c).x k l.val d := by
  unfold vX s0
  after_reads_at
  repeat after_reads_at
  have hk : ∀ p : ℕ, ∀ hp : p < 4096, pix k.val l.val = p →
      m (c, Proc.devRef .tc main_arg0) (ix2 ⟨p, hp⟩ d) = (args m c).x k l.val d := fun p hp e =>
    congrArg (fun q => m (c, Proc.devRef .tc main_arg0) (ix2 q d)) (Fin.ext (by
      show p = pix k.val l.val % 4096
      rw [e, Nat.mod_eq_of_lt hp]))
  have hl := l.isLt
  simp only [List.mem_singleton, one_ne_zero, ↓reduceIte]
  by_cases h0 : k.val < 1
  · rw [dif_pos h0]
    exact hk l.val hl (by rw [pix, if_pos (by omega)])
  rw [dif_neg h0]
  by_cases h1 : k.val - 1 < 1
  · rw [dif_pos h1]
    exact hk _ _ (by rw [pix, if_neg (by omega), if_pos (by omega)])
  rw [dif_neg h1]
  by_cases h2 : k.val - 1 - 1 < 1
  · rw [dif_pos h2]
    exact hk (4096 - (l.val + 1)) (by omega) (by rw [pix, if_neg (by omega), if_neg (by omega), if_pos (by omega)]; omega)
  rw [dif_neg h2]
  refine hk _ _ ?_
  rw [pix, if_neg (by omega), if_neg (by omega), if_neg (by omega), Fin.val_rev]
  omega

theorem vXd_apply (k : Fin 4) (l : Fin 4096) (j : Fin 38) : vXd m c (ix3 k l j) = (args m c).xd k l.val j := by
  have h : vXd m c (ix3 k l j) = ∑ e : Fin 192, vX m c (ix3 k l e) * (args m c).Wx k j e := by
    unfold vXd vX s0
    after_reads_at
    repeat after_reads_at
    rfl
  rw [h]
  unfold Args.xd
  exact Finset.sum_congr rfl fun e _ => by rw [vX_apply]

theorem vZ_apply (k : Fin 4) (l : Fin 4096) (d : Fin 192) : vZ m c (ix3 k l d) = (args m c).z k l.val d := by
  have h : vZ m c (ix3 k l d) = ∑ r : Fin 6, vXd m c (ix3 k l ⟨r.val, by omega⟩) * (args m c).Wd k d r + (args m c).bd k d := by
    unfold vZ vXd s0
    after_reads_at
    repeat after_reads_at
    rfl
  rw [h]
  unfold Args.z
  exact congrArg (· + (args m c).bd k d) (Finset.sum_congr rfl fun e _ => by rw [vXd_apply])

theorem vδ_apply (k : Fin 4) (l : Fin 4096) (d : Fin 192) : vδ m c (ix3 k l d) = (args m c).δ k l.val d := by
  have h : vδ m c (ix3 k l d) = softplus (vZ m c (ix3 k l d)) := by
    unfold vδ s1 vZ
    after_reads_at
    exact if_neg fun h => h rfl
  rw [h, vZ_apply]
  rfl

/-! ## What the loop starts with -/

/-- The decays, step by step, -/
def vA : Vec Ideal S4096x4x192x16 .f32 := s2 m c (Proc.devRef .tc main_v38_0)
/-- the inputs, -/
def vB : Vec Ideal S4096x4x192x16 .f32 := s2 m c (Proc.devRef .tc main_v38_1)
/-- the read-out weights, -/
def vC : Vec Ideal S4096x4x16 .f32 := s2 m c (Proc.devRef .tc main_v38_2)
/-- and, for after the loop, what each direction reads -/
def vX2 : Vec Ideal S4x4096x192 .f32 := s2 m c (Proc.devRef .tc main_v9)
/-- and the skip weights. -/
def vD : Vec Ideal S4x192 .f32 := s2 m c (Proc.devRef .tc main_v20)

/-- What the lines before the softplus leave, the softplus keeps. -/
theorem s1_arg (i) : s1 m c (Proc.devRef .tc main_arg1) i = m (c, Proc.devRef .tc main_arg1) i := by
  unfold s1 s0
  after_reads_at
  repeat after_reads_at

theorem s1_x (i) : s1 m c (Proc.devRef .tc main_v9) i = vX m c i := by
  unfold vX s1
  after_reads_at

theorem s1_b (k : Fin 4) (l : Fin 4096) (n : Fin 16) :
    s1 m c (Proc.devRef .tc main_v12) (ix3 k l n) = vXd m c (ix3 k l ⟨6 + n.val, by omega⟩) := by
  unfold vXd s1 s0
  after_reads_at
  repeat after_reads_at

theorem s1_c (k : Fin 4) (l : Fin 4096) (n : Fin 16) :
    s1 m c (Proc.devRef .tc main_v13) (ix3 k l n) = vXd m c (ix3 k l ⟨22 + n.val, by omega⟩) := by
  unfold vXd s1 s0
  after_reads_at
  repeat after_reads_at

theorem vX2_apply (k : Fin 4) (l : Fin 4096) (d : Fin 192) : vX2 m c (ix3 k l d) = (args m c).x k l.val d := by
  rw [← vX_apply]
  unfold vX2 s2 vX s1
  after_reads_at
  repeat after_reads_at

theorem vD_apply (k : Fin 4) (d : Fin 192) : vD m c (ix2 k d) = (args m c).D k d := by
  unfold vD s2 s1 s0
  after_reads_at
  repeat after_reads_at
  rfl

theorem vA_apply (l : Fin 4096) (k : Fin 4) (d : Fin 192) (n : Fin 16) :
    vA m c (ix4 l k d n) = (args m c).a k n d l.val := by
  have h : vA m c (ix4 l k d n) = Ideal.exp (vδ m c (ix3 k l d) * (args m c).A k d n) := by
    unfold vA s2
    after_reads_at
    repeat after_reads_at
    show transpose S4096x4x192x16 [1, 0, 2, 3] _ _ (ix4 l k d n) = _
    pointwise
    rw [s1_arg]
    exact congrArg (fun q => Ideal.exp (vδ m c (ix3 k l d) * m (c, Proc.devRef .tc main_arg1) (ix2 0 q))) (Fin.ext (by
      show k.val * 3072 + d.val * 16 + n.val = (k.val * 192 + d.val) * 16 + n.val
      omega))
  rw [h, vδ_apply]
  rfl

theorem vB_apply (l : Fin 4096) (k : Fin 4) (d : Fin 192) (n : Fin 16) :
    vB m c (ix4 l k d n) = (args m c).b k n d l.val := by
  have h : vB m c (ix4 l k d n) = vδ m c (ix3 k l d) * vX m c (ix3 k l d) * vXd m c (ix3 k l ⟨6 + n.val, by omega⟩) := by
    unfold vB s2
    after_reads_at
    repeat after_reads_at
    show transpose S4096x4x192x16 [1, 0, 2, 3] _ _ (ix4 l k d n) = _
    pointwise
    rw [s1_b, s1_x]
    rfl
  rw [h, vδ_apply, vX_apply, vXd_apply]
  rfl

theorem vC_apply (l : Fin 4096) (k : Fin 4) (n : Fin 16) :
    vC m c (ix3 l k n) = (args m c).xd k l.val ⟨22 + n.val, by omega⟩ := by
  rw [← vXd_apply]
  unfold vC s2
  after_reads_at
  repeat after_reads_at
  show transpose S4096x4x16 [1, 0, 2] _ _ (ix3 l k n) = _
  pointwise
  exact s1_c m c k l n

end Cert.ReferenceIdeal.Scan

end
-- ==== Proof.RefLoop.lean ====
/-
  The reference's loop: before trip `k` the state is the scan's state before step `k`, and the outputs of the steps
  before it are written.
-/
module

public import proofs.«01_k».proof.Proof.RefEntry
public import Idealize.ShloMosaic.Lib.DynamicIndex

@[expose] public section

set_option maxRecDepth 16384

noncomputable section

namespace Cert.ReferenceIdeal.Scan

open Cert.ReferenceIdeal Cert.ReferenceIdeal.Gen Cert.ReferenceIdeal.Value Cert.ScanMath Idealize.ShloMosaic Idealize.ShloMosaic.TcCoe
open Idealize.ShloMosaic.StableHlo

variable (m : (ℓ : Loc nD τ sig) → Buf (Elt Ideal) ℓ) (c : Dev nD)

/-- The state before trip `k`, -/
def vS (k : ℕ) : Vec Ideal S4x192x16 .f32 := atK m k c (Proc.devRef .tc main_v38_4)
/-- and the outputs written before it. -/
def vY (k : ℕ) : Vec Ideal S4096x4x192 .f32 := atK m k c (Proc.devRef .tc main_v38_5)

/-! ## What the loop keeps -/

/-- Every buffer the loop writes. -/
abbrev loopWrites : List (Ref sig .tc) :=
  condOps_W ++ (while0Ops0_W ++ (while0Ops0_1_W ++ (while0Ops0_2_W ++ (while0Ops0_3_W ++ (while0Ops0_4_W ++ while0Ops0_5_W)))))

/-- The condition and the body keep every other buffer, -/
theorem trip_keeps (V : Valuation τ sig (Elt Ideal)) {r : Ref sig .tc} (h : r ∉ loopWrites) :
    afterL bodyI (after condOps V) (Proc.devRef .tc r) = V (Proc.devRef .tc r) := by
  simp only [loopWrites, List.mem_append, not_or] at h
  obtain ⟨hc, h0, h1, h2, h3, h4, h5⟩ := h
  simp only [bodyI, afterL_cons, afterL_nil]
  rw [after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- and so does the loop. -/
theorem atK_keeps {r : Ref sig .tc} (h : r ∉ loopWrites) : ∀ k, atK m k c (Proc.devRef .tc r) = s2 m c (Proc.devRef .tc r)
  | 0 => congrFun (entry_eq m c) _
  | k + 1 => (trip_keeps (atK m k c) h).trans (atK_keeps h k)

theorem atK_a : ∀ k, atK m k c (Proc.devRef .tc main_v38_0) = vA m c
  | 0 => congrFun (entry_eq m c) _
  | k + 1 => (trip_agree (atK m k c) main_v38_0 (by decide)).trans ((STEP_main_v38_0 _).trans (atK_a k))

theorem atK_b : ∀ k, atK m k c (Proc.devRef .tc main_v38_1) = vB m c
  | 0 => congrFun (entry_eq m c) _
  | k + 1 => (trip_agree (atK m k c) main_v38_1 (by decide)).trans ((STEP_main_v38_1 _).trans (atK_b k))

theorem atK_c : ∀ k, atK m k c (Proc.devRef .tc main_v38_2) = vC m c
  | 0 => congrFun (entry_eq m c) _
  | k + 1 => (trip_agree (atK m k c) main_v38_2 (by decide)).trans ((STEP_main_v38_2 _).trans (atK_c k))

/-! ## One trip -/

theorem vS_zero (q : Fin 4) (d : Fin 192) (n : Fin 16) : vS m c 0 (ix3 q d n) = 0 := by
  have h : vS m c 0 = s2 m c (Proc.devRef .tc main_v38_4) := congrFun (entry_eq m c) _
  rw [h]
  unfold s2
  after_reads_at
  repeat after_reads_at
  show broadcastInDim S4x192x16 ![] _ (constant S_ FTy.f32 0#32) (ix3 q d n) = _
  pointwise

/-- The trip counter, read signed. -/
theorem toInt_trip {k : ℕ} (hk : k < 4096) : (Scf.iv (0#32 : BitVec 32) 1#32 k).toInt = k := by
  rw [Scf.iv, BitVec.zero_add, BitVec.mul_one]
  show (BitVec.ofNat 32 k).toInt = k
  rw [BitVec.toInt_eq_toNat_of_lt] <;> rw [BitVec.toNat_ofNat] <;> omega

/-- The corner of trip `k`'s block of the decays and inputs, -/
def corner4 (k : ℕ) : Fin 4 → Int := fun a =>
  ((![fun _ => Scf.iv 0#32 1#32 k, constantI S_ 32 0#32, constantI S_ 32 0#32, constantI S_ 32 0#32] :
    Fin 4 → (⟨S_, .i32⟩ : BufTy).Contents (Elt Ideal)) a (Shape.Idx.first h_S_)).toInt
/-- and of its rows of the read-out weights and outputs. -/
def corner3 (k : ℕ) : Fin 3 → Int := fun a =>
  ((![fun _ => Scf.iv 0#32 1#32 k, constantI S_ 32 0#32, constantI S_ 32 0#32] :
    Fin 3 → (⟨S_, .i32⟩ : BufTy).Contents (Elt Ideal)) a (Shape.Idx.first h_S_)).toInt

theorem corner4_eq {k : ℕ} (hk : k < 4096) (a : Fin 4) : corner4 k a = ((![k, 0, 0, 0] : Fin 4 → ℕ) a : ℤ) := by
  fin_cases a
  · exact toInt_trip hk
  · rfl
  · rfl
  · rfl

theorem corner3_eq {k : ℕ} (hk : k < 4096) (a : Fin 3) : corner3 k a = ((![k, 0, 0] : Fin 3 → ℕ) a : ℤ) := by
  fin_cases a
  · exact toInt_trip hk
  · rfl
  · rfl

theorem block4 {k : ℕ} (hk : k < 4096) : S4096x4x192x16.Slices ![k, 0, 0, 0] S1x4x192x16 :=
  ⟨rfl, fun a => by
    fin_cases a
    · show k + 1 ≤ 4096
      omega
    · exact le_refl 4
    · exact le_refl 192
    · exact le_refl 16⟩

theorem block3 {k : ℕ} (hk : k < 4096) : S4096x4x16.Slices ![k, 0, 0] S1x4x16 :=
  ⟨rfl, fun a => by
    fin_cases a
    · show k + 1 ≤ 4096
      omega
    · exact le_refl 4
    · exact le_refl 16⟩

theorem blockY {k : ℕ} (hk : k < 4096) : S4096x4x192.Slices ![k, 0, 0] S1x4x192 :=
  ⟨rfl, fun a => by
    fin_cases a
    · show k + 1 ≤ 4096
      omega
    · exact le_refl 4
    · exact le_refl 192⟩

/-- One entry of trip `k`'s block. -/
theorem block4_apply {k : ℕ} (hk : k < 4096) (v : Vec Ideal S4096x4x192x16 .f32) (q : Fin 4) (d : Fin 192) (n : Fin 16) :
    shapeCast S4x192x16 (Host.dynamicSlice S1x4x192x16 v (corner4 k) sliceFits_S4096x4x192x16_S1x4x192x16)
      shapeCasts_S1x4x192x16_S4x192x16 (ix3 q d n) = v (ix4 ⟨k, hk⟩ q d n) := by
  rw [Host.dynamicSlice_eq_extractStridedSlice S1x4x192x16 v _ ![k, 0, 0, 0] _ (block4 hk) (corner4_eq hk)]
  pointwise

/-- One entry of trip `k`'s read-out weights. -/
theorem block3_apply {k : ℕ} (hk : k < 4096) (v : Vec Ideal S4096x4x16 .f32) (q : Fin 4) (n : Fin 16) :
    shapeCast S4x16 (Host.dynamicSlice S1x4x16 v (corner3 k) sliceFits_S4096x4x16_S1x4x16)
      shapeCasts_S1x4x16_S4x16 (ix2 q n) = v (ix3 ⟨k, hk⟩ q n) := by
  rw [Host.dynamicSlice_eq_extractStridedSlice S1x4x16 v _ ![k, 0, 0] _ (block3 hk) (corner3_eq hk)]
  pointwise

theorem vS_succ {k : ℕ} (hk : k < 4096) (q : Fin 4) (d : Fin 192) (n : Fin 16) :
    vS m c (k + 1) (ix3 q d n) = vA m c (ix4 ⟨k, hk⟩ q d n) * vS m c k (ix3 q d n) + vB m c (ix4 ⟨k, hk⟩ q d n) := by
  have h : vS m c (k + 1) = res_main_while0b_v64 (atK m k c) :=
    (trip_agree (atK m k c) main_v38_4 (by decide)).trans (STEP_main_v38_4 _)
  rw [h]
  unfold res_main_while0b_v64
  rw [atK_a, atK_b, atK_ctr, ← block4_apply hk (vA m c), ← block4_apply hk (vB m c)]
  rfl

theorem vY_succ {k : ℕ} (hk : k < 4096) (l : Fin 4096) (q : Fin 4) (d : Fin 192) :
    vY m c (k + 1) (ix3 l q d) = if l.val = k then ∑ n : Fin 16, vS m c (k + 1) (ix3 q d n) * vC m c (ix3 ⟨k, hk⟩ q n)
      else vY m c k (ix3 l q d) := by
  have h : vS m c (k + 1) = res_main_while0b_v64 (atK m k c) :=
    (trip_agree (atK m k c) main_v38_4 (by decide)).trans (STEP_main_v38_4 _)
  let w : FVec Ideal S4x16 .f32 :=
    shapeCast S4x16 (Host.dynamicSlice S1x4x16 (vC m c) (corner3 k) sliceFits_S4096x4x16_S1x4x16) shapeCasts_S1x4x16_S4x16
  let o : FVec Ideal S4x192 .f32 := Host.dotGeneral (φ₁ := .f32) dot_S4x192x16_S4x16_S4x192_2_1_1_n_0_0 none (vS m c (k + 1)) w
  let u : FVec Ideal S1x4x192 .f32 := broadcastInDim S1x4x192 ![1, 2] bcast_S4x192_S1x4x192_1_2 o
  have hw : ∀ n : Fin 16, w (ix2 q n) = vC m c (ix3 ⟨k, hk⟩ q n) := block3_apply hk (vC m c) q
  have hu : u (ix3 0 q d) = ∑ n : Fin 16, vS m c (k + 1) (ix3 q d n) * vC m c (ix3 ⟨k, hk⟩ q n) := by
    simp only [← hw, u, o]
    generalize w = w'
    pointwise
  have hy : vY m c (k + 1) = Host.dynamicUpdateSlice (vY m c k) u (corner3 k) updateFits_S4096x4x192_S1x4x192 := by
    refine ((trip_agree (atK m k c) main_v38_5 (by decide)).trans (STEP_main_v38_5 _)).trans ?_
    unfold step_main_v38_5
    rw [atK_c, atK_ctr, ← h]
    rfl
  rw [hy, Host.dynamicUpdateSlice_eq_updateSlice _ _ _ _ ![k, 0, 0] (fun a => by
    have := (blockY hk).2 a
    rw [corner3_eq hk]
    omega) (blockY hk)]
  clear_value u
  pointwise
  by_cases e : l.val = k
  · rw [dif_pos ⟨by omega, by omega⟩, if_pos e, ← hu]
    exact congrArg (fun p => u (ix3 p q d)) (Fin.ext (by
      show l.val - k = 0
      omega))
  · rw [dif_neg (by omega), if_neg e]

/-! ## All trips -/

theorem vS_apply (q : Fin 4) (d : Fin 192) (n : Fin 16) : ∀ {k : ℕ}, k ≤ 4096 → vS m c k (ix3 q d n) = (args m c).h q n d k
  | 0, _ => vS_zero m c q d n
  | k + 1, h => by
    rw [vS_succ m c (by omega), vA_apply, vB_apply, vS_apply q d n (by omega)]
    rfl

theorem vY_apply (l : Fin 4096) (q : Fin 4) (d : Fin 192) : ∀ {k : ℕ}, k ≤ 4096 → l.val < k →
    vY m c k (ix3 l q d) = ∑ n : Fin 16, (args m c).h q n d (l.val + 1) * (args m c).xd q l.val ⟨22 + n.val, by omega⟩
  | 0, _, h => absurd h (by omega)
  | k + 1, hk, h => by
    rw [vY_succ m c (by omega)]
    split_ifs with e
    · refine Finset.sum_congr rfl fun n _ => ?_
      rw [vS_apply m c q d n hk, vC_apply, e]
    · exact vY_apply l q d (by omega) (by omega)

end Cert.ReferenceIdeal.Scan

end
-- ==== Proof.RefFinal.lean ====
/-
  What the reference leaves: its arguments as launched, and its four results the four scans of its arguments.
-/
module

public import proofs.«01_k».proof.Proof.RefLoop
public import proofs.«01_k».proof.Proof.ScanFinal
public import Idealize.ShloMosaic.Lib.Quiescent

@[expose] public section

set_option maxRecDepth 16384

noncomputable section

namespace Cert.ReferenceIdeal.Scan

open Cert.ReferenceIdeal Cert.ReferenceIdeal.Gen Cert.ReferenceIdeal.Value Cert.ScanMath Idealize.ShloMosaic Idealize.ShloMosaic.TcCoe
open Idealize.ShloMosaic.StableHlo Idealize.SL.Sem

variable (m : (ℓ : Loc nD τ sig) → Buf (Elt Ideal) ℓ) (c : Dev nD)

/-- The contents after the loop. -/
def s3 : Valuation τ sig (Elt Ideal) := after condOps (atK m 4096 c)

theorem final_eq : finalContents condOps preI bodyI postI 4096 m c = after hostOps0_3 (s3 m c) := rfl

theorem s3_keeps {r : Ref sig .tc} (h : r ∉ loopWrites) : s3 m c (Proc.devRef .tc r) = s2 m c (Proc.devRef .tc r) :=
  (after_of_writes_sub condOps _ condOps_writes fun hc => h (List.mem_append_left _ hc)).trans (atK_keeps m c h 4096)

theorem s3_x : s3 m c (Proc.devRef .tc main_v9) = vX2 m c := s3_keeps m c (by decide +kernel)
theorem s3_d : s3 m c (Proc.devRef .tc main_v20) = vD m c := s3_keeps m c (by decide +kernel)
theorem s3_y : s3 m c (Proc.devRef .tc main_v38_5) = vY m c 4096 := cond_keeps _ main_v38_5 (by decide)

/-- The buffers written after the loop. -/
abbrev tailWrites : List (Ref sig .tc) :=
  [main_v39, main_v40, main_v41, main_v42, main_v43, main_v44, main_v45, main_v46, main_v47, main_v48, main_v49, main_v50, main_v51,
    main_v52, main_v53, main_v54, main_v55, main_v56, main_v57, main_v58, main_v59]
theorem tail_writes : (hostOps0_3 : List (HloOp τ sig (Elt Ideal))).Forall fun op =>
    op.writes ⊆ (tailWrites.map (Proc.devRef (τ := τ) .tc)).toFinset :=
  StableHlo.forall_writes_sub_of_map rfl

/-- A buffer that nothing writes is as launched. -/
theorem final_keeps {r : Ref sig .tc} (h : r ∉ loopWrites) (h0 : r ∉ hostOps0_W) (h1 : r ∉ hostOps0_1_W) (h2 : r ∉ hostOps0_2_W)
    (h3 : r ∉ tailWrites) : finalContents condOps preI bodyI postI 4096 m c (Proc.devRef .tc r) = m (c, Proc.devRef .tc r) := by
  rw [final_eq, after_of_writes_sub hostOps0_3 _ tail_writes h3, s3_keeps m c h]
  unfold s2 s1 s0
  rw [after_of_writes_sub hostOps0_2 _ hostOps0_2_writes h2, after_of_writes_sub hostOps0_1 _ hostOps0_1_writes h1,
    after_of_writes_sub hostOps0 _ hostOps0_writes h0]

/-- All four outputs, each in its direction's order. -/
def vAll : Vec Ideal S4x4096x192 .f32 := after hostOps0_3 (s3 m c) (Proc.devRef .tc main_v43)

theorem vAll_apply (k : Fin 4) (l : Fin 4096) (d : Fin 192) : vAll m c (ix3 k l d) = (args m c).y k l.val d := by
  have h : vAll m c (ix3 k l d) = vY m c 4096 (ix3 l k d) + vD m c (ix2 k d) * vX2 m c (ix3 k l d) := by
    unfold vAll
    after_reads_at
    repeat after_reads_at
    rw [s3_x, s3_d, s3_y]
  rw [h, vY_apply m c l k d le_rfl l.isLt, vD_apply, vX2_apply]
  rfl

theorem out0_eq : finalContents condOps preI bodyI postI 4096 m c (Proc.devRef .tc main_v45) = Cert.KernelIdeal.Scan.out0 (args m c) := by
  rw [final_eq]
  funext y
  idx_vars y
  have h : after hostOps0_3 (s3 m c) (Proc.devRef .tc main_v45) (ix2 y0 y1) = vAll m c (ix3 0 y0 y1) := by
    unfold vAll
    after_reads_at
    repeat after_reads_at
  rw [h, vAll_apply]
  rfl

theorem out1_eq : finalContents condOps preI bodyI postI 4096 m c (Proc.devRef .tc main_v48) = Cert.KernelIdeal.Scan.out1 (args m c) := by
  rw [final_eq]
  funext y
  idx_vars y
  have h : after hostOps0_3 (s3 m c) (Proc.devRef .tc main_v48) (ix2 y0 y1) = vAll m c (ix3 2 ⟨4095 - y0.val, by omega⟩ y1) := by
    unfold vAll
    after_reads_at
    repeat after_reads_at
    have e : y0.rev = ⟨4095 - y0.val, by omega⟩ := Fin.ext (by
      show 4096 - (y0.val + 1) = 4095 - y0.val
      omega)
    simp only [List.mem_singleton, one_ne_zero, ↓reduceIte, e]
  rw [h, vAll_apply]
  rfl

theorem out2_eq : finalContents condOps preI bodyI postI 4096 m c (Proc.devRef .tc main_v53) = Cert.KernelIdeal.Scan.out2 (args m c) := by
  rw [final_eq]
  funext y
  idx_vars y
  have h : after hostOps0_3 (s3 m c) (Proc.devRef .tc main_v53) (ix4 y0 y1 y2 y3) = vAll m c (ix3 1 ⟨64 * y1.val + y0.val, by omega⟩ y3) := by
    unfold vAll
    after_reads_at
    repeat after_reads_at
    have e : y1.val * 64 + y0.val = 64 * y1.val + y0.val := by omega
    simp only [e]
  rw [h, vAll_apply]
  rfl

theorem out3_eq : finalContents condOps preI bodyI postI 4096 m c (Proc.devRef .tc main_v59) = Cert.KernelIdeal.Scan.out3 (args m c) := by
  rw [final_eq]
  funext y
  idx_vars y
  have h : after hostOps0_3 (s3 m c) (Proc.devRef .tc main_v59) (ix4 y0 y1 y2 y3) =
      vAll m c (ix3 3 ⟨4095 - (64 * y1.val + y0.val), by omega⟩ y3) := by
    unfold vAll
    after_reads_at
    repeat after_reads_at
    have e : ∀ hp, (⟨y1.val * 64 + y0.val, hp⟩ : Fin 4096).rev = ⟨4095 - (64 * y1.val + y0.val), by omega⟩ := fun hp =>
      Fin.ext (by
        show 4096 - (y1.val * 64 + y0.val + 1) = 4095 - (64 * y1.val + y0.val)
        omega)
    simp only [List.mem_singleton, one_ne_zero, ↓reduceIte, e]
  rw [h, vAll_apply]
  rfl

/-- The reference runs, keeps its arguments and leaves the four scans. -/
theorem run (ρ : Dev nD → PrngReg) : θ_run (defs (F := Ideal)) (onTc (τ := τ) (main (F := Ideal))) ⟨m, fun _ => 0, ρ⟩ (fun r => (∀ c : Dev nD,
      (r.2.mem ((c.tc : Thread nD τ).loc main_v45) = Cert.KernelIdeal.Scan.out0 (args m c)
      ∧ r.2.mem ((c.tc : Thread nD τ).loc main_v48) = Cert.KernelIdeal.Scan.out1 (args m c)
      ∧ r.2.mem ((c.tc : Thread nD τ).loc main_v53) = Cert.KernelIdeal.Scan.out2 (args m c)
      ∧ r.2.mem ((c.tc : Thread nD τ).loc main_v59) = Cert.KernelIdeal.Scan.out3 (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ?_, sem_eq_zero_of_no_sems rfl _⟩) (run_fold m ρ)
  have keep : ∀ b : Ref sig .tc, (Proc.devRef .tc b : DevRef τ sig).isScoped = false → b ∉ loopWrites → b ∉ hostOps0_W →
      b ∉ hostOps0_1_W → b ∉ hostOps0_2_W → b ∉ tailWrites →
      r.2.mem ((c.tc : Thread nD τ).loc b) = m ((c.tc : Thread nD τ).loc b) := fun b hs hl h0 h1 h2 h3 =>
    (h c b hs).trans (final_keeps m c hl h0 h1 h2 h3)
  exact ⟨⟨(h c main_v45 rfl).trans (out0_eq m c), (h c main_v48 rfl).trans (out1_eq m c), (h c main_v53 rfl).trans (out2_eq m c),
      (h c main_v59 rfl).trans (out3_eq m c)⟩,
    keep main_arg0 rfl (by decide +kernel) (by decide +kernel) (by decide +kernel) (by decide +kernel) (by decide +kernel),
    keep main_arg1 rfl (by decide +kernel) (by decide +kernel) (by decide +kernel) (by decide +kernel) (by decide +kernel),
    keep main_arg2 rfl (by decide +kernel) (by decide +kernel) (by decide +kernel) (by decide +kernel) (by decide +kernel),
    keep main_arg3 rfl (by decide +kernel) (by decide +kernel) (by decide +kernel) (by decide +kernel) (by decide +kernel),
    keep main_arg4 rfl (by decide +kernel) (by decide +kernel) (by decide +kernel) (by decide +kernel) (by decide +kernel),
    keep main_arg5 rfl (by decide +kernel) (by decide +kernel) (by decide +kernel) (by decide +kernel) (by decide +kernel)⟩

end Cert.ReferenceIdeal.Scan

end
-- ==== Proof.FinValue.lean ====
/-
  The last call: the sum of the four directions, normalized over the pixels, scaled and shifted by channel, projected.
  Its result and the reference's are one function of the arguments, index by index.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.IdealHost
public import Idealize.ShloMosaic.Lib.Quiescent
public import Idealize.ShloMosaic.Lib.StableHlo.ReadAt

@[expose] public section

set_option maxRecDepth 16384

noncomputable section

namespace Cert.FinValue

open Idealize.ShloMosaic Idealize.ShloMosaic.TcCoe Idealize.SL.Sem

/-- Arrays by pixel and channel, by channel, and the projection's and the result's. -/
abbrev SX : Shape := ⟨2, ![4096, 192]⟩
abbrev SC : Shape := ⟨2, ![1, 192]⟩
abbrev SW : Shape := ⟨2, ![96, 192]⟩
abbrev SO : Shape := ⟨2, ![4096, 96]⟩

/-- The number of pixels, and what the variance is raised by. -/
def pixels : EReal := Ideal.ofBits .f32 0x45800000#32
def raise : EReal := Ideal.ofBits .f32 0x3727C5AC#32

section
variable (Y : FVec Ideal SX .f32) (d : Fin 192)

/-- A channel's mean, -/
def mean : EReal := Ideal.div (∑ l : Fin 4096, Y (ix2 l d)) pixels
/-- a pixel's deviation from it, -/
def dev (l : Fin 4096) : EReal := Y (ix2 l d) - mean Y d
/-- and the channel's variance. -/
def var : EReal := Ideal.div (∑ l : Fin 4096, dev Y d l * dev Y d l) pixels
end

/-- The result. -/
def out (Y : FVec Ideal SX .f32) (g b : FVec Ideal SC .f32) (w : FVec Ideal SW .f32) (l : Fin 4096) (e : Fin 96) : EReal :=
  ∑ d : Fin 192, (dev Y d l * Ideal.rsqrt (var Y d + raise) * g (ix2 (0 : Fin 1) d) + b (ix2 (0 : Fin 1) d)) * w (ix2 e d)

/-! ## The root and its reciprocal -/

theorem pixels_eq : pixels = ((4096 : ℝ) : EReal) := by
  have h : Ideal.ofBits .f32 0x45800000#32 = ((4096 : ℝ) : EReal) := by
    simp [Ideal.ofBits, Ideal.ieee, -EReal.coe_mul]
    norm_num
  exact h

theorem raise_pos : 0 < raise := by
  have h : 0 < Ideal.ofBits .f32 0x3727C5AC#32 := by
    simp [Ideal.ofBits, Ideal.ieee, -EReal.coe_mul]
  exact h

theorem square_nonneg (x : EReal) : 0 ≤ x * x := by
  rcases le_total 0 x with h | h
  · exact mul_nonneg h h
  · rw [← neg_mul_neg]
    have h' : 0 ≤ -x := EReal.neg_nonneg.2 h
    exact mul_nonneg h' h'

theorem var_nonneg (Y : FVec Ideal SX .f32) (d : Fin 192) : 0 ≤ var Y d := by
  have h4 : pixels ≠ 0 := by
    rw [pixels_eq]; exact_mod_cast (by norm_num : (4096 : ℝ) ≠ 0)
  unfold var
  rw [Ideal.div, if_neg h4]
  refine mul_nonneg (Finset.sum_nonneg fun l _ => square_nonneg _) ?_
  rw [pixels_eq, ← EReal.coe_inv]
  exact EReal.coe_nonneg.2 (by norm_num)

/-- To divide by the root of a positive number is to multiply by the root's reciprocal. -/
theorem div_sqrt (x v : EReal) (hv : 0 < v) : Ideal.div x (Ideal.sqrt v) = x * Ideal.rsqrt v := by
  induction v using EReal.rec with
  | bot => exact absurd hv (by simp)
  | top =>
    show Ideal.div x ⊤ = x * 0
    rw [Ideal.div, if_neg (by decide), EReal.inv_top]
  | coe r =>
    have hr : 0 < r := EReal.coe_pos.1 hv
    have hs : (Real.sqrt r : EReal) ≠ 0 := by exact_mod_cast (Real.sqrt_pos.2 hr).ne'
    have e : Ideal.sqrt (r : EReal) = (Real.sqrt r : EReal) := by
      show (if r < 0 then (⊥ : EReal) else (Real.sqrt r : EReal)) = _
      rw [if_neg hr.le.not_gt]
    have e' : Ideal.rsqrt (r : EReal) = (((Real.sqrt r)⁻¹ : ℝ) : EReal) := by
      show (if r < 0 then (⊥ : EReal) else if r = 0 then ⊤ else (((Real.sqrt r)⁻¹ : ℝ) : EReal)) = _
      rw [if_neg hr.le.not_gt, if_neg hr.ne']
    rw [e, e', Ideal.div, if_neg hs, EReal.coe_inv]

/-! ## The kernel -/

section Ker
open Cert.Kernel2Ideal Cert.Kernel2Ideal.Gen

theorem ker_apply (p0 p1 p2 p3 : FVec Ideal SX .f32) (g b : FVec Ideal SC .f32) (w : FVec Ideal S192x96 .f32) (w' : FVec Ideal SW .f32)
    (hw : ∀ d e, w (ix2 d e) = w' (ix2 e d)) (l : Fin 4096) (e : Fin 96) :
    k0_pay1 (F := Ideal) p0 p1 p2 p3 g b w (ix2 l e) = out (addf (addf (addf p0 p1) p2) p3) g b w' l e := by
  unfold k0_pay1 out dev var dev mean pixels raise
  pointwise
  simp only [hw]

variable (m : (ℓ : Loc nD τ sig) → Buf (Elt Ideal) ℓ) (c : Dev nD)

theorem at0 : ∀ t : Fin cfg0.N, win0_0.index t = ![0, 0] := (by decide +kernel : ∀ t : Fin grid0.N, win0_0.index t = ![0, 0])
theorem at1 : ∀ t : Fin cfg0.N, win0_1.index t = ![0, 0] := (by decide +kernel : ∀ t : Fin grid0.N, win0_1.index t = ![0, 0])
theorem at2 : ∀ t : Fin cfg0.N, win0_2.index t = ![0, 0] := (by decide +kernel : ∀ t : Fin grid0.N, win0_2.index t = ![0, 0])
theorem at3 : ∀ t : Fin cfg0.N, win0_3.index t = ![0, 0] := (by decide +kernel : ∀ t : Fin grid0.N, win0_3.index t = ![0, 0])
theorem at4 : ∀ t : Fin cfg0.N, win0_4.index t = ![0, 0] := (by decide +kernel : ∀ t : Fin grid0.N, win0_4.index t = ![0, 0])
theorem at5 : ∀ t : Fin cfg0.N, win0_5.index t = ![0, 0] := (by decide +kernel : ∀ t : Fin grid0.N, win0_5.index t = ![0, 0])
theorem at6 : ∀ t : Fin cfg0.N, win0_6.index t = ![0, 0] := (by decide +kernel : ∀ t : Fin grid0.N, win0_6.index t = ![0, 0])
theorem at7 : ∀ t : Fin cfg0.N, win0_7.index t = ![0, 0] := (by decide +kernel : ∀ t : Fin grid0.N, win0_7.index t = ![0, 0])

/-- The arguments, as the region finds them. -/
def a0 : FVec Ideal SX .f32 := m ((c : Thread nD τ).loc main_arg0)
def a1 : FVec Ideal SX .f32 := m ((c : Thread nD τ).loc main_arg1)
def a2 : FVec Ideal SX .f32 := shapeCast SX (m ((c : Thread nD τ).loc main_arg2)) shapeCasts_S64x64x1x192_S4096x192
def a3 : FVec Ideal SX .f32 := shapeCast SX (m ((c : Thread nD τ).loc main_arg3)) shapeCasts_S64x64x1x192_S4096x192
def a4 : FVec Ideal SC .f32 := m ((c : Thread nD τ).loc main_arg4)
def a5 : FVec Ideal SC .f32 := m ((c : Thread nD τ).loc main_arg5)
def a6 : FVec Ideal SW .f32 := m ((c : Thread nD τ).loc main_arg6)
def a6T : FVec Ideal S192x96 .f32 := V m c main_v2

theorem a6T_apply (d : Fin 192) (e : Fin 96) : a6T m c (ix2 d e) = a6 m c (ix2 e d) := by
  unfold a6T
  after_reads_at
  rfl

theorem read0 (t : Fin cfg0.N) : (iblk m c 0 t : FVec Ideal SX .f32) = a0 m c := by
  funext y
  refine Eq.trans ?_ (congrFun (V_main_arg0 m c) y)
  blk_ext [iblk, at0]
theorem read1 (t : Fin cfg0.N) : (iblk m c 1 t : FVec Ideal SX .f32) = a1 m c := by
  funext y
  refine Eq.trans ?_ (congrFun (V_main_arg1 m c) y)
  blk_ext [iblk, at1]
theorem read2 (t : Fin cfg0.N) : (iblk m c 2 t : FVec Ideal SX .f32) = a2 m c := by
  have h : (V m c main_v0 : FVec Ideal SX .f32) = a2 m c := by
    unfold V a2
    after_results_simp
    rfl
  rw [← h]
  funext y
  blk_ext [iblk, at2]
theorem read3 (t : Fin cfg0.N) : (iblk m c 3 t : FVec Ideal SX .f32) = a3 m c := by
  have h : (V m c main_v1 : FVec Ideal SX .f32) = a3 m c := by
    unfold V a3
    after_results_simp
    rfl
  rw [← h]
  funext y
  blk_ext [iblk, at3]
theorem read4 (t : Fin cfg0.N) : (iblk m c 4 t : FVec Ideal SC .f32) = a4 m c := by
  funext y
  refine Eq.trans ?_ (congrFun (V_main_arg4 m c) y)
  blk_ext [iblk, at4]
theorem read5 (t : Fin cfg0.N) : (iblk m c 5 t : FVec Ideal SC .f32) = a5 m c := by
  funext y
  refine Eq.trans ?_ (congrFun (V_main_arg5 m c) y)
  blk_ext [iblk, at5]
theorem read6 (t : Fin cfg0.N) : (iblk m c 6 t : FVec Ideal S192x96 .f32) = a6T m c := by
  funext y
  unfold a6T
  blk_ext [iblk, at6]

/-- The sum of the four directions, each row by row. -/
def total : FVec Ideal SX .f32 := addf (addf (addf (a0 m c) (a1 m c)) (a2 m c)) (a3 m c)

/-- The result array. -/
def result : FVec Ideal SO .f32 := fun i => out (total m c) (a4 m c) (a5 m c) (a6 m c) (i 0) (i 1)

theorem origin : (![0, 0] : Fin 2 → ℕ) = fun _ => 0 := by decide

theorem out_block (t : Fin cfg0.N) (l : Fin 4096) (e : Fin 96) :
    out0_7 (iblk m c 0 t) (iblk m c 1 t) (iblk m c 2 t) (iblk m c 3 t) (iblk m c 4 t) (iblk m c 5 t) (iblk m c 6 t) (ix2 l e) =
      result m c (ix2 l e) := by
  rw [read0, read1, read2, read3, read4, read5, read6]
  unfold out0_7
  simp only [View.ld_unit_zero (S := S4096x192) origin, View.ld_unit_zero (S := S1x192) origin, View.ld_unit_zero (S := S192x96) origin]
  rw [View.canon_unit_zero (S := S4096x96) origin]
  exact ker_apply _ _ _ _ _ _ _ (a6 m c) (a6T_apply m c) l e

theorem final7 : (dats m 0 c).arrAt 7 cfg0.N = result m c := by
  refine (dats m 0 c).arrAt_eq_of_covers 7 _ (by decide +kernel) fun t hf y => ?_
  blk_simp
  rw [after0_7]
  idx_vars y
  have hp : ((cfg0.win 7).blk t).view.emb (ix2 y0 y1) = (ix2 y0 y1 : S4096x96.Idx) := by
    blk_ext [at7]
  exact (out_block m c t y0 y1).trans (congrArg (result m c) hp).symm

end Ker

/-! ## The reference -/

section Ref
open Cert.Reference2Ideal Cert.Reference2Ideal.Gen

variable (Y : FVec Ideal SX .f32)
/-- The reference's mean, -/
def rMean : FVec Ideal SC .f32 :=
  Host.divf (broadcastInDim S1x192 ![1] bcast_S192_S1x192_1 (Host.reduceAdd Y (constant S_ .f32 0x00000000#32) reducesTo_S4096x192_S192_d0 h_S_)) (broadcastInDim S1x192 ![] bcast_S_S1x192 (constant S_ .f32 0x45800000#32))
/-- deviation, -/
def rDev : FVec Ideal SX .f32 := subf Y (broadcastInDim S4096x192 ![0, 1] bcast_S1x192_S4096x192_0_1 (rMean Y))
/-- variance, -/
def rVar : FVec Ideal SC .f32 :=
  select (broadcastInDim S1x192 ![] bcast_S_S1x192 (cmpf (F := Ideal) (φ := .f32) .ogt (subf (constant S_ .f32 0x45800000#32) (sitofp .f32 (constantI S_ 32 0#32))) (constant S_ .f32 0x00000000#32)))
    (Host.divf (broadcastInDim S1x192 ![1] bcast_S192_S1x192_1 (Host.reduceAdd (mulf (rDev Y) (rDev Y)) (constant S_ .f32 0x00000000#32) reducesTo_S4096x192_S192_d0 h_S_)) (broadcastInDim S1x192 ![] bcast_S_S1x192 (subf (constant S_ .f32 0x45800000#32) (sitofp .f32 (constantI S_ 32 0#32)))))
    (broadcastInDim S1x192 ![] bcast_S_S1x192 (id (constant S_ .f32 0x7FC00000#32)))
/-- and result. -/
def rOut (g b : FVec Ideal SC .f32) (w : FVec Ideal SW .f32) : FVec Ideal SO .f32 :=
  Host.dotGeneral (φ₁ := .f32) (φ₂ := .f32) dot_S4096x192_S96x192_S4096x96_1_1_0_0_n_n none (addf (mulf (Host.divf (rDev Y) (broadcastInDim S4096x192 ![0, 1] bcast_S1x192_S4096x192_0_1 (Host.sqrt (addf (rVar Y) (broadcastInDim S1x192 ![] bcast_S_S1x192 (constant S_ .f32 0x3727C5AC#32)))))) (broadcastInDim S4096x192 ![0, 1] bcast_S1x192_S4096x192_0_1 g)) (broadcastInDim S4096x192 ![0, 1] bcast_S1x192_S4096x192_0_1 b)) w

theorem rMean_apply (d : Fin 192) : rMean Y (ix2 (0 : Fin 1) d) = mean Y d := by
  unfold rMean mean pixels
  pointwise

theorem rDev_apply (l : Fin 4096) (d : Fin 192) : rDev Y (ix2 l d) = dev Y d l := by
  unfold rDev dev
  pointwise
  rw [rMean_apply]

theorem rVar_apply (d : Fin 192) : rVar Y (ix2 (0 : Fin 1) d) = var Y d := by
  unfold rVar
  pointwise
  simp only [rDev_apply]
  have h0 : (FloatOps.sitofp (F := Ideal) .f32 (0#32) : EReal) = 0 := by
    show (((BitVec.toInt (0#32) : ℝ)) : EReal) = 0
    simp
  rw [h0, sub_zero]
  exact if_pos (lt_of_lt_of_eq (EReal.coe_pos.2 (by norm_num)) pixels_eq.symm)

theorem rOut_apply (g b : FVec Ideal SC .f32) (w : FVec Ideal SW .f32) (l : Fin 4096) (e : Fin 96) :
    rOut Y g b w (ix2 l e) = out Y g b w l e := by
  unfold rOut out
  pointwise
  simp only [rDev_apply, rVar_apply]
  refine Finset.sum_congr rfl fun d _ => ?_
  have hv : 0 < var Y d + raise := lt_of_lt_of_le raise_pos (le_add_of_nonneg_left (var_nonneg Y d))
  rw [← div_sqrt _ _ hv]
  rfl

variable (m : (ℓ : Loc nD τ sig) → Buf (Elt Ideal) ℓ)

theorem rOut_eq (c : Dev nD) (Y0 Y1 Y2 Y3 : FVec Ideal SX .f32) (g b : FVec Ideal SC .f32) (w : FVec Ideal SW .f32) :
    rOut (addf (addf (addf Y0 Y2) Y1) Y3) g b w = fun i => out (addf (addf (addf Y0 Y1) Y2) Y3) g b w (i 0) (i 1) := by
  have h : addf (addf (addf Y0 Y2) Y1) Y3 = addf (addf (addf Y0 Y1) Y2) Y3 := by
    funext i
    exact congrArg (fun z : EReal => z + Y3 i) (add_right_comm (Y0 i : EReal) (Y2 i) (Y1 i))
  funext i
  idx_vars i
  rw [h]
  exact rOut_apply _ g b w i0 i1

/-- The reference ends with its result and its arguments kept. -/
theorem ref_run (ρ : Dev nD → PrngReg) : θ_run (defs (F := Ideal)) (onTc (τ := τ) (main (F := Ideal))) ⟨m, fun _ => 0, ρ⟩ (fun r => (∀ c : Dev nD,
    r.2.mem ((c : Thread nD τ).loc main_v21) = (fun i => out (addf (addf (addf (m ((c : Thread nD τ).loc main_arg0) : FVec Ideal SX .f32) (m ((c : Thread nD τ).loc main_arg1)))
        (shapeCast SX (m ((c : Thread nD τ).loc main_arg2)) shapeCasts_S64x64x1x192_S4096x192)) (shapeCast SX (m ((c : Thread nD τ).loc main_arg3)) shapeCasts_S64x64x1x192_S4096x192))
        (m ((c : Thread nD τ).loc main_arg4)) (m ((c : Thread nD τ).loc main_arg5)) (m ((c : Thread nD τ).loc main_arg6)) (i 0) (i 1) : FVec Ideal SO .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) := by
  refine (θ_run _ _ _).mono (fun r h => ⟨fun c => ?_, sem_eq_zero_of_no_sems rfl _⟩) (Cert.Reference2Ideal.Value.run m ρ)
  exact ⟨((h c).1).trans (rOut_eq c _ _ _ _ _ _ _), (h c).2⟩

end Ref
end Cert.FinValue

end
-- ==== Proof.PreSpec.lean ====
/-
  The call before the scans, on the arguments: what each of its five results is, index by index.
-/
module

public import Idealize.ShloMosaic.Lib.Pointwise
public import Idealize.ShloMosaic.Lib.IdealHost

@[expose] public section

noncomputable section

namespace Cert.Pre

open Idealize.ShloMosaic

/-- The arguments: the image and the representation, the projection, the convolution's weights and bias, and weights and
    bias of the five maps of the pooled representation (the gain, the decay rates, the skip weights, the gain and the
    offset of the normalization). -/
structure Args where
  x : FVec Ideal ⟨4, ![1, 64, 64, 96]⟩ .f32
  rep : FVec Ideal ⟨4, ![1, 64, 64, 64]⟩ .f32
  w : FVec Ideal ⟨2, ![192, 96]⟩ .f32
  cw : FVec Ideal ⟨4, ![192, 1, 3, 3]⟩ .f32
  cb : FVec Ideal ⟨1, ![192]⟩ .f32
  mw : FVec Ideal ⟨2, ![192, 64]⟩ .f32
  mb : FVec Ideal ⟨1, ![192]⟩ .f32
  aw : FVec Ideal ⟨2, ![12288, 64]⟩ .f32
  ab : FVec Ideal ⟨1, ![12288]⟩ .f32
  dw : FVec Ideal ⟨2, ![768, 64]⟩ .f32
  db : FVec Ideal ⟨1, ![768]⟩ .f32
  gw : FVec Ideal ⟨2, ![192, 64]⟩ .f32
  gb : FVec Ideal ⟨1, ![192]⟩ .f32
  bw : FVec Ideal ⟨2, ![192, 64]⟩ .f32
  bb : FVec Ideal ⟨1, ![192]⟩ .f32

variable (A : Args)

/-- The mean of the representation over the pixels. -/
def pooled (q : Fin 64) : EReal := Ideal.div (∑ i : Fin 64, ∑ j : Fin 64, A.rep (ix4 (0 : Fin 1) q i j)) (Ideal.ofBits .f32 0x45800000#32)

/-- An affine map of it. -/
def lin {n : ℕ} (W : FVec Ideal ⟨2, ![n, 64]⟩ .f32) (b : FVec Ideal ⟨1, ![n]⟩ .f32) (d : Fin n) : EReal :=
  ∑ q : Fin 64, pooled A q * W (ix2 d q) + b (ix1 d)

/-- The gain of a channel, -/
def gain (d : Fin 192) : EReal := 1 + ∑ q : Fin 64, pooled A q * A.mw (ix2 d q) + A.mb (ix1 d)

/-- the projected image times it, -/
def xi (i j : Fin 64) (d : Fin 192) : EReal := (∑ k : Fin 96, A.x (ix4 (0 : Fin 1) i j k) * A.w (ix2 d k)) * gain A d

/-- in a border of zeros, -/
def cell (i j : Fin 66) (d : Fin 192) : EReal :=
  if h : (1 ≤ i.val ∧ i.val - 1 < 64) ∧ (1 ≤ j.val ∧ j.val - 1 < 64) then xi A ⟨i.val - 1, h.1.2⟩ ⟨j.val - 1, h.2.2⟩ d else 0

/-- one term of its convolution, -/
def tap (i j : Fin 64) (d : Fin 192) (a b : Fin 3) : EReal :=
  cell A ⟨a.val + i.val, by omega⟩ ⟨b.val + j.val, by omega⟩ d * A.cw (ix4 d (0 : Fin 1) a b)

/-- and the convolution. -/
def conv (i j : Fin 64) (d : Fin 192) : EReal :=
  tap A i j d 0 0 + tap A i j d 0 1 + tap A i j d 0 2 + tap A i j d 1 0 + tap A i j d 1 1 + tap A i j d 1 2 + tap A i j d 2 0
    + tap A i j d 2 1 + tap A i j d 2 2 + A.cb (ix1 d)

/-- The five results: the activated convolution by pixel and channel, -/
def res0 : FVec Ideal ⟨2, ![4096, 192]⟩ .f32 := fun p =>
  conv A ⟨(p 0).val / 64, by have := (p 0).isLt; simp at this; omega⟩ ⟨(p 0).val % 64, by omega⟩ (p 1)
    * Ideal.logistic (conv A ⟨(p 0).val / 64, by have := (p 0).isLt; simp at this; omega⟩ ⟨(p 0).val % 64, by omega⟩ (p 1))
/-- the decay rates, -/
def res1 : FVec Ideal ⟨2, ![1, 12288]⟩ .f32 := fun p => -Ideal.exp (lin A A.aw A.ab (p 1))
/-- the skip weights, -/
def res2 : FVec Ideal ⟨2, ![1, 768]⟩ .f32 := fun p => lin A A.dw A.db (p 1)
/-- the gain -/
def res3 : FVec Ideal ⟨2, ![1, 192]⟩ .f32 := fun p => lin A A.gw A.gb (p 1)
/-- and the offset. -/
def res4 : FVec Ideal ⟨2, ![1, 192]⟩ .f32 := fun p => lin A A.bw A.bb (p 1)

theorem sum_pixels (f : Fin 64 → Fin 64 → EReal) :
    ∑ l : Fin 4096, f ⟨l.val / 64, by omega⟩ ⟨l.val % 64, by omega⟩ = ∑ i : Fin 64, ∑ j : Fin 64, f i j := by
  rw [← Fintype.sum_prod_type']
  exact Fintype.sum_equiv (finProdFinEquiv (m := 64) (n := 64)).symm _ (fun x : Fin 64 × Fin 64 => f x.1 x.2) fun l => rfl

end Cert.Pre

end
-- ==== Proof.PreKer.lean ====
/-
  The call before the scans: what its body stores, read at an index, is the results stated on the arguments. The padded
  image is a scratch array written twice (zeros, then the image inside), and two more hold it shifted by one and two
  columns; each is read back through the windows of the convolution.
-/
module

public import proofs.«01_k».proof.Proof.PreSpec
public import proofs.«01_k».proof.Proof.Gen.Kernel3Ideal.Value
public import Idealize.ShloMosaic.Lib.Pipeline.ValueKit
public import Idealize.ShloMosaic.Lib.StableHlo.ReadAt

@[expose] public section

set_option maxRecDepth 16384

noncomputable section

namespace Cert.PreKer

open Idealize.ShloMosaic Idealize.ShloMosaic.TcCoe Idealize.SL.Sem
open Cert.Kernel3Ideal Cert.Kernel3Ideal.Gen Cert.Pre

/-- The blocks the body reads, on the arguments. -/
structure Reads (x0 : FVec Ideal S4096x96 .f32) (x1 : FVec Ideal S4096x64 .f32) (x2 : FVec Ideal S96x192 .f32) (x3 : FVec Ideal S9x192 .f32) (x4 : FVec Ideal S1x192 .f32) (x5 : FVec Ideal S64x192 .f32) (x6 : FVec Ideal S1x192 .f32) (x7 : FVec Ideal S64x12288 .f32) (x8 : FVec Ideal S1x12288 .f32) (x9 : FVec Ideal S64x768 .f32) (x10 : FVec Ideal S1x768 .f32) (x11 : FVec Ideal S64x192 .f32) (x12 : FVec Ideal S1x192 .f32) (x13 : FVec Ideal S64x192 .f32) (x14 : FVec Ideal S1x192 .f32) (A : Args) : Prop where
  h0 : ∀ (l : Fin 4096) (k : Fin 96), x0 (ix2 l k) = A.x (ix4 (0 : Fin 1) ⟨l.val / 64, by omega⟩ ⟨l.val % 64, by omega⟩ k)
  h1 : ∀ (l : Fin 4096) (q : Fin 64), x1 (ix2 l q) = A.rep (ix4 (0 : Fin 1) q ⟨l.val / 64, by omega⟩ ⟨l.val % 64, by omega⟩)
  h2 : ∀ (k : Fin 96) (d : Fin 192), x2 (ix2 k d) = A.w (ix2 d k)
  h3 : ∀ (a b : Fin 3) (d : Fin 192), x3 (ix2 ⟨a.val * 3 + b.val, by omega⟩ d) = A.cw (ix4 d (0 : Fin 1) a b)
  h4 : ∀ (d : Fin 192), x4 (ix2 (0 : Fin 1) d) = A.cb (ix1 d)
  h5 : ∀ (q : Fin 64) (d : Fin 192), x5 (ix2 q d) = A.mw (ix2 d q)
  h6 : ∀ (d : Fin 192), x6 (ix2 (0 : Fin 1) d) = A.mb (ix1 d)
  h7 : ∀ (q : Fin 64) (d : Fin 12288), x7 (ix2 q d) = A.aw (ix2 d q)
  h8 : ∀ (d : Fin 12288), x8 (ix2 (0 : Fin 1) d) = A.ab (ix1 d)
  h9 : ∀ (q : Fin 64) (d : Fin 768), x9 (ix2 q d) = A.dw (ix2 d q)
  h10 : ∀ (d : Fin 768), x10 (ix2 (0 : Fin 1) d) = A.db (ix1 d)
  h11 : ∀ (q : Fin 64) (d : Fin 192), x11 (ix2 q d) = A.gw (ix2 d q)
  h12 : ∀ (d : Fin 192), x12 (ix2 (0 : Fin 1) d) = A.gb (ix1 d)
  h13 : ∀ (q : Fin 64) (d : Fin 192), x13 (ix2 q d) = A.bw (ix2 d q)
  h14 : ∀ (d : Fin 192), x14 (ix2 (0 : Fin 1) d) = A.bb (ix1 d)

theorem origin : (![0, 0] : Fin 2 → ℕ) = fun _ => 0 := by decide
theorem origin3 : (![0, 0, 0] : Fin 3 → ℕ) = fun _ => 0 := by decide

/-- A load from a buffer at known contents. -/
theorem load {S : Shape} (g : Memref sig .tc .vmem S .f32) (h : g.IsWhole) (X : FVec Ideal S .f32) (B : LoadRect S) :
    View.readAt (Elt Ideal) g.view B (h.unread X) = fun x => X (B.idx x) :=
  funext fun x => congrFun (Memref.IsWhole.read_unread (Val := Elt Ideal) h (X : S.Idx → Elt Ideal .f32)) (B.idx x)

theorem load_whole {S : Shape} (g : Memref sig .tc .vmem S .f32) (h : g.IsWhole) (X : FVec Ideal S .f32) {off : Fin S.rank → ℕ}
    (hz : off = fun _ => 0) (inb : ∀ a, off a + S.size a ≤ S.size a) :
    View.readAt (Elt Ideal) g.view (Rect.unit off S.size inb).toLoadRect (h.unread X) = X := by
  subst hz
  funext x
  rw [load]
  show X ((Rect.whole S).emb x) = X x
  rw [Rect.emb_whole_apply]

section
variable {A : Args} {x0 : FVec Ideal S4096x96 .f32} {x1 : FVec Ideal S4096x64 .f32} {x2 : FVec Ideal S96x192 .f32} {x3 : FVec Ideal S9x192 .f32} {x4 : FVec Ideal S1x192 .f32} {x5 : FVec Ideal S64x192 .f32} {x6 : FVec Ideal S1x192 .f32} {x7 : FVec Ideal S64x12288 .f32} {x8 : FVec Ideal S1x12288 .f32} {x9 : FVec Ideal S64x768 .f32} {x10 : FVec Ideal S1x768 .f32} {x11 : FVec Ideal S64x192 .f32} {x12 : FVec Ideal S1x192 .f32} {x13 : FVec Ideal S64x192 .f32} {x14 : FVec Ideal S1x192 .f32}
variable (R : Reads x0 x1 x2 x3 x4 x5 x6 x7 x8 x9 x10 x11 x12 x13 x14 A)
variable (c : Dev nD)
  (arg0 : Memref sig .tc .vmem S4096x96 .f32) (harg0 : arg0.IsWhole)
  (arg1 : Memref sig .tc .vmem S4096x64 .f32) (harg1 : arg1.IsWhole)
  (arg2 : Memref sig .tc .vmem S96x192 .f32) (harg2 : arg2.IsWhole)
  (arg3 : Memref sig .tc .vmem S9x192 .f32) (harg3 : arg3.IsWhole)
  (arg4 : Memref sig .tc .vmem S1x192 .f32) (harg4 : arg4.IsWhole)
  (arg5 : Memref sig .tc .vmem S64x192 .f32) (harg5 : arg5.IsWhole)
  (arg6 : Memref sig .tc .vmem S1x192 .f32) (harg6 : arg6.IsWhole)
  (arg7 : Memref sig .tc .vmem S64x12288 .f32) (harg7 : arg7.IsWhole)
  (arg8 : Memref sig .tc .vmem S1x12288 .f32) (harg8 : arg8.IsWhole)
  (arg9 : Memref sig .tc .vmem S64x768 .f32) (harg9 : arg9.IsWhole)
  (arg10 : Memref sig .tc .vmem S1x768 .f32) (harg10 : arg10.IsWhole)
  (arg11 : Memref sig .tc .vmem S64x192 .f32) (harg11 : arg11.IsWhole)
  (arg12 : Memref sig .tc .vmem S1x192 .f32) (harg12 : arg12.IsWhole)
  (arg13 : Memref sig .tc .vmem S64x192 .f32) (harg13 : arg13.IsWhole)
  (arg14 : Memref sig .tc .vmem S1x192 .f32) (harg14 : arg14.IsWhole)
  (arg15 : Memref sig .tc .vmem S4096x192 .f32) (harg15 : arg15.IsWhole)
  (arg16 : Memref sig .tc .vmem S1x12288 .f32) (harg16 : arg16.IsWhole)
  (arg17 : Memref sig .tc .vmem S1x768 .f32) (harg17 : arg17.IsWhole)
  (arg18 : Memref sig .tc .vmem S1x192 .f32) (harg18 : arg18.IsWhole)
  (arg19 : Memref sig .tc .vmem S1x192 .f32) (harg19 : arg19.IsWhole)
  (arg20 : Memref sig .tc .vmem S66x66x192 .f32) (harg20 : arg20.IsWhole)
  (arg21 : Memref sig .tc .vmem S66x64x192 .f32) (harg21 : arg21.IsWhole)
  (arg22 : Memref sig .tc .vmem S66x64x192 .f32) (harg22 : arg22.IsWhole)

include R in
theorem pooled_apply (q : Fin 64) : k0_pay2 (F := Ideal) x1 (ix2 (0 : Fin 1) q) = pooled A q := by
  unfold k0_pay2 pooled
  pointwise
  simp only [R.h1]
  rw [sum_pixels fun i j => A.rep (ix4 (0 : Fin 1) q i j)]

include R in
theorem gain_apply (d : Fin 192) : k0_pay3 (F := Ideal) x1 x5 x6 (ix2 (0 : Fin 1) d) = gain A d := by
  unfold k0_pay3 gain
  pointwise
  simp only [pooled_apply R, R.h5, R.h6]

include R in
theorem xi_apply (i j : Fin 64) (d : Fin 192) :
    k0_pay9 (F := Ideal) (k0_pay3 x1 x5 x6) x0 x2 (ix3 i j d) = xi A i j d := by
  unfold k0_pay9 xi
  pointwise
  simp only [gain_apply R, R.h0, R.h2]
  have e1 : (i.val * 64 + j.val) / 64 = i.val := by omega
  have e2 : (i.val * 64 + j.val) % 64 = j.val := by omega
  simp only [e1, e2]

include R in
/-- The padded image in its scratch array. -/
theorem cell_apply (i j : Fin 66) (d : Fin 192) :
    View.canon (kernelRun0_A.sl.HS0_2 (F := Ideal) c arg0 harg0 arg1 harg1 arg2 harg2 arg5 harg5 arg6 harg6 x0 x1 x2 x5 x6) (ix3 i j d) = cell A i j d := by
  unfold kernelRun0_A.sl.HS0_2 kernelRun0_A.sl.r_1
  simp only [load_whole (S := S4096x64) arg1 harg1 x1 origin, load_whole (S := S64x192) arg5 harg5 x5 origin, load_whole (S := S1x192) arg6 harg6 x6 origin,
    load_whole (S := S4096x96) arg0 harg0 x0 origin, load_whole (S := S96x192) arg2 harg2 x2 origin]
  unfold cell
  split_ifs with h
  · have e : (ix3 i j d : S66x66x192.Idx) = (Rect.unit (s := S66x66x192) ![1, 1, 0] S64x64x192.size inb_S66x66x192_S64x64x192_1_1_0).emb
        (ix3 (⟨i.val - 1, h.1.2⟩ : Fin 64) (⟨j.val - 1, h.2.2⟩ : Fin 64) d) := by
      funext a
      fin_cases a
      · exact Fin.ext (show i.val = 1 + 1 * (i.val - 1) by omega)
      · exact Fin.ext (show j.val = 1 + 1 * (j.val - 1) by omega)
      · exact Fin.ext (show d.val = 0 + 1 * d.val by omega)
    rw [e, View.canon_cons_emb]
    exact xi_apply R _ _ d
  · rw [View.canon_cons_of_not_mem]
    · rw [View.canon_unit_zero (S := S66x66x192) origin3]
      unfold k0_pay8
      pointwise
    · intro hz
      obtain ⟨a0, b0, q0⟩ := (LoadRect.mem_set _).mp hz 0
      obtain ⟨a1, b1, q1⟩ := (LoadRect.mem_set _).mp hz 1
      have q0 : i.val = 1 + 1 * a0 := q0
      have q1 : j.val = 1 + 1 * a1 := q1
      have b0 : a0 < 64 := b0
      have b1 : a1 < 64 := b1
      exact h (by omega)

/-- A window of a scratch array that holds `f`, read at an index: `f` at the place in the array. -/
theorem window {n0 n1 k0 k1 o0 o1 : ℕ} {P : List (View.Piece (Elt Ideal) ⟨3, ![n0, n1, 192]⟩ .f32)} {f : Fin n0 → Fin n1 → Fin 192 → EReal}
    (hP : ∀ i j d, View.canon P (ix3 i j d) = f i j d)
    (inb : ∀ a, (![o0, o1, 0] : Fin 3 → ℕ) a + (![k0, k1, 192] : Fin 3 → ℕ) a ≤ (![n0, n1, 192] : Fin 3 → ℕ) a)
    (i : Fin k0) (j : Fin k1) (d : Fin 192) (hi : o0 + i.val < n0) (hj : o1 + j.val < n1) :
    View.canon P ((Rect.unit (s := ⟨3, ![n0, n1, 192]⟩) ![o0, o1, 0] ![k0, k1, 192] inb).toLoadRect.idx (ix3 i j d)) = f ⟨o0 + i.val, hi⟩ ⟨o1 + j.val, hj⟩ d := by
  refine Eq.trans (congrArg (View.canon P) ?_) (hP ⟨o0 + i.val, hi⟩ ⟨o1 + j.val, hj⟩ d)
  funext a
  fin_cases a
  · exact Fin.ext (show o0 + 1 * i.val = o0 + i.val by omega)
  · exact Fin.ext (show o1 + 1 * j.val = o1 + j.val by omega)
  · exact Fin.ext (show 0 + 1 * d.val = d.val by omega)

include R in
/-- The scratch array that holds the padded image from column 1. -/
theorem shift1 (i : Fin 66) (j : Fin 64) (d : Fin 192) :
    View.canon (kernelRun0_A.sl.HS1_1 (F := Ideal) c arg0 harg0 arg1 harg1 arg2 harg2 arg5 harg5 arg6 harg6 arg20 x0 x1 x2 x5 x6) (ix3 i j d) = cell A i ⟨1 + j.val, by omega⟩ d := by
  unfold kernelRun0_A.sl.HS1_1
  rw [View.canon_unit_zero (S := S66x64x192) origin3]
  unfold k0_pay10 kernelRun0_A.sl.v60
  pointwise
  rw [View.readCov_eq_canon']
  refine (window (cell_apply R c arg0 harg0 arg1 harg1 arg2 harg2 arg5 harg5 arg6 harg6) _ i j d (by omega) (by omega)).trans ?_
  exact congrArg (fun q => cell A q _ d) (Fin.ext (Nat.zero_add _))

include R in
/-- The scratch array that holds the padded image from column 2. -/
theorem shift2 (i : Fin 66) (j : Fin 64) (d : Fin 192) :
    View.canon (kernelRun0_A.sl.HS2_1 (F := Ideal) c arg0 harg0 arg1 harg1 arg2 harg2 arg5 harg5 arg6 harg6 arg20 x0 x1 x2 x5 x6) (ix3 i j d) = cell A i ⟨2 + j.val, by omega⟩ d := by
  unfold kernelRun0_A.sl.HS2_1
  rw [View.canon_unit_zero (S := S66x64x192) origin3]
  unfold k0_pay11 kernelRun0_A.sl.v64
  pointwise
  rw [View.readCov_eq_canon']
  refine (window (cell_apply R c arg0 harg0 arg1 harg1 arg2 harg2 arg5 harg5 arg6 harg6) _ i j d (by omega) (by omega)).trans ?_
  exact congrArg (fun q => cell A q _ d) (Fin.ext (Nat.zero_add _))

/-! The nine reads of the convolution: at row offset `a` and column offset `b`, from the image itself or from a shifted copy. -/

include R in
theorem win00 (i j : Fin 64) (d : Fin 192) :
    kernelRun0_A.sl.v72 (F := Ideal) c arg0 harg0 arg1 harg1 arg2 harg2 arg5 harg5 arg6 harg6 arg20 x0 x1 x2 x5 x6 (ix3 i j d) = cell A ⟨0 + i.val, by omega⟩ ⟨0 + j.val, by omega⟩ d := by
  unfold kernelRun0_A.sl.v72
  rw [View.readCov_eq_canon']
  exact window (cell_apply R c arg0 harg0 arg1 harg1 arg2 harg2 arg5 harg5 arg6 harg6) _ i j d (by omega) (by omega)

include R in
theorem win01 (i j : Fin 64) (d : Fin 192) :
    kernelRun0_A.sl.v79 (F := Ideal) c arg0 harg0 arg1 harg1 arg2 harg2 arg5 harg5 arg6 harg6 arg20 arg21 x0 x1 x2 x5 x6 (ix3 i j d) = cell A ⟨0 + i.val, by omega⟩ ⟨1 + j.val, by omega⟩ d := by
  unfold kernelRun0_A.sl.v79
  rw [View.readCov_eq_canon']
  refine (window (shift1 R c arg0 harg0 arg1 harg1 arg2 harg2 arg5 harg5 arg6 harg6 arg20) _ i j d (by omega) (by omega)).trans ?_
  exact congrArg (fun q => cell A _ q d) (Fin.ext (congrArg (1 + ·) (Nat.zero_add _)))

include R in
theorem win02 (i j : Fin 64) (d : Fin 192) :
    kernelRun0_A.sl.v86 (F := Ideal) c arg0 harg0 arg1 harg1 arg2 harg2 arg5 harg5 arg6 harg6 arg20 arg22 x0 x1 x2 x5 x6 (ix3 i j d) = cell A ⟨0 + i.val, by omega⟩ ⟨2 + j.val, by omega⟩ d := by
  unfold kernelRun0_A.sl.v86
  rw [View.readCov_eq_canon']
  refine (window (shift2 R c arg0 harg0 arg1 harg1 arg2 harg2 arg5 harg5 arg6 harg6 arg20) _ i j d (by omega) (by omega)).trans ?_
  exact congrArg (fun q => cell A _ q d) (Fin.ext (congrArg (2 + ·) (Nat.zero_add _)))

include R in
theorem win10 (i j : Fin 64) (d : Fin 192) :
    kernelRun0_A.sl.v93 (F := Ideal) c arg0 harg0 arg1 harg1 arg2 harg2 arg5 harg5 arg6 harg6 arg20 x0 x1 x2 x5 x6 (ix3 i j d) = cell A ⟨1 + i.val, by omega⟩ ⟨0 + j.val, by omega⟩ d := by
  unfold kernelRun0_A.sl.v93
  rw [View.readCov_eq_canon']
  exact window (cell_apply R c arg0 harg0 arg1 harg1 arg2 harg2 arg5 harg5 arg6 harg6) _ i j d (by omega) (by omega)

include R in
theorem win11 (i j : Fin 64) (d : Fin 192) :
    kernelRun0_A.sl.v100 (F := Ideal) c arg0 harg0 arg1 harg1 arg2 harg2 arg5 harg5 arg6 harg6 arg20 arg21 x0 x1 x2 x5 x6 (ix3 i j d) = cell A ⟨1 + i.val, by omega⟩ ⟨1 + j.val, by omega⟩ d := by
  unfold kernelRun0_A.sl.v100
  rw [View.readCov_eq_canon']
  refine (window (shift1 R c arg0 harg0 arg1 harg1 arg2 harg2 arg5 harg5 arg6 harg6 arg20) _ i j d (by omega) (by omega)).trans ?_
  exact congrArg (fun q => cell A _ q d) (Fin.ext (congrArg (1 + ·) (Nat.zero_add _)))

include R in
theorem win12 (i j : Fin 64) (d : Fin 192) :
    kernelRun0_A.sl.v107 (F := Ideal) c arg0 harg0 arg1 harg1 arg2 harg2 arg5 harg5 arg6 harg6 arg20 arg22 x0 x1 x2 x5 x6 (ix3 i j d) = cell A ⟨1 + i.val, by omega⟩ ⟨2 + j.val, by omega⟩ d := by
  unfold kernelRun0_A.sl.v107
  rw [View.readCov_eq_canon']
  refine (window (shift2 R c arg0 harg0 arg1 harg1 arg2 harg2 arg5 harg5 arg6 harg6 arg20) _ i j d (by omega) (by omega)).trans ?_
  exact congrArg (fun q => cell A _ q d) (Fin.ext (congrArg (2 + ·) (Nat.zero_add _)))

include R in
theorem win20 (i j : Fin 64) (d : Fin 192) :
    kernelRun0_A.sl.v114 (F := Ideal) c arg0 harg0 arg1 harg1 arg2 harg2 arg5 harg5 arg6 harg6 arg20 x0 x1 x2 x5 x6 (ix3 i j d) = cell A ⟨2 + i.val, by omega⟩ ⟨0 + j.val, by omega⟩ d := by
  unfold kernelRun0_A.sl.v114
  rw [View.readCov_eq_canon']
  exact window (cell_apply R c arg0 harg0 arg1 harg1 arg2 harg2 arg5 harg5 arg6 harg6) _ i j d (by omega) (by omega)

include R in
theorem win21 (i j : Fin 64) (d : Fin 192) :
    kernelRun0_A.sl.v121 (F := Ideal) c arg0 harg0 arg1 harg1 arg2 harg2 arg5 harg5 arg6 harg6 arg20 arg21 x0 x1 x2 x5 x6 (ix3 i j d) = cell A ⟨2 + i.val, by omega⟩ ⟨1 + j.val, by omega⟩ d := by
  unfold kernelRun0_A.sl.v121
  rw [View.readCov_eq_canon']
  refine (window (shift1 R c arg0 harg0 arg1 harg1 arg2 harg2 arg5 harg5 arg6 harg6 arg20) _ i j d (by omega) (by omega)).trans ?_
  exact congrArg (fun q => cell A _ q d) (Fin.ext (congrArg (1 + ·) (Nat.zero_add _)))

include R in
theorem win22 (i j : Fin 64) (d : Fin 192) :
    kernelRun0_A.sl.v128 (F := Ideal) c arg0 harg0 arg1 harg1 arg2 harg2 arg5 harg5 arg6 harg6 arg20 arg22 x0 x1 x2 x5 x6 (ix3 i j d) = cell A ⟨2 + i.val, by omega⟩ ⟨2 + j.val, by omega⟩ d := by
  unfold kernelRun0_A.sl.v128
  rw [View.readCov_eq_canon']
  refine (window (shift2 R c arg0 harg0 arg1 harg1 arg2 harg2 arg5 harg5 arg6 harg6 arg20) _ i j d (by omega) (by omega)).trans ?_
  exact congrArg (fun q => cell A _ q d) (Fin.ext (congrArg (2 + ·) (Nat.zero_add _)))

include R in
/-- Row `n` of the weights is the tap at row `n / 3` and column `n % 3`. -/
theorem weight {n : ℕ} (inb : ∀ e, (![n, 0] : Fin 2 → ℕ) e + S1x192.size e ≤ S9x192.size e) (d : Fin 192) :
    View.readAt (Elt Ideal) arg3.view (Rect.unit (s := S9x192) ![n, 0] S1x192.size inb).toLoadRect (harg3.unread x3) (ix2 (0 : Fin 1) d)
      = A.cw (ix4 d (0 : Fin 1) ⟨n / 3, by have h : n + 1 ≤ 9 := inb 0; omega⟩ ⟨n % 3, by omega⟩) := by
  have hn : n + 1 ≤ 9 := inb 0
  rw [load]
  refine Eq.trans (congrArg x3 ?_) (R.h3 ⟨n / 3, by omega⟩ ⟨n % 3, by omega⟩ d)
  funext e
  fin_cases e
  · exact Fin.ext (show n + 1 * 0 = n / 3 * 3 + n % 3 by omega)
  · exact Fin.ext (show 0 + 1 * d.val = d.val by omega)

include R in
theorem conv_apply (l : Fin 4096) (d : Fin 192) :
    k0_pay1 (F := Ideal) (kernelRun0_A.sl.r_4 c arg0 harg0 arg1 harg1 arg2 harg2 arg3 harg3 arg5 harg5 arg6 harg6 arg20 arg21 arg22 x0 x1 x2 x3 x5 x6) (kernelRun0_A.sl.r_5 c arg3 harg3 x3)
        (kernelRun0_A.sl.v128 c arg0 harg0 arg1 harg1 arg2 harg2 arg5 harg5 arg6 harg6 arg20 arg22 x0 x1 x2 x5 x6) x4 (ix2 l d) = res0 A (ix2 l d) := by
  unfold k0_pay1 kernelRun0_A.sl.r_4 kernelRun0_A.sl.r_5 kernelRun0_A.sl.r_2 kernelRun0_A.sl.r_3 k0_pay13 k0_pay12
  pointwise
  simp only [win00 R, win01 R, win02 R, win10 R, win11 R, win12 R, win20 R, win21 R, win22 R,
    weight R, Nat.reduceDiv, Nat.reduceMod, Fin.zero_eta, Fin.mk_one, Fin.reduceFinMk, R.h4]
  unfold res0 conv tap
  simp only [mul_comm (A.cw _) _]
  rfl

include R in
theorem out15 :
    out0_A_15 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = res0 A := by
  funext p
  idx_vars p
  unfold out0_A_15 kernelRun0_A
  dsimp only
  rw [View.read_writes_junk_apply_eq_canon, View.canon_unit_zero (S := S4096x192) origin, load_whole (S := S1x192) arg4 harg4 x4 origin]
  exact conv_apply R c arg0 harg0 arg1 harg1 arg2 harg2 arg3 harg3 arg5 harg5 arg6 harg6 arg20 arg21 arg22 p0 p1

include R in
theorem out16 :
    out0_A_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = res1 A := by
  funext p
  idx_vars p
  obtain rfl : p0 = 0 := Subsingleton.elim _ _
  unfold out0_A_16 kernelRun0_A
  dsimp only
  rw [View.read_writes_junk_apply_eq_canon, View.canon_unit_zero (S := S1x12288) origin]
  unfold k0_pay4 res1 lin
  rw [load_whole (S := S4096x64) arg1 harg1 x1 origin, load_whole (S := S64x12288) arg7 harg7 x7 origin, load_whole (S := S1x12288) arg8 harg8 x8 origin]
  pointwise
  simp only [pooled_apply R, R.h7, R.h8, zero_sub]

include R in
theorem out17 :
    out0_A_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = res2 A := by
  funext p
  idx_vars p
  obtain rfl : p0 = 0 := Subsingleton.elim _ _
  unfold out0_A_17 kernelRun0_A
  dsimp only
  rw [View.read_writes_junk_apply_eq_canon, View.canon_unit_zero (S := S1x768) origin]
  unfold k0_pay5 res2 lin
  rw [load_whole (S := S4096x64) arg1 harg1 x1 origin, load_whole (S := S64x768) arg9 harg9 x9 origin, load_whole (S := S1x768) arg10 harg10 x10 origin]
  pointwise
  simp only [pooled_apply R, R.h9, R.h10]

include R in
theorem out18 :
    out0_A_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = res3 A := by
  funext p
  idx_vars p
  obtain rfl : p0 = 0 := Subsingleton.elim _ _
  unfold out0_A_18 kernelRun0_A
  dsimp only
  rw [View.read_writes_junk_apply_eq_canon, View.canon_unit_zero (S := S1x192) origin]
  unfold k0_pay6 kernelRun0_A.sl.r res3 lin
  rw [load_whole (S := S4096x64) arg1 harg1 x1 origin, load_whole (S := S64x192) arg11 harg11 x11 origin, load_whole (S := S1x192) arg12 harg12 x12 origin]
  pointwise
  simp only [pooled_apply R, R.h11, R.h12]

include R in
theorem out19 :
    out0_A_19 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = res4 A := by
  funext p
  idx_vars p
  obtain rfl : p0 = 0 := Subsingleton.elim _ _
  unfold out0_A_19 kernelRun0_A
  dsimp only
  rw [View.read_writes_junk_apply_eq_canon, View.canon_unit_zero (S := S1x192) origin]
  unfold k0_pay7 kernelRun0_A.sl.r res4 lin
  rw [load_whole (S := S4096x64) arg1 harg1 x1 origin, load_whole (S := S64x192) arg13 harg13 x13 origin, load_whole (S := S1x192) arg14 harg14 x14 origin]
  pointwise
  simp only [pooled_apply R, R.h13, R.h14]
end

section
variable (m : (ℓ : Loc nD τ sig) → Buf (Elt Ideal) ℓ) (c : Dev nD)

theorem at0 : ∀ t : Fin cfg0.N, win0_0.index t = ![0, 0] := (by decide +kernel : ∀ t : Fin grid0.N, win0_0.index t = ![0, 0])
theorem at1 : ∀ t : Fin cfg0.N, win0_1.index t = ![0, 0] := (by decide +kernel : ∀ t : Fin grid0.N, win0_1.index t = ![0, 0])
theorem at2 : ∀ t : Fin cfg0.N, win0_2.index t = ![0, 0] := (by decide +kernel : ∀ t : Fin grid0.N, win0_2.index t = ![0, 0])
theorem at3 : ∀ t : Fin cfg0.N, win0_3.index t = ![0, 0] := (by decide +kernel : ∀ t : Fin grid0.N, win0_3.index t = ![0, 0])
theorem at4 : ∀ t : Fin cfg0.N, win0_4.index t = ![0, 0] := (by decide +kernel : ∀ t : Fin grid0.N, win0_4.index t = ![0, 0])
theorem at5 : ∀ t : Fin cfg0.N, win0_5.index t = ![0, 0] := (by decide +kernel : ∀ t : Fin grid0.N, win0_5.index t = ![0, 0])
theorem at6 : ∀ t : Fin cfg0.N, win0_6.index t = ![0, 0] := (by decide +kernel : ∀ t : Fin grid0.N, win0_6.index t = ![0, 0])
theorem at7 : ∀ t : Fin cfg0.N, win0_7.index t = ![0, 0] := (by decide +kernel : ∀ t : Fin grid0.N, win0_7.index t = ![0, 0])
theorem at8 : ∀ t : Fin cfg0.N, win0_8.index t = ![0, 0] := (by decide +kernel : ∀ t : Fin grid0.N, win0_8.index t = ![0, 0])
theorem at9 : ∀ t : Fin cfg0.N, win0_9.index t = ![0, 0] := (by decide +kernel : ∀ t : Fin grid0.N, win0_9.index t = ![0, 0])
theorem at10 : ∀ t : Fin cfg0.N, win0_10.index t = ![0, 0] := (by decide +kernel : ∀ t : Fin grid0.N, win0_10.index t = ![0, 0])
theorem at11 : ∀ t : Fin cfg0.N, win0_11.index t = ![0, 0] := (by decide +kernel : ∀ t : Fin grid0.N, win0_11.index t = ![0, 0])
theorem at12 : ∀ t : Fin cfg0.N, win0_12.index t = ![0, 0] := (by decide +kernel : ∀ t : Fin grid0.N, win0_12.index t = ![0, 0])
theorem at13 : ∀ t : Fin cfg0.N, win0_13.index t = ![0, 0] := (by decide +kernel : ∀ t : Fin grid0.N, win0_13.index t = ![0, 0])
theorem at14 : ∀ t : Fin cfg0.N, win0_14.index t = ![0, 0] := (by decide +kernel : ∀ t : Fin grid0.N, win0_14.index t = ![0, 0])
theorem at15 : ∀ t : Fin cfg0.N, win0_15.index t = ![0, 0] := (by decide +kernel : ∀ t : Fin grid0.N, win0_15.index t = ![0, 0])
theorem at16 : ∀ t : Fin cfg0.N, win0_16.index t = ![0, 0] := (by decide +kernel : ∀ t : Fin grid0.N, win0_16.index t = ![0, 0])
theorem at17 : ∀ t : Fin cfg0.N, win0_17.index t = ![0, 0] := (by decide +kernel : ∀ t : Fin grid0.N, win0_17.index t = ![0, 0])
theorem at18 : ∀ t : Fin cfg0.N, win0_18.index t = ![0, 0] := (by decide +kernel : ∀ t : Fin grid0.N, win0_18.index t = ![0, 0])
theorem at19 : ∀ t : Fin cfg0.N, win0_19.index t = ![0, 0] := (by decide +kernel : ∀ t : Fin grid0.N, win0_19.index t = ![0, 0])

/-- The arguments, as the call finds them. -/
def args : Args where
  x := m ((c.tc : Thread nD τ).loc main_arg0)
  rep := m ((c.tc : Thread nD τ).loc main_arg1)
  w := m ((c.tc : Thread nD τ).loc main_arg2)
  cw := m ((c.tc : Thread nD τ).loc main_arg3)
  cb := m ((c.tc : Thread nD τ).loc main_arg4)
  mw := m ((c.tc : Thread nD τ).loc main_arg5)
  mb := m ((c.tc : Thread nD τ).loc main_arg6)
  aw := m ((c.tc : Thread nD τ).loc main_arg7)
  ab := m ((c.tc : Thread nD τ).loc main_arg8)
  dw := m ((c.tc : Thread nD τ).loc main_arg9)
  db := m ((c.tc : Thread nD τ).loc main_arg10)
  gw := m ((c.tc : Thread nD τ).loc main_arg11)
  gb := m ((c.tc : Thread nD τ).loc main_arg12)
  bw := m ((c.tc : Thread nD τ).loc main_arg13)
  bb := m ((c.tc : Thread nD τ).loc main_arg14)

theorem blk0 (t : Fin cfg0.N) : (iblk m c 0 t : FVec Ideal S4096x96 .f32) = V m c main_v0 := by
  funext y
  blk_ext [iblk, at0]
theorem blk1 (t : Fin cfg0.N) : (iblk m c 1 t : FVec Ideal S4096x64 .f32) = V m c main_v2 := by
  funext y
  blk_ext [iblk, at1]
theorem blk2 (t : Fin cfg0.N) : (iblk m c 2 t : FVec Ideal S96x192 .f32) = V m c main_v3 := by
  funext y
  blk_ext [iblk, at2]
theorem blk3 (t : Fin cfg0.N) : (iblk m c 3 t : FVec Ideal S9x192 .f32) = V m c main_v5 := by
  funext y
  blk_ext [iblk, at3]
theorem blk4 (t : Fin cfg0.N) : (iblk m c 4 t : FVec Ideal S1x192 .f32) = V m c main_v6 := by
  funext y
  blk_ext [iblk, at4]
theorem blk5 (t : Fin cfg0.N) : (iblk m c 5 t : FVec Ideal S64x192 .f32) = V m c main_v7 := by
  funext y
  blk_ext [iblk, at5]
theorem blk6 (t : Fin cfg0.N) : (iblk m c 6 t : FVec Ideal S1x192 .f32) = V m c main_v8 := by
  funext y
  blk_ext [iblk, at6]
theorem blk7 (t : Fin cfg0.N) : (iblk m c 7 t : FVec Ideal S64x12288 .f32) = V m c main_v9 := by
  funext y
  blk_ext [iblk, at7]
theorem blk8 (t : Fin cfg0.N) : (iblk m c 8 t : FVec Ideal S1x12288 .f32) = V m c main_v10 := by
  funext y
  blk_ext [iblk, at8]
theorem blk9 (t : Fin cfg0.N) : (iblk m c 9 t : FVec Ideal S64x768 .f32) = V m c main_v11 := by
  funext y
  blk_ext [iblk, at9]
theorem blk10 (t : Fin cfg0.N) : (iblk m c 10 t : FVec Ideal S1x768 .f32) = V m c main_v12 := by
  funext y
  blk_ext [iblk, at10]
theorem blk11 (t : Fin cfg0.N) : (iblk m c 11 t : FVec Ideal S64x192 .f32) = V m c main_v13 := by
  funext y
  blk_ext [iblk, at11]
theorem blk12 (t : Fin cfg0.N) : (iblk m c 12 t : FVec Ideal S1x192 .f32) = V m c main_v14 := by
  funext y
  blk_ext [iblk, at12]
theorem blk13 (t : Fin cfg0.N) : (iblk m c 13 t : FVec Ideal S64x192 .f32) = V m c main_v15 := by
  funext y
  blk_ext [iblk, at13]
theorem blk14 (t : Fin cfg0.N) : (iblk m c 14 t : FVec Ideal S1x192 .f32) = V m c main_v16 := by
  funext y
  blk_ext [iblk, at14]

theorem reads (t : Fin cfg0.N) : Reads (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (args m c) where
    h0 := by
      rw [blk0]
      intro l k
      after_reads_at
      pointwise
      rfl
    h1 := by
      rw [blk1]
      intro l q
      after_reads_at
      pointwise
      rfl
    h2 := by
      rw [blk2]
      intro k d
      after_reads_at
      pointwise
      rfl
    h3 := by
      rw [blk3]
      intro a b d
      after_reads_at
      pointwise
      have e1 : (a.val * 3 + b.val) / 3 = a.val := by omega
      have e2 : (a.val * 3 + b.val) % 3 = b.val := by omega
      simp only [e1, e2]
      rfl
    h4 := by
      rw [blk4]
      intro d
      after_reads_at
      pointwise
      rfl
    h5 := by
      rw [blk5]
      intro q d
      after_reads_at
      pointwise
      rfl
    h6 := by
      rw [blk6]
      intro d
      after_reads_at
      pointwise
      rfl
    h7 := by
      rw [blk7]
      intro q d
      after_reads_at
      pointwise
      rfl
    h8 := by
      rw [blk8]
      intro d
      after_reads_at
      pointwise
      rfl
    h9 := by
      rw [blk9]
      intro q d
      after_reads_at
      pointwise
      rfl
    h10 := by
      rw [blk10]
      intro d
      after_reads_at
      pointwise
      rfl
    h11 := by
      rw [blk11]
      intro q d
      after_reads_at
      pointwise
      rfl
    h12 := by
      rw [blk12]
      intro d
      after_reads_at
      pointwise
      rfl
    h13 := by
      rw [blk13]
      intro q d
      after_reads_at
      pointwise
      rfl
    h14 := by
      rw [blk14]
      intro d
      after_reads_at
      pointwise
      rfl

theorem left15 (t : Fin cfg0.N) : (outsAt0 m c t).1 = res0 (args m c) := by
  simp only [outsAt0]
  exact out15 (reads m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _)

theorem final15 : (dats m 0 c).arrAt 15 cfg0.N = res0 (args m c) := by
  refine (dats m 0 c).arrAt_eq_of_covers 15 _ (by decide +kernel) fun t hf y => ?_
  blk_simp
  rw [after0_15, left15]
  idx_vars y
  have hp : ((cfg0.win 15).blk t).view.emb (ix2 y0 y1) = (ix2 y0 y1 : S4096x192.Idx) := by
    blk_ext [at15]
  exact (congrArg (res0 (args m c)) hp).symm

theorem left16 (t : Fin cfg0.N) : (outsAt0 m c t).2.1 = res1 (args m c) := by
  simp only [outsAt0]
  exact out16 (reads m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _)

theorem final16 : (dats m 0 c).arrAt 16 cfg0.N = res1 (args m c) := by
  refine (dats m 0 c).arrAt_eq_of_covers 16 _ (by decide +kernel) fun t hf y => ?_
  blk_simp
  rw [after0_16, left16]
  idx_vars y
  have hp : ((cfg0.win 16).blk t).view.emb (ix2 y0 y1) = (ix2 y0 y1 : S1x12288.Idx) := by
    blk_ext [at16]
  exact (congrArg (res1 (args m c)) hp).symm

theorem left17 (t : Fin cfg0.N) : (outsAt0 m c t).2.2.1 = res2 (args m c) := by
  simp only [outsAt0]
  exact out17 (reads m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _)

theorem final17 : (dats m 0 c).arrAt 17 cfg0.N = res2 (args m c) := by
  refine (dats m 0 c).arrAt_eq_of_covers 17 _ (by decide +kernel) fun t hf y => ?_
  blk_simp
  rw [after0_17, left17]
  idx_vars y
  have hp : ((cfg0.win 17).blk t).view.emb (ix2 y0 y1) = (ix2 y0 y1 : S1x768.Idx) := by
    blk_ext [at17]
  exact (congrArg (res2 (args m c)) hp).symm

theorem left18 (t : Fin cfg0.N) : (outsAt0 m c t).2.2.2.1 = res3 (args m c) := by
  simp only [outsAt0]
  exact out18 (reads m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _)

theorem final18 : (dats m 0 c).arrAt 18 cfg0.N = res3 (args m c) := by
  refine (dats m 0 c).arrAt_eq_of_covers 18 _ (by decide +kernel) fun t hf y => ?_
  blk_simp
  rw [after0_18, left18]
  idx_vars y
  have hp : ((cfg0.win 18).blk t).view.emb (ix2 y0 y1) = (ix2 y0 y1 : S1x192.Idx) := by
    blk_ext [at18]
  exact (congrArg (res3 (args m c)) hp).symm

theorem left19 (t : Fin cfg0.N) : (outsAt0 m c t).2.2.2.2 = res4 (args m c) := by
  simp only [outsAt0]
  exact out19 (reads m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _)

theorem final19 : (dats m 0 c).arrAt 19 cfg0.N = res4 (args m c) := by
  refine (dats m 0 c).arrAt_eq_of_covers 19 _ (by decide +kernel) fun t hf y => ?_
  blk_simp
  rw [after0_19, left19]
  idx_vars y
  have hp : ((cfg0.win 19).blk t).view.emb (ix2 y0 y1) = (ix2 y0 y1 : S1x192.Idx) := by
    blk_ext [at19]
  exact (congrArg (res4 (args m c)) hp).symm

end

end Cert.PreKer

end
-- ==== Proof.PreRef.lean ====
/-
  The reference of the call before the scans: its composed terms, read at an index, are the results stated on the
  arguments.
-/
module

public import proofs.«01_k».proof.Proof.PreSpec
public import proofs.«01_k».proof.Proof.Gen.Reference3Ideal.Run
public import Idealize.ShloMosaic.Lib.Pipeline.ValueKit
public import Idealize.ShloMosaic.Lib.Quiescent

@[expose] public section

set_option maxRecDepth 16384

noncomputable section

namespace Cert.PreRef

open Idealize.ShloMosaic Idealize.ShloMosaic.TcCoe Idealize.SL.Sem
open Cert.Reference3Ideal Cert.Reference3Ideal.Gen Cert.Pre

/-- The pooled representation, -/
def rPool (rep : FVec Ideal S1x64x64x64 .f32) : FVec Ideal S1x64 .f32 :=
  Host.divf (Host.reduceAdd rep (constant S_ .f32 0x00000000#32) reducesTo_S1x64x64x64_S1x64_d2_3 h_S_) (broadcastInDim S1x64 ![] bcast_S_S1x64 (constant S_ .f32 0x45800000#32))
/-- the gain, -/
def rGain (p : FVec Ideal S1x64 .f32) (mw : FVec Ideal S192x64 .f32) (mb : FVec Ideal S192 .f32) : FVec Ideal S1x192 .f32 :=
  addf (addf (broadcastInDim S1x192 ![] bcast_S_S1x192 (constant S_ .f32 0x3F800000#32)) (Host.dotGeneral (φ₁ := .f32) (φ₂ := .f32) dot_S1x64_S64x192_S1x192_1_0_0_1_n_n none p (transpose S64x192 [1, 0] mw transposes_S192x64_S64x192_1_0))) (broadcastInDim S1x192 ![1] bcast_S192_S1x192_1 mb)
/-- the projected image, -/
def rXi (x : FVec Ideal S1x64x64x96 .f32) (w : FVec Ideal S192x96 .f32) (g : FVec Ideal S1x192 .f32) : FVec Ideal S1x64x64x192 .f32 :=
  mulf (Host.dotGeneral (φ₁ := .f32) (φ₂ := .f32) dot_S1x64x64x96_S192x96_S1x64x64x192_3_1_012_0_n_n none x w) (broadcastInDim S1x64x64x192 ![0, 1, 2, 3] bcast_S1x1x1x192_S1x64x64x192_0_1_2_3 (broadcastInDim S1x1x1x192 ![0, 3] bcast_S1x192_S1x1x1x192_0_3 g))
/-- padded, -/
def rPad (X : FVec Ideal S1x64x64x192 .f32) : FVec Ideal S1x66x66x192 .f32 :=
  pad S1x66x66x192 ![0, 1, 1, 0] ![0, 1, 1, 0] ![0, 0, 0, 0] X (sitofp .f32 (constantI S_ 32 0#32)) pads_S1x64x64x192_S1x66x66x192_000_110_110_000 h_S_
/-- convolved, -/
def rConv (P : FVec Ideal S1x66x66x192 .f32) (cw : FVec Ideal S192x1x3x3 .f32) (cb : FVec Ideal S192 .f32) : FVec Ideal S1x64x64x192 .f32 :=
  addf (addf (addf (addf (addf (addf (addf (addf (addf (addf (broadcastInDim S1x64x64x192 ![] bcast_S_S1x64x64x192 (constant S_ .f32 0x00000000#32))
    (mulf (extractStridedSlice S1x64x64x192 ![0, 0, 0, 0] P slices_S1x66x66x192_S1x64x64x192_0_0_0_0) (broadcastInDim S1x64x64x192 ![0, 1, 2, 3] bcast_S1x1x1x192_S1x64x64x192_0_1_2_3 (broadcastInDim S1x1x1x192 ![3] bcast_S192_S1x1x1x192_3 (shapeCast _ (extractStridedSlice S192x1x1x1 ![0, 0, 0, 0] cw slices_S192x1x3x3_S192x1x1x1_0_0_0_0) shapeCasts_S192x1x1x1_S192)))))
    (mulf (extractStridedSlice S1x64x64x192 ![0, 0, 1, 0] P slices_S1x66x66x192_S1x64x64x192_0_0_1_0) (broadcastInDim S1x64x64x192 ![0, 1, 2, 3] bcast_S1x1x1x192_S1x64x64x192_0_1_2_3 (broadcastInDim S1x1x1x192 ![3] bcast_S192_S1x1x1x192_3 (shapeCast _ (extractStridedSlice S192x1x1x1 ![0, 0, 0, 1] cw slices_S192x1x3x3_S192x1x1x1_0_0_0_1) shapeCasts_S192x1x1x1_S192)))))
    (mulf (extractStridedSlice S1x64x64x192 ![0, 0, 2, 0] P slices_S1x66x66x192_S1x64x64x192_0_0_2_0) (broadcastInDim S1x64x64x192 ![0, 1, 2, 3] bcast_S1x1x1x192_S1x64x64x192_0_1_2_3 (broadcastInDim S1x1x1x192 ![3] bcast_S192_S1x1x1x192_3 (shapeCast _ (extractStridedSlice S192x1x1x1 ![0, 0, 0, 2] cw slices_S192x1x3x3_S192x1x1x1_0_0_0_2) shapeCasts_S192x1x1x1_S192)))))
    (mulf (extractStridedSlice S1x64x64x192 ![0, 1, 0, 0] P slices_S1x66x66x192_S1x64x64x192_0_1_0_0) (broadcastInDim S1x64x64x192 ![0, 1, 2, 3] bcast_S1x1x1x192_S1x64x64x192_0_1_2_3 (broadcastInDim S1x1x1x192 ![3] bcast_S192_S1x1x1x192_3 (shapeCast _ (extractStridedSlice S192x1x1x1 ![0, 0, 1, 0] cw slices_S192x1x3x3_S192x1x1x1_0_0_1_0) shapeCasts_S192x1x1x1_S192)))))
    (mulf (extractStridedSlice S1x64x64x192 ![0, 1, 1, 0] P slices_S1x66x66x192_S1x64x64x192_0_1_1_0) (broadcastInDim S1x64x64x192 ![0, 1, 2, 3] bcast_S1x1x1x192_S1x64x64x192_0_1_2_3 (broadcastInDim S1x1x1x192 ![3] bcast_S192_S1x1x1x192_3 (shapeCast _ (extractStridedSlice S192x1x1x1 ![0, 0, 1, 1] cw slices_S192x1x3x3_S192x1x1x1_0_0_1_1) shapeCasts_S192x1x1x1_S192)))))
    (mulf (extractStridedSlice S1x64x64x192 ![0, 1, 2, 0] P slices_S1x66x66x192_S1x64x64x192_0_1_2_0) (broadcastInDim S1x64x64x192 ![0, 1, 2, 3] bcast_S1x1x1x192_S1x64x64x192_0_1_2_3 (broadcastInDim S1x1x1x192 ![3] bcast_S192_S1x1x1x192_3 (shapeCast _ (extractStridedSlice S192x1x1x1 ![0, 0, 1, 2] cw slices_S192x1x3x3_S192x1x1x1_0_0_1_2) shapeCasts_S192x1x1x1_S192)))))
    (mulf (extractStridedSlice S1x64x64x192 ![0, 2, 0, 0] P slices_S1x66x66x192_S1x64x64x192_0_2_0_0) (broadcastInDim S1x64x64x192 ![0, 1, 2, 3] bcast_S1x1x1x192_S1x64x64x192_0_1_2_3 (broadcastInDim S1x1x1x192 ![3] bcast_S192_S1x1x1x192_3 (shapeCast _ (extractStridedSlice S192x1x1x1 ![0, 0, 2, 0] cw slices_S192x1x3x3_S192x1x1x1_0_0_2_0) shapeCasts_S192x1x1x1_S192)))))
    (mulf (extractStridedSlice S1x64x64x192 ![0, 2, 1, 0] P slices_S1x66x66x192_S1x64x64x192_0_2_1_0) (broadcastInDim S1x64x64x192 ![0, 1, 2, 3] bcast_S1x1x1x192_S1x64x64x192_0_1_2_3 (broadcastInDim S1x1x1x192 ![3] bcast_S192_S1x1x1x192_3 (shapeCast _ (extractStridedSlice S192x1x1x1 ![0, 0, 2, 1] cw slices_S192x1x3x3_S192x1x1x1_0_0_2_1) shapeCasts_S192x1x1x1_S192)))))
    (mulf (extractStridedSlice S1x64x64x192 ![0, 2, 2, 0] P slices_S1x66x66x192_S1x64x64x192_0_2_2_0) (broadcastInDim S1x64x64x192 ![0, 1, 2, 3] bcast_S1x1x1x192_S1x64x64x192_0_1_2_3 (broadcastInDim S1x1x1x192 ![3] bcast_S192_S1x1x1x192_3 (shapeCast _ (extractStridedSlice S192x1x1x1 ![0, 0, 2, 2] cw slices_S192x1x3x3_S192x1x1x1_0_0_2_2) shapeCasts_S192x1x1x1_S192)))))
    (broadcastInDim S1x64x64x192 ![0, 1, 2, 3] bcast_S1x1x1x192_S1x64x64x192_0_1_2_3 (broadcastInDim S1x1x1x192 ![3] bcast_S192_S1x1x1x192_3 cb))
/-- and activated. -/
def rAct (Y : FVec Ideal S1x64x64x192 .f32) : FVec Ideal S4096x192 .f32 :=
  shapeCast S4096x192 (mulf Y (Host.divf (broadcastInDim S1x64x64x192 ![] bcast_S_S1x64x64x192 (constant S_ .f32 0x3F800000#32)) (addf (broadcastInDim S1x64x64x192 ![] bcast_S_S1x64x64x192 (constant S_ .f32 0x3F800000#32)) (Host.exp (Host.negf Y))))) shapeCasts_S1x64x64x192_S4096x192
/-- The affine maps. -/
def rLinA (p : FVec Ideal S1x64 .f32) (W : FVec Ideal S12288x64 .f32) (b : FVec Ideal S12288 .f32) : FVec Ideal S1x12288 .f32 :=
  addf (Host.dotGeneral (φ₁ := .f32) (φ₂ := .f32) dot_S1x64_S64x12288_S1x12288_1_0_0_1_n_n none p (transpose S64x12288 [1, 0] W transposes_S12288x64_S64x12288_1_0)) (broadcastInDim S1x12288 ![1] bcast_S12288_S1x12288_1 b)
def rLinD (p : FVec Ideal S1x64 .f32) (W : FVec Ideal S768x64 .f32) (b : FVec Ideal S768 .f32) : FVec Ideal S1x768 .f32 :=
  addf (Host.dotGeneral (φ₁ := .f32) (φ₂ := .f32) dot_S1x64_S64x768_S1x768_1_0_0_1_n_n none p (transpose S64x768 [1, 0] W transposes_S768x64_S64x768_1_0)) (broadcastInDim S1x768 ![1] bcast_S768_S1x768_1 b)
def rLinG (p : FVec Ideal S1x64 .f32) (W : FVec Ideal S192x64 .f32) (b : FVec Ideal S192 .f32) : FVec Ideal S1x192 .f32 :=
  addf (Host.dotGeneral (φ₁ := .f32) (φ₂ := .f32) dot_S1x64_S64x192_S1x192_1_0_0_1_n_n none p (transpose S64x192 [1, 0] W transposes_S192x64_S64x192_1_0)) (broadcastInDim S1x192 ![1] bcast_S192_S1x192_1 b)

section
variable (A : Args)

theorem rPool_apply (q : Fin 64) : rPool A.rep (ix2 (0 : Fin 1) q) = pooled A q := by
  unfold rPool pooled
  pointwise

theorem rGain_apply (d : Fin 192) : rGain (rPool A.rep) A.mw A.mb (ix2 (0 : Fin 1) d) = gain A d := by
  unfold rGain gain
  pointwise
  simp only [rPool_apply]

theorem rXi_apply (i j : Fin 64) (d : Fin 192) : rXi A.x A.w (rGain (rPool A.rep) A.mw A.mb) (ix4 (0 : Fin 1) i j d) = xi A i j d := by
  unfold rXi xi
  pointwise
  simp only [rGain_apply]

theorem zero_word : (FloatOps.sitofp (F := Ideal) .f32 (0#32) : EReal) = 0 := by
  show (((BitVec.toInt (0#32) : ℝ)) : EReal) = 0
  simp

theorem rPad_apply (i j : Fin 66) (d : Fin 192) :
    rPad (rXi A.x A.w (rGain (rPool A.rep) A.mw A.mb)) (ix4 (0 : Fin 1) i j d) = cell A i j d := by
  unfold rPad cell
  pointwise
  simp only [rXi_apply, zero_word]

theorem rConv_apply (i j : Fin 64) (d : Fin 192) :
    rConv (rPad (rXi A.x A.w (rGain (rPool A.rep) A.mw A.mb))) A.cw A.cb (ix4 (0 : Fin 1) i j d) = conv A i j d := by
  unfold rConv conv tap
  pointwise
  simp only [rPad_apply]

theorem rAct_apply : rAct (rConv (rPad (rXi A.x A.w (rGain (rPool A.rep) A.mw A.mb))) A.cw A.cb) = res0 A := by
  funext p
  idx_vars p
  unfold rAct res0
  pointwise
  simp only [rConv_apply]
  rfl

theorem rLinA_apply : Host.negf (Host.exp (rLinA (rPool A.rep) A.aw A.ab)) = res1 A := by
  funext p
  idx_vars p
  obtain rfl : p0 = 0 := Subsingleton.elim _ _
  unfold rLinA res1 lin
  pointwise
  simp only [rPool_apply]

theorem rLinD_apply : rLinD (rPool A.rep) A.dw A.db = res2 A := by
  funext p
  idx_vars p
  obtain rfl : p0 = 0 := Subsingleton.elim _ _
  unfold rLinD res2 lin
  pointwise
  simp only [rPool_apply]

theorem rLinG_apply (W : FVec Ideal S192x64 .f32) (b : FVec Ideal S192 .f32) :
    rLinG (rPool A.rep) W b = fun p => lin A W b (p 1) := by
  funext p
  idx_vars p
  obtain rfl : p0 = 0 := Subsingleton.elim _ _
  unfold rLinG lin
  pointwise
  simp only [rPool_apply]
end

variable (m : (ℓ : Loc nD τ sig) → Buf (Elt Ideal) ℓ)

/-- The arguments, as the reference finds them. -/
def args (c : Dev nD) : Args where
  x := m ((c.tc : Thread nD τ).loc main_arg0)
  rep := m ((c.tc : Thread nD τ).loc main_arg1)
  w := m ((c.tc : Thread nD τ).loc main_arg2)
  cw := m ((c.tc : Thread nD τ).loc main_arg3)
  cb := m ((c.tc : Thread nD τ).loc main_arg4)
  mw := m ((c.tc : Thread nD τ).loc main_arg5)
  mb := m ((c.tc : Thread nD τ).loc main_arg6)
  aw := m ((c.tc : Thread nD τ).loc main_arg7)
  ab := m ((c.tc : Thread nD τ).loc main_arg8)
  dw := m ((c.tc : Thread nD τ).loc main_arg9)
  db := m ((c.tc : Thread nD τ).loc main_arg10)
  gw := m ((c.tc : Thread nD τ).loc main_arg11)
  gb := m ((c.tc : Thread nD τ).loc main_arg12)
  bw := m ((c.tc : Thread nD τ).loc main_arg13)
  bb := m ((c.tc : Thread nD τ).loc main_arg14)

theorem res_eq (c : Dev nD) : (Value.res_main_v100 m c : FVec Ideal S4096x192 .f32)
    = rAct (rConv (rPad (rXi (args m c).x (args m c).w (rGain (rPool (args m c).rep) (args m c).mw (args m c).mb))) (args m c).cw (args m c).cb) := rfl

/-- The reference ends with its results and its arguments kept. -/
theorem run (ρ : Dev nD → PrngReg) : θ_run (defs (F := Ideal)) (onTc (τ := τ) (main (F := Ideal))) ⟨m, fun _ => 0, ρ⟩ (fun r => (∀ c : Dev nD,
    r.2.mem ((c.tc : Thread nD τ).loc main_v100) = res0 (args m c)
      ∧ r.2.mem ((c.tc : Thread nD τ).loc main_v87) = res1 (args m c)
      ∧ r.2.mem ((c.tc : Thread nD τ).loc main_v91) = res2 (args m c)
      ∧ r.2.mem ((c.tc : Thread nD τ).loc main_v95) = res3 (args m c)
      ∧ r.2.mem ((c.tc : Thread nD τ).loc main_v99) = res4 (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) := by
  refine (θ_run _ _ _).mono (fun r h => ⟨fun c => ?_, sem_eq_zero_of_no_sems rfl _⟩) (Cert.Reference3Ideal.Value.run m ρ)
  obtain ⟨h0, h1, h2, h3, h4, kept⟩ := h c
  exact ⟨h0.trans ((res_eq m c).trans (rAct_apply (args m c))), h1.trans (rLinA_apply (args m c)), h2.trans (rLinD_apply (args m c)),
    h3.trans (rLinG_apply (args m c) _ _), h4.trans (rLinG_apply (args m c) _ _), kept⟩

end Cert.PreRef

end
-- ==== Proof.Calls.lean ====
/-
  The calls before and after the scans: on arguments that agree, kernel and reference end with the same results.
-/
module

public import proofs.«01_k».proof.Defs
public import proofs.«01_k».proof.Proof.FinValue
public import proofs.«01_k».proof.Proof.PreKer
public import proofs.«01_k».proof.Proof.PreRef

@[expose] public section

noncomputable section

namespace Cert.Calls

open Idealize.ShloMosaic Idealize.ShloMosaic.TcCoe Idealize.SL.Sem

theorem algebraic2 : Cert.algebraic_Kernel2Ideal_Reference2Ideal (hKernel2Ideal := Cert.Kernel2Ideal.Gen.facts)
    (hReference2Ideal := Cert.Reference2Ideal.Gen.facts) := by
  intro m g m' g' _ h
  refine ⟨fun c => Cert.FinValue.result m c, ?_, ?_⟩
  · refine (θ_run _ _ _).mono (fun r hr c => ?_) (Cert.Kernel2Ideal.Value.run_blocks m g)
    exact ⟨((hr c).1).trans (Cert.FinValue.final7 m c), (hr c).2⟩
  · refine (θ_run _ _ _).mono (fun r hr c => ?_) (Cert.FinValue.ref_run m' g')
    obtain ⟨h0, h1, h2, h3, h4, h5, h6⟩ := h c
    obtain ⟨e, kept⟩ := hr.1 c
    rw [h0, h1, h2, h3, h4, h5, h6] at e
    exact ⟨e, kept⟩

theorem args_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (h9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10))
    (h11 : m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11))
    (h12 : m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12))
    (h13 : m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13))
    (h14 : m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) :
    Cert.PreRef.args m' c = Cert.PreKer.args m c := by
  unfold Cert.PreRef.args Cert.PreKer.args
  congr 1

theorem algebraic3 : Cert.algebraic_Kernel3Ideal_Reference3Ideal (hKernel3Ideal := Cert.Kernel3Ideal.Gen.facts)
    (hReference3Ideal := Cert.Reference3Ideal.Gen.facts) := by
  intro m g m' g' _ h
  refine ⟨fun c => Cert.Pre.res0 (Cert.PreKer.args m c), fun c => Cert.Pre.res1 (Cert.PreKer.args m c), fun c => Cert.Pre.res2 (Cert.PreKer.args m c),
    fun c => Cert.Pre.res3 (Cert.PreKer.args m c), fun c => Cert.Pre.res4 (Cert.PreKer.args m c), ?_, ?_⟩
  · refine (θ_run _ _ _).mono (fun r hr c => ?_) (Cert.Kernel3Ideal.Value.run_blocks m g)
    obtain ⟨r0, r1, r2, r3, r4, kept⟩ := hr c
    exact ⟨r0.trans (Cert.PreKer.final15 m c), r1.trans (Cert.PreKer.final16 m c), r2.trans (Cert.PreKer.final17 m c),
      r3.trans (Cert.PreKer.final18 m c), r4.trans (Cert.PreKer.final19 m c), kept⟩
  · refine (θ_run _ _ _).mono (fun r hr c => ?_) (Cert.PreRef.run m' g')
    obtain ⟨h0, h1, h2, h3, h4, h5, h6, h7, h8, h9, h10, h11, h12, h13, h14⟩ := h c
    have e := args_eq m m' c h0 h1 h2 h3 h4 h5 h6 h7 h8 h9 h10 h11 h12 h13 h14
    obtain ⟨r0, r1, r2, r3, r4, kept⟩ := hr.1 c
    rw [e] at r0 r1 r2 r3 r4
    exact ⟨r0, r1, r2, r3, r4, kept⟩

theorem quiescent_ref2 : Cert.quiescent_Reference2Ideal (hReference2Ideal := Cert.Reference2Ideal.Gen.facts) :=
  fun m g _ => (θ_run _ _ _).mono (fun _ h => ⟨fun c => (h.1 c).2, h.2⟩) (Cert.FinValue.ref_run m g)

theorem quiescent_ref3 : Cert.quiescent_Reference3Ideal (hReference3Ideal := Cert.Reference3Ideal.Gen.facts) :=
  fun m g _ => (θ_run _ _ _).mono (fun _ h => ⟨fun c => (h.1 c).2.2.2.2.2, h.2⟩) (Cert.PreRef.run m g)

end Cert.Calls

end
-- ==== Proof.lean ====
/-
  The claims, assembled. Each of the three calls runs and keeps its arguments, as printed and over the extended reals, and its
  results are its reference's; of the scan call the second printing is the first with its two constants named.
-/
module

public import proofs.«01_k».proof.Defs
public import proofs.«01_k».proof.Proof.Gen.Kernel.Frame
public import proofs.«01_k».proof.Proof.ScanFinal
public import proofs.«01_k».proof.Proof.RefFinal
public import proofs.«01_k».proof.Proof.Calls
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run

@[expose] public section

noncomputable section

namespace Cert.Proof

open Idealize.ShloMosaic Idealize.ShloMosaic.TcCoe Idealize.SL.Sem

/-- Arguments that agree give the same scans. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Scan.args m' c = Cert.KernelIdeal.Scan.args m c := by
  unfold Cert.ReferenceIdeal.Scan.args Cert.KernelIdeal.Scan.args
  congr 1

theorem algebraic : Cert.algebraic_KernelIdeal_ReferenceIdeal (hKernelIdeal := Cert.KernelIdeal.Gen.facts)
    (hReferenceIdeal := Cert.ReferenceIdeal.Gen.facts) := by
  intro m g m' g' _ h
  refine ⟨fun c => Cert.KernelIdeal.Scan.out0 (Cert.KernelIdeal.Scan.args m c), fun c => Cert.KernelIdeal.Scan.out1 (Cert.KernelIdeal.Scan.args m c),
    fun c => Cert.KernelIdeal.Scan.out2 (Cert.KernelIdeal.Scan.args m c), fun c => Cert.KernelIdeal.Scan.out3 (Cert.KernelIdeal.Scan.args m c), ?_, ?_⟩
  · refine (θ_run _ _ _).mono (fun r hr c => ?_) (θ_run_and (Cert.KernelIdeal.Scan.launch m g) (Cert.KernelIdeal.Scan.kept_args m g))
    exact ⟨((hr.1.1 c).1 12).trans (Cert.KernelIdeal.Scan.final0 m c), ((hr.1.1 c).1 13).trans (Cert.KernelIdeal.Scan.final1 m c),
      ((hr.1.1 c).1 14).trans (Cert.KernelIdeal.Scan.final2 m c), ((hr.1.1 c).1 15).trans (Cert.KernelIdeal.Scan.final3 m c), hr.2.1 c⟩
  · refine (θ_run _ _ _).mono (fun r hr c => ?_) (Cert.ReferenceIdeal.Scan.run m' g')
    obtain ⟨h0, h1, h2, h3, h4, h5⟩ := h c
    have e := args_eq m m' c h0 h1 h2 h3 h4 h5
    obtain ⟨⟨r0, r1, r2, r3⟩, kept⟩ := hr.1 c
    rw [e] at r0 r1 r2 r3
    exact ⟨r0, r1, r2, r3, kept⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    fun m g _ => Cert.Kernel.Gen.frame m g,
    fun m g _ => Cert.KernelIdeal.Scan.kept_args m g,
    fun m g _ => (θ_run _ _ _).mono (fun _ h => ⟨fun c => (h.1 c).2, h.2⟩) (Cert.ReferenceIdeal.Scan.run m g),
    fun m g _ => Cert.Kernel2.Gen.frame m g,
    fun m g _ => Cert.Kernel2Ideal.Gen.frame m g,
    Cert.Calls.quiescent_ref2,
    fun m g _ => Cert.Kernel3.Gen.frame m g,
    fun m g _ => Cert.Kernel3Ideal.Gen.frame m g,
    Cert.Calls.quiescent_ref3,
    ⟨IdealRules.named_const.statement Cert.KernelIdeal.κ "log2e" .f32 0x3FB8AA3B#32 _ rfl,
      IdealRules.named_const.statement Cert.KernelIdeal.κ "ln2" .f32 0x3F317218#32 _ rfl⟩,
    algebraic,
    trivial,
    Cert.Calls.algebraic2,
    trivial,
    Cert.Calls.algebraic3⟩

end Cert.Proof

end
